-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite [hPre_finite : Cert.Pre_finite.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))).1 = (fun _ => 1#1)
    ∧ (Cert.Pre_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))).2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite [hPre_finite : Cert.Pre_finite.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))).1 = (fun _ => 1#1)
    ∧ (Cert.Pre_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Kernel7Ideal_pre_finite [hKernel7Ideal : Cert.Kernel7Ideal.Facts] [hPre_finite : Cert.Pre_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Reference7Ideal_pre_finite [hReference7Ideal : Cert.Reference7Ideal.Facts] [hPre_finite : Cert.Pre_finite.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  IdealRules.bf16_pair.Statement Cert.KernelIdeal.S2048x512 Cert.KernelIdeal.S1024x512
  ∧ IdealRules.bf16_pack.Statement Cert.KernelIdeal.S1024x512

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v27_0)) (v1 : (c : Dev Cert.Kernel2Ideal.nD) → Buf (Elt Ideal) ((c.tc : Thread Cert.Kernel2Ideal.nD Cert.Kernel2Ideal.τ).loc Cert.Kernel2Ideal.main_v27_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v27_0) = v0 c
          ∧ r.2.mem ((c.tc : Thread Cert.Kernel2Ideal.nD Cert.Kernel2Ideal.τ).loc Cert.Kernel2Ideal.main_v27_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v68) = v0 c
          ∧ r.2.mem ((c.tc : Thread Cert.Reference2Ideal.nD Cert.Reference2Ideal.τ).loc Cert.Reference2Ideal.main_v70) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v17)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v23_0)) (v1 : (c : Dev Cert.Kernel4Ideal.nD) → Buf (Elt Ideal) ((c.tc : Thread Cert.Kernel4Ideal.nD Cert.Kernel4Ideal.τ).loc Cert.Kernel4Ideal.main_v23_1)) (v2 : (c : Dev Cert.Kernel4Ideal.nD) → Buf (Elt Ideal) ((c.tc : Thread Cert.Kernel4Ideal.nD Cert.Kernel4Ideal.τ).loc Cert.Kernel4Ideal.main_v23_2)) (v3 : (c : Dev Cert.Kernel4Ideal.nD) → Buf (Elt Ideal) ((c.tc : Thread Cert.Kernel4Ideal.nD Cert.Kernel4Ideal.τ).loc Cert.Kernel4Ideal.main_v23_3)) (v4 : (c : Dev Cert.Kernel4Ideal.nD) → Buf (Elt Ideal) ((c.tc : Thread Cert.Kernel4Ideal.nD Cert.Kernel4Ideal.τ).loc Cert.Kernel4Ideal.main_v23_4)) (v5 : (c : Dev Cert.Kernel4Ideal.nD) → Buf (Elt Ideal) ((c.tc : Thread Cert.Kernel4Ideal.nD Cert.Kernel4Ideal.τ).loc Cert.Kernel4Ideal.main_v23_5)) (v6 : (c : Dev Cert.Kernel4Ideal.nD) → Buf (Elt Ideal) ((c.tc : Thread Cert.Kernel4Ideal.nD Cert.Kernel4Ideal.τ).loc Cert.Kernel4Ideal.main_v23_6)) (v7 : (c : Dev Cert.Kernel4Ideal.nD) → Buf (Elt Ideal) ((c.tc : Thread Cert.Kernel4Ideal.nD Cert.Kernel4Ideal.τ).loc Cert.Kernel4Ideal.main_v23_7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v23_0) = v0 c
          ∧ r.2.mem ((c.tc : Thread Cert.Kernel4Ideal.nD Cert.Kernel4Ideal.τ).loc Cert.Kernel4Ideal.main_v23_1) = v1 c
          ∧ r.2.mem ((c.tc : Thread Cert.Kernel4Ideal.nD Cert.Kernel4Ideal.τ).loc Cert.Kernel4Ideal.main_v23_2) = v2 c
          ∧ r.2.mem ((c.tc : Thread Cert.Kernel4Ideal.nD Cert.Kernel4Ideal.τ).loc Cert.Kernel4Ideal.main_v23_3) = v3 c
          ∧ r.2.mem ((c.tc : Thread Cert.Kernel4Ideal.nD Cert.Kernel4Ideal.τ).loc Cert.Kernel4Ideal.main_v23_4) = v4 c
          ∧ r.2.mem ((c.tc : Thread Cert.Kernel4Ideal.nD Cert.Kernel4Ideal.τ).loc Cert.Kernel4Ideal.main_v23_5) = v5 c
          ∧ r.2.mem ((c.tc : Thread Cert.Kernel4Ideal.nD Cert.Kernel4Ideal.τ).loc Cert.Kernel4Ideal.main_v23_6) = v6 c
          ∧ r.2.mem ((c.tc : Thread Cert.Kernel4Ideal.nD Cert.Kernel4Ideal.τ).loc Cert.Kernel4Ideal.main_v23_7) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v33) = v0 c
          ∧ r.2.mem ((c.tc : Thread Cert.Reference4Ideal.nD Cert.Reference4Ideal.τ).loc Cert.Reference4Ideal.main_v44) = v1 c
          ∧ r.2.mem ((c.tc : Thread Cert.Reference4Ideal.nD Cert.Reference4Ideal.τ).loc Cert.Reference4Ideal.main_v52) = v2 c
          ∧ r.2.mem ((c.tc : Thread Cert.Reference4Ideal.nD Cert.Reference4Ideal.τ).loc Cert.Reference4Ideal.main_v74) = v3 c
          ∧ r.2.mem ((c.tc : Thread Cert.Reference4Ideal.nD Cert.Reference4Ideal.τ).loc Cert.Reference4Ideal.main_v84) = v4 c
          ∧ r.2.mem ((c.tc : Thread Cert.Reference4Ideal.nD Cert.Reference4Ideal.τ).loc Cert.Reference4Ideal.main_v89) = v5 c
          ∧ r.2.mem ((c.tc : Thread Cert.Reference4Ideal.nD Cert.Reference4Ideal.τ).loc Cert.Reference4Ideal.main_v97) = v6 c
          ∧ r.2.mem ((c.tc : Thread Cert.Reference4Ideal.nD Cert.Reference4Ideal.τ).loc Cert.Reference4Ideal.main_v111) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v13)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v57) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_v7) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0))

def preserves_Kernel7_Kernel7Ideal : Prop :=
  True

def algebraic_Kernel7Ideal_Reference7Ideal_pre_finite [hKernel7Ideal : Cert.Kernel7Ideal.Facts] [hReference7Ideal : Cert.Reference7Ideal.Facts] [hPre_finite : Cert.Pre_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v10) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite (hKernel7Ideal := hKernel7Ideal) (hPre_finite := hPre_finite)
    ∧ quiescent_Reference7Ideal (hReference7Ideal := hReference7Ideal)
    ∧ quiescent_Reference7Ideal_pre_finite (hReference7Ideal := hReference7Ideal) (hPre_finite := hPre_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite (hKernel7Ideal := hKernel7Ideal) (hReference7Ideal := hReference7Ideal) (hPre_finite := hPre_finite)
-- ==== Pre_finite.lean ====
abbrev S8x1024 : Shape := ⟨2, ![8, 1024]⟩
abbrev S1024x6144 : Shape := ⟨2, ![1024, 6144]⟩
abbrev S6144 : Shape := ⟨1, ![6144]⟩
abbrev S_ : Shape := ⟨0, ![]⟩

class Facts : Prop where
  bcast_S_S8x1024 : S_.BroadcastsInDim S8x1024 (![] : Fin 0 → Fin S8x1024.rank)
  bcast_S_S1024x6144 : S_.BroadcastsInDim S1024x6144 (![] : Fin 0 → Fin S1024x6144.rank)

variable [Facts]

def fn {F : FTy → Type} [FloatOps F] (main_arg0 : FVec F S8x1024 .f32) (main_arg1 : FVec F S1024x6144 .f32) (main_arg2 : FVec F S6144 .f32) : IVec S8x1024 1 × IVec S1024x6144 1 :=
  let main_v0 : FVec F S8x1024 .f32 := Host.absf main_arg0
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_v3 : FVec F S1024x6144 .f32 := Host.absf main_arg1
  let main_cst_0 : FVec F S_ .f32 := constant S_ .f32 0x7F800000#32
  let main_v4 : FVec F S1024x6144 .f32 := broadcastInDim S1024x6144 ![] bcast_S_S1024x6144 main_cst_0
  let main_v5 : IVec S1024x6144 1 := cmpf .olt main_v3 main_v4
  (main_v2, main_v5)
-- ==== Kernel.lean ====
abbrev S32 : Shape := ⟨1, ![32]⟩
abbrev S389120x512 : Shape := ⟨2, ![389120, 512]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S190 : Shape := ⟨1, ![190]⟩
abbrev S_ : Shape := ⟨0, ![]⟩
abbrev S190x1 : Shape := ⟨2, ![190, 1]⟩
abbrev S1x32 : Shape := ⟨2, ![1, 32]⟩
abbrev S190x32 : Shape := ⟨2, ![190, 32]⟩
abbrev S32x1x2048 : Shape := ⟨3, ![32, 1, 2048]⟩
abbrev S32x1x1024 : Shape := ⟨3, ![32, 1, 1024]⟩
abbrev S2048x512 : Shape := ⟨2, ![2048, 512]⟩
abbrev S1x1024x2048 : Shape := ⟨3, ![1, 1024, 2048]⟩
abbrev S1 : Shape := ⟨1, ![1]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S1024x512 : Shape := ⟨2, ![1024, 512]⟩
abbrev S1x2048 : Shape := ⟨2, ![1, 2048]⟩
abbrev S1x1024 : Shape := ⟨2, ![1, 1024]⟩

abbrev nBuf : Space → Nat
  | .hbm => 36
  | .vmem => 14
  | .smem => 2
  | _ => 0

abbrev bufTy : (tb : Table) → Fin (tcTables nBuf tb) → BufTy
  | .hbm, ⟨0, _⟩ => ⟨S32, .f32⟩
  | .hbm, ⟨1, _⟩ => ⟨S32, .f32⟩
  | .hbm, ⟨2, _⟩ => ⟨S32, .f32⟩
  | .hbm, ⟨3, _⟩ => ⟨S389120x512, .bf16⟩
  | .hbm, ⟨4, _⟩ => ⟨S32x1024x2048, .f32⟩
  | .hbm, ⟨5, _⟩ => ⟨S32x2048, .f32⟩
  | .hbm, ⟨6, _⟩ => ⟨S32x1024x1024, .f32⟩
  | .hbm, ⟨7, _⟩ => ⟨S32x1024, .f32⟩
  | .hbm, ⟨8, _⟩ => ⟨S190, .f32⟩
  | .hbm, ⟨9, _⟩ => ⟨S_, .f32⟩
  | .hbm, ⟨10, _⟩ => ⟨S190, .f32⟩
  | .hbm, ⟨11, _⟩ => ⟨S190, .f32⟩
  | .hbm, ⟨12, _⟩ => ⟨S190x1, .f32⟩
  | .hbm, ⟨13, _⟩ => ⟨S1x32, .f32⟩
  | .hbm, ⟨14, _⟩ => ⟨S190x32, .f32⟩
  | .hbm, ⟨15, _⟩ => ⟨S190x32, .f32⟩
  | .hbm, ⟨16, _⟩ => ⟨S190x32, .i1⟩
  | .hbm, ⟨17, _⟩ => ⟨S190x32, .i32⟩
  | .hbm, ⟨18, _⟩ => ⟨S_, .i32⟩
  | .hbm, ⟨19, _⟩ => ⟨S190, .i32⟩
  | .hbm, ⟨20, _⟩ => ⟨S_, .i32⟩
  | .hbm, ⟨21, _⟩ => ⟨S190, .i32⟩
  | .hbm, ⟨22, _⟩ => ⟨S32, .f32⟩
  | .hbm, ⟨23, _⟩ => ⟨S_, .i32⟩
  | .hbm, ⟨24, _⟩ => ⟨S190, .i32⟩
  | .hbm, ⟨25, _⟩ => ⟨S190, .i1⟩
  | .hbm, ⟨26, _⟩ => ⟨S_, .i32⟩
  | .hbm, ⟨27, _⟩ => ⟨S190, .i32⟩
  | .hbm, ⟨28, _⟩ => ⟨S190, .i32⟩
  | .hbm, ⟨29, _⟩ => ⟨S190, .i32⟩
  | .hbm, ⟨30, _⟩ => ⟨S190x1, .i32⟩
  | .hbm, ⟨31, _⟩ => ⟨S190, .f32⟩
  | .hbm, ⟨32, _⟩ => ⟨S190, .i1⟩
  | .hbm, ⟨33, _⟩ => ⟨S32x1x2048, .f32⟩
  | .hbm, ⟨34, _⟩ => ⟨S32x1x1024, .f32⟩
  | .hbm, ⟨35, _⟩ => ⟨S389120x512, .bf16⟩
  | .local _ .vmem, ⟨0, _⟩ => ⟨S2048x512, .bf16⟩
  | .local _ .vmem, ⟨1, _⟩ => ⟨S2048x512, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S2048x512, .bf16⟩
  | .local _ .vmem, ⟨11, _⟩ => ⟨S2048x512, .bf16⟩
  | .local _ .vmem, ⟨12, _⟩ => ⟨S1024x2048, .bf16⟩
  | .local _ .vmem, ⟨13, _⟩ => ⟨S1024x1024, .bf16⟩
  | .local _ .smem, ⟨0, _⟩ => ⟨S190, .i32⟩
  | .local _ .smem, ⟨1, _⟩ => ⟨S190, .i32⟩
  | _, _ => ⟨S32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v11 : Ref sig .tc := ⟨.smem, 0, rfl⟩
abbrev main_v21 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [BitOps F]

abbrev grid0 : Pipeline.Grid := ⟨1, ![190], ![false]⟩

abbrev pre0 : Pipeline.Prefetch sig := ⟨2, ![main_v11.idx, main_v21.idx], fun | 0 => main_v11.names | 1 => main_v21.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_off3 (i : grid0.Coords) : Fin 1 → Nat :=
  let arg0 : BitVec 32 := BitVec.ofNat 32 (i 0).val
  let v11 : Index := Scalar.indexCast arg0
  ![v11.toNat]
def k0_off4 (i : grid0.Coords) : Fin 1 → Nat :=
  let arg0 : BitVec 32 := BitVec.ofNat 32 (i 0).val
  let v16 : Index := Scalar.indexCast arg0
  ![v16.toNat]
def k0_cond2 (v12 : BitVec 32) : BitVec 1 :=
  let c0_i32_2 : BitVec 32 := 0#32
  let v13 : BitVec 1 := Scalar.cmpi .sgt v12 c0_i32_2
  let v14 : BitVec 32 := Scalar.extui v13
  let c0_i32_3 : BitVec 32 := 0#32
  let v15 : BitVec 1 := Scalar.cmpi .ne v14 c0_i32_3
  v15

def k0_cond3 (v17 : BitVec 32) : BitVec 1 :=
  let c0_i32_4 : BitVec 32 := 0#32
  let v18 : BitVec 1 := Scalar.cmpi .eq v17 c0_i32_4
  let v19 : BitVec 32 := Scalar.extui v18
  let c0_i32_5 : BitVec 32 := 0#32
  let v20 : BitVec 1 := Scalar.cmpi .ne v19 c0_i32_5
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S190.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S190) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S190.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S190) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S190.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S190) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S190.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S190) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F]
-- ==== ReferenceIdeal.lean ====
abbrev S32 : Shape := ⟨1, ![32]⟩
abbrev S389120x512 : Shape := ⟨2, ![389120, 512]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S190 : Shape := ⟨1, ![190]⟩
abbrev S_ : Shape := ⟨0, ![]⟩
abbrev S190x1 : Shape := ⟨2, ![190, 1]⟩
abbrev S1x32 : Shape := ⟨2, ![1, 32]⟩
abbrev S190x32 : Shape := ⟨2, ![190, 32]⟩
abbrev S190x1024x1024 : Shape := ⟨3, ![190, 1024, 1024]⟩
abbrev S190x1024x2048 : Shape := ⟨3, ![190, 1024, 2048]⟩
abbrev S190x2048 : Shape := ⟨2, ![190, 2048]⟩
abbrev S190x1024 : Shape := ⟨2, ![190, 1024]⟩
abbrev S190x1x2048 : Shape := ⟨3, ![190, 1, 2048]⟩
abbrev S190x1x1024 : Shape := ⟨3, ![190, 1, 1024]⟩
abbrev S190x1x1 : Shape := ⟨3, ![190, 1, 1]⟩

abbrev nBuf : Space → Nat
  | .hbm => 122
  | .vmem => 0
  | .smem => 0
  | _ => 0

abbrev bufTy : (tb : Table) → Fin (tcTables nBuf tb) → BufTy
  | .hbm, ⟨0, _⟩ => ⟨S32, .f32⟩
  | .hbm, ⟨1, _⟩ => ⟨S32, .f32⟩
  | .hbm, ⟨2, _⟩ => ⟨S32, .f32⟩
  | .hbm, ⟨3, _⟩ => ⟨S389120x512, .bf16⟩
  | .hbm, ⟨4, _⟩ => ⟨S32x1024x2048, .f32⟩
  | .hbm, ⟨5, _⟩ => ⟨S32x2048, .f32⟩
  | .hbm, ⟨6, _⟩ => ⟨S32x1024x1024, .f32⟩
  | .hbm, ⟨7, _⟩ => ⟨S32x1024, .f32⟩
  | .hbm, ⟨8, _⟩ => ⟨S190, .f32⟩
  | .hbm, ⟨9, _⟩ => ⟨S_, .f32⟩
  | .hbm, ⟨10, _⟩ => ⟨S190, .f32⟩
  | .hbm, ⟨11, _⟩ => ⟨S190, .f32⟩
  | .hbm, ⟨12, _⟩ => ⟨S190x1, .f32⟩
  | .hbm, ⟨13, _⟩ => ⟨S1x32, .f32⟩
  | .hbm, ⟨14, _⟩ => ⟨S190x32, .f32⟩
  | .hbm, ⟨15, _⟩ => ⟨S190x32, .f32⟩
  | .hbm, ⟨16, _⟩ => ⟨S190x32, .i1⟩
  | .hbm, ⟨17, _⟩ => ⟨S190x32, .i32⟩
  | .hbm, ⟨18, _⟩ => ⟨S_, .i32⟩
  | .hbm, ⟨19, _⟩ => ⟨S190, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S190, .i32⟩
  | .hbm, ⟨24, _⟩ => ⟨S190, .i32⟩
  | .hbm, ⟨25, _⟩ => ⟨S_, .i32⟩
  | .hbm, ⟨26, _⟩ => ⟨S190, .i32⟩
  | .hbm, ⟨27, _⟩ => ⟨S190, .i32⟩
  | .hbm, ⟨28, _⟩ => ⟨S389120x512, .f32⟩
  | .hbm, ⟨29, _⟩ => ⟨S190x1024x1024, .f32⟩
  | .hbm, ⟨30, _⟩ => ⟨S_, .i32⟩
  | .hbm, ⟨31, _⟩ => ⟨S190, .i32⟩
  | .hbm, ⟨32, _⟩ => ⟨S190, .i1⟩
  | .hbm, ⟨33, _⟩ => ⟨S_, .i32⟩
  | .hbm, ⟨34, _⟩ => ⟨S190, .i32⟩
  | .hbm, ⟨35, _⟩ => ⟨S190, .i32⟩
  | .hbm, ⟨36, _⟩ => ⟨S190, .i32⟩
  | .hbm, ⟨37, _⟩ => ⟨S190x1, .i32⟩
  | .hbm, ⟨38, _⟩ => ⟨S190x1024x2048, .f32⟩
  | .hbm, ⟨39, _⟩ => ⟨S_, .i32⟩
  | .hbm, ⟨40, _⟩ => ⟨S190, .i32⟩
  | .hbm, ⟨41, _⟩ => ⟨S190, .i1⟩
  | .hbm, ⟨42, _⟩ => ⟨S_, .i32⟩
  | .hbm, ⟨43, _⟩ => ⟨S190, .i32⟩
  | .hbm, ⟨44, _⟩ => ⟨S190, .i32⟩
  | .hbm, ⟨45, _⟩ => ⟨S190, .i32⟩
  | .hbm, ⟨46, _⟩ => ⟨S190x1, .i32⟩
  | .hbm, ⟨47, _⟩ => ⟨S190x2048, .f32⟩
  | .hbm, ⟨48, _⟩ => ⟨S_, .i32⟩
  | .hbm, ⟨49, _⟩ => ⟨S190, .i32⟩
  | .hbm, ⟨50, _⟩ => ⟨S190, .i1⟩
  | .hbm, ⟨51, _⟩ => ⟨S_, .i32⟩
  | .hbm, ⟨52, _⟩ => ⟨S190, .i32⟩
  | .hbm, ⟨53, _⟩ => ⟨S190, .i32⟩
  | .hbm, ⟨54, _⟩ => ⟨S190, .i32⟩
  | .hbm, ⟨55, _⟩ => ⟨S190x1, .i32⟩
  | .hbm, ⟨56, _⟩ => ⟨S190x1024x1024, .f32⟩
  | .hbm, ⟨57, _⟩ => ⟨S_, .i32⟩
  | .hbm, ⟨58, _⟩ => ⟨S190, .i32⟩
  | .hbm, ⟨59, _⟩ => ⟨S190, .i1⟩
  | .hbm, ⟨60, _⟩ => ⟨S_, .i32⟩
  | .hbm, ⟨61, _⟩ => ⟨S190, .i32⟩
  | .hbm, ⟨62, _⟩ => ⟨S190, .i32⟩
  | .hbm, ⟨63, _⟩ => ⟨S190, .i32⟩
  | .hbm, ⟨64, _⟩ => ⟨S190x1, .i32⟩
  | .hbm, ⟨65, _⟩ => ⟨S190x1024, .f32⟩
  | .hbm, ⟨66, _⟩ => ⟨S190x1024x2048, .f32⟩
  | .hbm, ⟨67, _⟩ => ⟨S190x1x2048, .f32⟩
  | .hbm, ⟨68, _⟩ => ⟨S190x1024x2048, .f32⟩
  | .hbm, ⟨69, _⟩ => ⟨S190x1024x2048, .f32⟩
  | .hbm, ⟨70, _⟩ => ⟨S190x1024x1024, .f32⟩
  | .hbm, ⟨71, _⟩ => ⟨S190x1024x1024, .f32⟩
  | .hbm, ⟨72, _⟩ => ⟨S_, .f32⟩
  | .hbm, ⟨73, _⟩ => ⟨S190x1024x1024, .f32⟩
  | .hbm, ⟨74, _⟩ => ⟨S190x1024x1024, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S190x1024x1024, .f32⟩
  | .hbm, ⟨79, _⟩ => ⟨S190x1024x1024, .f32⟩
  | .hbm, ⟨80, _⟩ => ⟨S_, .f32⟩
  | .hbm, ⟨81, _⟩ => ⟨S190x1024x1024, .f32⟩
  | .hbm, ⟨82, _⟩ => ⟨S190x1024x1024, .f32⟩
  | .hbm, ⟨83, _⟩ => ⟨S_, .f32⟩
  | .hbm, ⟨84, _⟩ => ⟨S190x1024x1024, .f32⟩
  | .hbm, ⟨85, _⟩ => ⟨S190x1024x1024, .f32⟩
  | .hbm, ⟨86, _⟩ => ⟨S190x1024x1024, .f32⟩
  | .hbm, ⟨87, _⟩ => ⟨S_, .f32⟩
  | .hbm, ⟨88, _⟩ => ⟨S190x1024x1024, .f32⟩
  | .hbm, ⟨89, _⟩ => ⟨S190x1024x1024, .f32⟩
  | .hbm, ⟨90, _⟩ => ⟨S190x1024x1024, .f32⟩
  | .hbm, ⟨91, _⟩ => ⟨S190x1024x1024, .f32⟩
  | .hbm, ⟨92, _⟩ => ⟨S_, .f32⟩
  | .hbm, ⟨93, _⟩ => ⟨S190x1024x1024, .f32⟩
  | .hbm, ⟨94, _⟩ => ⟨S190x1024x1024, .f32⟩
  | .hbm, ⟨95, _⟩ => ⟨S_, .f32⟩
  | .hbm, ⟨96, _⟩ => ⟨S190x1024x1024, .f32⟩
  | .hbm, ⟨97, _⟩ => ⟨S190x1024x1024, .f32⟩
  | .hbm, ⟨98, _⟩ => ⟨S190x1024x1024, .f32⟩
  | .hbm, ⟨99, _⟩ => ⟨S190x1024x1024, .f32⟩
  | .hbm, ⟨100, _⟩ => ⟨S190x1x1024, .f32⟩
  | .hbm, ⟨101, _⟩ => ⟨S190x1024x1024, .f32⟩
  | .hbm, ⟨102, _⟩ => ⟨S190x1024x1024, .f32⟩
  | .hbm, ⟨103, _⟩ => ⟨S32, .f32⟩
  | .hbm, ⟨104, _⟩ => ⟨S_, .i32⟩
  | .hbm, ⟨105, _⟩ => ⟨S190, .i32⟩
  | .hbm, ⟨106, _⟩ => ⟨S190, .i1⟩
  | .hbm, ⟨107, _⟩ => ⟨S_, .i32⟩
  | .hbm, ⟨108, _⟩ => ⟨S190, .i32⟩
  | .hbm, ⟨109, _⟩ => ⟨S190, .i32⟩
  | .hbm, ⟨110, _⟩ => ⟨S190, .i32⟩
  | .hbm, ⟨111, _⟩ => ⟨S190x1, .i32⟩
  | .hbm, ⟨112, _⟩ => ⟨S190, .f32⟩
  | .hbm, ⟨113, _⟩ => ⟨S190, .i1⟩
  | .hbm, ⟨114, _⟩ => ⟨S190x1x1, .i1⟩
  | .hbm, ⟨115, _⟩ => ⟨S_, .f32⟩
  | .hbm, ⟨116, _⟩ => ⟨S_, .f32⟩
  | .hbm, ⟨117, _⟩ => ⟨S190x1024x1024, .i1⟩
  | .hbm, ⟨118, _⟩ => ⟨S190x1024x1024, .f32⟩
  | .hbm, ⟨119, _⟩ => ⟨S190x1024x1024, .f32⟩
  | .hbm, ⟨120, _⟩ => ⟨S389120x512, .f32⟩
  | .hbm, ⟨121, _⟩ => ⟨S389120x512, .bf16⟩
  | _, _ => ⟨S32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_c_0 : Ref sig .tc := ⟨.hbm, 20, rfl⟩
abbrev main_c_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_c_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_8 : Ref sig .tc := ⟨.hbm, 57, rfl⟩
abbrev main_v34 : Ref sig .tc := ⟨.hbm, 58, rfl⟩
abbrev main_v35 : Ref sig .tc := ⟨.hbm, 59, rfl⟩
abbrev main_c_9 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_10 : Ref sig .tc := ⟨.hbm, 72, rfl⟩
abbrev main_v47 : Ref sig .tc := ⟨.hbm, 73, rfl⟩
abbrev main_v48 : Ref sig .tc := ⟨.hbm, 74, rfl⟩
abbrev main_cst_11 : Ref sig .tc := ⟨.hbm, 75, rfl⟩
abbrev main_cst_12 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_v49 : Ref sig .tc := ⟨.hbm, 82, rfl⟩
abbrev main_cst_13 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_14 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_15 : Ref sig .tc := ⟨.hbm, 92, rfl⟩
abbrev main_v57 : Ref sig .tc := ⟨.hbm, 93, rfl⟩
abbrev main_v58 : Ref sig .tc := ⟨.hbm, 94, rfl⟩
abbrev main_cst_16 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_c_17 : Ref sig .tc := ⟨.hbm, 104, rfl⟩
abbrev main_v67 : Ref sig .tc := ⟨.hbm, 105, rfl⟩
abbrev main_v68 : Ref sig .tc := ⟨.hbm, 106, rfl⟩
abbrev main_c_18 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_cst_19 : Ref sig .tc := ⟨.hbm, 115, rfl⟩
abbrev main_call2_v0 : Ref sig .tc := ⟨.hbm, 116, rfl⟩
abbrev main_call2_v1 : Ref sig .tc := ⟨.hbm, 117, rfl⟩
abbrev main_call2_v2 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩

abbrev nD : Nat := 1
abbrev τ : Topo := Topo.v7x

variable {F : FTy → Type} [FloatOps F]
-- ==== Kernel2.lean ====
abbrev S512x32768 : Shape := ⟨2, ![512, 32768]⟩
abbrev S32768x512 : Shape := ⟨2, ![32768, 512]⟩
abbrev S32768x2048 : Shape := ⟨2, ![32768, 2048]⟩
abbrev S4x8192x1024 : Shape := ⟨3, ![4, 8192, 1024]⟩
abbrev S4x6144 : Shape := ⟨2, ![4, 6144]⟩
abbrev S512x2048 : Shape := ⟨2, ![512, 2048]⟩
abbrev S2048 : Shape := ⟨1, ![2048]⟩
abbrev S512x1024 : Shape := ⟨2, ![512, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S4x1024 : Shape := ⟨2, ![4, 1024]⟩
abbrev S4x1x1024 : Shape := ⟨3, ![4, 1, 1024]⟩
abbrev S32768x1024 : Shape := ⟨2, ![32768, 1024]⟩
abbrev S_ : Shape := ⟨0, ![]⟩
abbrev S1024x128 : Shape := ⟨2, ![1024, 128]⟩
abbrev S1 : Shape := ⟨1, ![1]⟩
abbrev S1x128 : Shape := ⟨2, ![1, 128]⟩
abbrev S2 : Shape := ⟨1, ![2]⟩
abbrev S1x2048 : Shape := ⟨2, ![1, 2048]⟩
abbrev S1x1024 : Shape := ⟨2, ![1, 1024]⟩
abbrev S32768x128 : Shape := ⟨2, ![32768, 128]⟩
abbrev S512x512 : Shape := ⟨2, ![512, 512]⟩
abbrev S1x1x1024 : Shape := ⟨3, ![1, 1, 1024]⟩
abbrev S512x128 : Shape := ⟨2, ![512, 128]⟩
abbrev S512 : Shape := ⟨1, ![512]⟩
abbrev S512x1 : Shape := ⟨2, ![512, 1]⟩

abbrev nBuf : Space → Nat
  | .hbm => 48
  | .vmem => 28
  | .smem => 0
  | _ => 0

abbrev bufTy : (tb : Table) → Fin (tcTables nBuf tb) → BufTy
  | .hbm, ⟨0, _⟩ => ⟨S512x32768, .bf16⟩
  | .hbm, ⟨1, _⟩ => ⟨S32768x512, .bf16⟩
  | .hbm, ⟨2, _⟩ => ⟨S32768x2048, .f32⟩
  | .hbm, ⟨3, _⟩ => ⟨S4x8192x1024, .f32⟩
  | .hbm, ⟨4, _⟩ => ⟨S4x6144, .f32⟩
  | .hbm, ⟨5, _⟩ => ⟨S512x2048, .f32⟩
  | .hbm, ⟨6, _⟩ => ⟨S2048, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x32, .f32⟩
  | .hbm, ⟨12, _⟩ => ⟨S32, .f32⟩
  | .hbm, ⟨13, _⟩ => ⟨S4x1024, .f32⟩
  | .hbm, ⟨14, _⟩ => ⟨S4x1024, .f32⟩
  | .hbm, ⟨15, _⟩ => ⟨S4x1024, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S4x1x1024, .f32⟩
  | .hbm, ⟨20, _⟩ => ⟨S4x1x1024, .f32⟩
  | .hbm, ⟨21, _⟩ => ⟨S4x1x1024, .f32⟩
  | .hbm, ⟨22, _⟩ => ⟨S4x1x1024, .f32⟩
  | .hbm, ⟨23, _⟩ => ⟨S4x1x1024, .f32⟩
  | .hbm, ⟨24, _⟩ => ⟨S4x1x1024, .f32⟩
  | .hbm, ⟨25, _⟩ => ⟨S32768x1024, .f32⟩
  | .hbm, ⟨26, _⟩ => ⟨S_, .f32⟩
  | .hbm, ⟨27, _⟩ => ⟨S1024x128, .f32⟩
  | .hbm, ⟨28, _⟩ => ⟨S_, .i32⟩
  | .hbm, ⟨29, _⟩ => ⟨S1, .i32⟩
  | .hbm, ⟨30, _⟩ => ⟨S1024x128, .f32⟩
  | .hbm, ⟨31, _⟩ => ⟨S_, .f32⟩
  | .hbm, ⟨32, _⟩ => ⟨S1x128, .f32⟩
  | .hbm, ⟨33, _⟩ => ⟨S_, .i32⟩
  | .hbm, ⟨34, _⟩ => ⟨S1, .i32⟩
  | .hbm, ⟨35, _⟩ => ⟨S_, .i32⟩
  | .hbm, ⟨36, _⟩ => ⟨S1, .i32⟩
  | .hbm, ⟨37, _⟩ => ⟨S2, .i32⟩
  | .hbm, ⟨38, _⟩ => ⟨S1x128, .f32⟩
  | .hbm, ⟨39, _⟩ => ⟨S512x2048, .bf16⟩
  | .hbm, ⟨40, _⟩ => ⟨S1x2048, .f32⟩
  | .hbm, ⟨41, _⟩ => ⟨S512x1024, .bf16⟩
  | .hbm, ⟨42, _⟩ => ⟨S1024x1024, .bf16⟩
  | .hbm, ⟨43, _⟩ => ⟨S1x1024, .f32⟩
  | .hbm, ⟨44, _⟩ => ⟨S1x1024, .f32⟩
  | .hbm, ⟨45, _⟩ => ⟨S32768x1024, .f32⟩
  | .hbm, ⟨46, _⟩ => ⟨S32768x1024, .bf16⟩
  | .hbm, ⟨47, _⟩ => ⟨S32768x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x2048, .f32⟩
  | .local _ .vmem, ⟨5, _⟩ => ⟨S512x2048, .f32⟩
  | .local _ .vmem, ⟨6, _⟩ => ⟨S512x1024, .f32⟩
  | .local _ .vmem, ⟨7, _⟩ => ⟨S512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S512x2048, .bf16⟩
  | .local _ .vmem, ⟨15, _⟩ => ⟨S1x2048, .f32⟩
  | .local _ .vmem, ⟨16, _⟩ => ⟨S512x1024, .bf16⟩
  | .local _ .vmem, ⟨17, _⟩ => ⟨S1024x1024, .bf16⟩
  | .local _ .vmem, ⟨18, _⟩ => ⟨S1x1024, .f32⟩
  | .local _ .vmem, ⟨19, _⟩ => ⟨S1x1024, .f32⟩
  | .local _ .vmem, ⟨20, _⟩ => ⟨S1024x128, .f32⟩
  | .local _ .vmem, ⟨21, _⟩ => ⟨S1x128, .f32⟩
  | .local _ .vmem, ⟨22, _⟩ => ⟨S512x1024, .f32⟩
  | .local _ .vmem, ⟨23, _⟩ => ⟨S512x1024, .f32⟩
  | .local _ .vmem, ⟨24, _⟩ => ⟨S512x1024, .bf16⟩
  | .local _ .vmem, ⟨25, _⟩ => ⟨S512x1024, .bf16⟩
  | .local _ .vmem, ⟨26, _⟩ => ⟨S512x128, .f32⟩
  | .local _ .vmem, ⟨27, _⟩ => ⟨S512x128, .f32⟩
  | _, _ => ⟨S512x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_cst_0 : Ref sig .tc := ⟨.hbm, 31, rfl⟩
abbrev main_v16 : Ref sig .tc := ⟨.hbm, 32, rfl⟩
abbrev main_c_1 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27_0 : Ref sig .tc := ⟨.hbm, 45, rfl⟩
abbrev main_v27_1 : Ref sig .tc := ⟨.hbm, 46, rfl⟩
abbrev main_v27_2 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference2Ideal.lean ====
abbrev S512x32768 : Shape := ⟨2, ![512, 32768]⟩
abbrev S32768x512 : Shape := ⟨2, ![32768, 512]⟩
abbrev S32768x2048 : Shape := ⟨2, ![32768, 2048]⟩
abbrev S4x8192x1024 : Shape := ⟨3, ![4, 8192, 1024]⟩
abbrev S4x6144 : Shape := ⟨2, ![4, 6144]⟩
abbrev S512x2048 : Shape := ⟨2, ![512, 2048]⟩
abbrev S2048 : Shape := ⟨1, ![2048]⟩
abbrev S512x1024 : Shape := ⟨2, ![512, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S4x1x6144 : Shape := ⟨3, ![4, 1, 6144]⟩
abbrev S4x1x1024 : Shape := ⟨3, ![4, 1, 1024]⟩
abbrev S4x8192x512 : Shape := ⟨3, ![4, 8192, 512]⟩
abbrev S4x8192x2048 : Shape := ⟨3, ![4, 8192, 2048]⟩
abbrev S1x1x2048 : Shape := ⟨3, ![1, 1, 2048]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S32768x1024 : Shape := ⟨2, ![32768, 1024]⟩

abbrev nBuf : Space → Nat
  | .hbm => 93
  | .vmem => 0
  | .smem => 0
  | _ => 0

abbrev bufTy : (tb : Table) → Fin (tcTables nBuf tb) → BufTy
  | .hbm, ⟨0, _⟩ => ⟨S512x32768, .bf16⟩
  | .hbm, ⟨1, _⟩ => ⟨S32768x512, .bf16⟩
  | .hbm, ⟨2, _⟩ => ⟨S32768x2048, .f32⟩
  | .hbm, ⟨3, _⟩ => ⟨S4x8192x1024, .f32⟩
  | .hbm, ⟨4, _⟩ => ⟨S4x6144, .f32⟩
  | .hbm, ⟨5, _⟩ => ⟨S512x2048, .f32⟩
  | .hbm, ⟨6, _⟩ => ⟨S2048, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x32, .f32⟩
  | .hbm, ⟨12, _⟩ => ⟨S32, .f32⟩
  | .hbm, ⟨13, _⟩ => ⟨S4x1x6144, .f32⟩
  | .hbm, ⟨14, _⟩ => ⟨S4x1x1024, .f32⟩
  | .hbm, ⟨15, _⟩ => ⟨S4x1x1024, .f32⟩
  | .hbm, ⟨16, _⟩ => ⟨S4x1x1024, .f32⟩
  | .hbm, ⟨17, _⟩ => ⟨S4x1x1024, .f32⟩
  | .hbm, ⟨18, _⟩ => ⟨S4x1x1024, .f32⟩
  | .hbm, ⟨19, _⟩ => ⟨S4x1x1024, .f32⟩
  | .hbm, ⟨20, _⟩ => ⟨S512x32768, .f32⟩
  | .hbm, ⟨21, _⟩ => ⟨S32768x512, .f32⟩
  | .hbm, ⟨22, _⟩ => ⟨S4x8192x512, .f32⟩
  | .hbm, ⟨23, _⟩ => ⟨S4x8192x2048, .f32⟩
  | .hbm, ⟨24, _⟩ => ⟨S1x1x2048, .f32⟩
  | .hbm, ⟨25, _⟩ => ⟨S4x8192x2048, .f32⟩
  | .hbm, ⟨26, _⟩ => ⟨S4x8192x2048, .f32⟩
  | .hbm, ⟨27, _⟩ => ⟨S4x8192x1024, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | .hbm, ⟨31, _⟩ => ⟨S_, .f32⟩
  | .hbm, ⟨32, _⟩ => ⟨S4x8192x1024, .f32⟩
  | .hbm, ⟨33, _⟩ => ⟨S4x8192x1024, .f32⟩
  | .hbm, ⟨34, _⟩ => ⟨S_, .f32⟩
  | .hbm, ⟨35, _⟩ => ⟨S4x8192x1024, .f32⟩
  | .hbm, ⟨36, _⟩ => ⟨S4x8192x1024, .f32⟩
  | .hbm, ⟨37, _⟩ => ⟨S4x8192x1024, .f32⟩
  | .hbm, ⟨38, _⟩ => ⟨S32768x512, .f32⟩
  | .hbm, ⟨39, _⟩ => ⟨S4x8192x512, .f32⟩
  | .hbm, ⟨40, _⟩ => ⟨S4x8192x1024, .f32⟩
  | .hbm, ⟨41, _⟩ => ⟨S4x8192x2048, .f32⟩
  | .hbm, ⟨42, _⟩ => ⟨S4x8192x1024, .f32⟩
  | .hbm, ⟨43, _⟩ => ⟨S4x8192x1024, .f32⟩
  | .hbm, ⟨44, _⟩ => ⟨S4x8192x1024, .f32⟩
  | .hbm, ⟨45, _⟩ => ⟨S4x8192x1024, .f32⟩
  | .hbm, ⟨46, _⟩ => ⟨S4x8192x1024, .f32⟩
  | .hbm, ⟨47, _⟩ => ⟨S4x8192x1024, .f32⟩
  | .hbm, ⟨48, _⟩ => ⟨S_, .f32⟩
  | .hbm, ⟨49, _⟩ => ⟨S4x8192x1024, .f32⟩
  | .hbm, ⟨50, _⟩ => ⟨S4x8192x1024, .f32⟩
  | .hbm, ⟨51, _⟩ => ⟨S4x8192x1024, .f32⟩
  | .hbm, ⟨52, _⟩ => ⟨S4x8192x1024, .f32⟩
  | .hbm, ⟨53, _⟩ => ⟨S4x8192x1024, .f32⟩
  | .hbm, ⟨54, _⟩ => ⟨S_, .f32⟩
  | .hbm, ⟨55, _⟩ => ⟨S4x8192, .f32⟩
  | .hbm, ⟨56, _⟩ => ⟨S4x8192x1, .f32⟩
  | .hbm, ⟨57, _⟩ => ⟨S_, .f32⟩
  | .hbm, ⟨58, _⟩ => ⟨S4x8192x1, .f32⟩
  | .hbm, ⟨59, _⟩ => ⟨S4x8192x1, .f32⟩
  | .hbm, ⟨60, _⟩ => ⟨S4x8192x1024, .f32⟩
  | .hbm, ⟨61, _⟩ => ⟨S4x8192x1024, .f32⟩
  | .hbm, ⟨62, _⟩ => ⟨S4x8192x1024, .f32⟩
  | .hbm, ⟨63, _⟩ => ⟨S_, .f32⟩
  | .hbm, ⟨64, _⟩ => ⟨S4x8192, .f32⟩
  | .hbm, ⟨65, _⟩ => ⟨S4x8192x1, .f32⟩
  | .hbm, ⟨66, _⟩ => ⟨S_, .f32⟩
  | .hbm, ⟨67, _⟩ => ⟨S4x8192x1, .f32⟩
  | .hbm, ⟨68, _⟩ => ⟨S4x8192x1, .f32⟩
  | .hbm, ⟨69, _⟩ => ⟨S4x8192x1024, .f32⟩
  | .hbm, ⟨70, _⟩ => ⟨S4x8192x1024, .f32⟩
  | .hbm, ⟨71, _⟩ => ⟨S_, .f32⟩
  | .hbm, ⟨72, _⟩ => ⟨S4x8192x1, .f32⟩
  | .hbm, ⟨73, _⟩ => ⟨S4x8192x1, .f32⟩
  | .hbm, ⟨74, _⟩ => ⟨S4x8192x1, .f32⟩
  | .hbm, ⟨75, _⟩ => ⟨S4x8192x1024, .f32⟩
  | .hbm, ⟨76, _⟩ => ⟨S4x8192x1024, .f32⟩
  | .hbm, ⟨77, _⟩ => ⟨S1x1x1024, .f32⟩
  | .hbm, ⟨78, _⟩ => ⟨S4x8192x1024, .f32⟩
  | .hbm, ⟨79, _⟩ => ⟨S4x8192x1024, .f32⟩
  | .hbm, ⟨80, _⟩ => ⟨S1x1x1024, .f32⟩
  | .hbm, ⟨81, _⟩ => ⟨S4x8192x1024, .f32⟩
  | .hbm, ⟨82, _⟩ => ⟨S4x8192x1024, .f32⟩
  | .hbm, ⟨83, _⟩ => ⟨S_, .f32⟩
  | .hbm, ⟨84, _⟩ => ⟨S4x1x1024, .f32⟩
  | .hbm, ⟨85, _⟩ => ⟨S4x1x1024, .f32⟩
  | .hbm, ⟨86, _⟩ => ⟨S4x8192x1024, .f32⟩
  | .hbm, ⟨87, _⟩ => ⟨S4x8192x1024, .f32⟩
  | .hbm, ⟨88, _⟩ => ⟨S4x8192x1024, .f32⟩
  | .hbm, ⟨89, _⟩ => ⟨S4x8192x1024, .f32⟩
  | .hbm, ⟨90, _⟩ => ⟨S32768x1024, .f32⟩
  | .hbm, ⟨91, _⟩ => ⟨S32768x1024, .f32⟩
  | .hbm, ⟨92, _⟩ => ⟨S32768x1024, .bf16⟩
  | _, _ => ⟨S512x32768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_cst_0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_1 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_2 : Ref sig .tc := ⟨.hbm, 54, rfl⟩
abbrev main_v38 : Ref sig .tc := ⟨.hbm, 55, rfl⟩
abbrev main_v39 : Ref sig .tc := ⟨.hbm, 56, rfl⟩
abbrev main_cst_3 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_4 : Ref sig .tc := ⟨.hbm, 63, rfl⟩
abbrev main_v45 : Ref sig .tc := ⟨.hbm, 64, rfl⟩
abbrev main_v46 : Ref sig .tc := ⟨.hbm, 65, rfl⟩
abbrev main_cst_5 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_6 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_7 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x6144 : Shape := ⟨2, ![4, 6144]⟩
abbrev S1024x3864 : Shape := ⟨2, ![1024, 3864]⟩
abbrev S4x1024 : Shape := ⟨2, ![4, 1024]⟩
abbrev S4x1x1024 : Shape := ⟨3, ![4, 1, 1024]⟩
abbrev S1024x512 : Shape := ⟨2, ![1024, 512]⟩
abbrev S512x1024 : Shape := ⟨2, ![512, 1024]⟩
abbrev S4x256x32x1024 : Shape := ⟨4, ![4, 256, 32, 1024]⟩
abbrev S4x32x256x1024 : Shape := ⟨4, ![4, 32, 256, 1024]⟩
abbrev S32x32x16x1024 : Shape := ⟨4, ![32, 32, 16, 1024]⟩
abbrev S1x1x256x1024 : Shape := ⟨4, ![1, 1, 256, 1024]⟩
abbrev S1x1x1024 : Shape := ⟨3, ![1, 1, 1024]⟩
abbrev S32x1x16x256 : Shape := ⟨4, ![32, 1, 16, 256]⟩
abbrev S256x1024 : Shape := ⟨2, ![256, 1024]⟩
abbrev S1x1024 : Shape := ⟨2, ![1, 1024]⟩
abbrev S512x256 : Shape := ⟨2, ![512, 256]⟩
abbrev S32x16x256 : Shape := ⟨3, ![32, 16, 256]⟩

abbrev nBuf : Space → Nat
  | .hbm => 21
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S4x6144, .f32⟩
  | .hbm, ⟨2, _⟩ => ⟨S1024x3864, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .hbm, ⟨7, _⟩ => ⟨S4x1024, .f32⟩
  | .hbm, ⟨8, _⟩ => ⟨S4x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S1024x512, .f32⟩
  | .hbm, ⟨16, _⟩ => ⟨S512x1024, .f32⟩
  | .hbm, ⟨17, _⟩ => ⟨S512x1024, .bf16⟩
  | .hbm, ⟨18, _⟩ => ⟨S4x256x32x1024, .f32⟩
  | .hbm, ⟨19, _⟩ => ⟨S4x32x256x1024, .f32⟩
  | .hbm, ⟨20, _⟩ => ⟨S32x32x16x1024, .f32⟩
  | .local _ .vmem, ⟨0, _⟩ => ⟨S1x1x256x1024, .f32⟩
  | .local _ .vmem, ⟨1, _⟩ => ⟨S1x1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S512x1024, .bf16⟩
  | .local _ .vmem, ⟨7, _⟩ => ⟨S32x1x16x256, .f32⟩
  | .local _ .vmem, ⟨8, _⟩ => ⟨S32x1x16x256, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat, arg0.toNat]

abbrev stage0_0 : Fin 2 → Memref sig .tc .vmem S1x1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S32x1x16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S4x8192x1024 : Shape := ⟨3, ![4, 8192, 1024]⟩
abbrev S4x6144 : Shape := ⟨2, ![4, 6144]⟩
abbrev S1024x3864 : Shape := ⟨2, ![1024, 3864]⟩
abbrev S4x1x6144 : Shape := ⟨3, ![4, 1, 6144]⟩
abbrev S4x1x1024 : Shape := ⟨3, ![4, 1, 1024]⟩
abbrev S_ : Shape := ⟨0, ![]⟩
abbrev S1024x512 : Shape := ⟨2, ![1024, 512]⟩
abbrev S4x8192x512 : Shape := ⟨3, ![4, 8192, 512]⟩
abbrev S4x256x32x32x16 : Shape := ⟨5, ![4, 256, 32, 32, 16]⟩
abbrev S32x32x16x4x256 : Shape := ⟨5, ![32, 32, 16, 4, 256]⟩
abbrev S32x32x16x1024 : Shape := ⟨4, ![32, 32, 16, 1024]⟩

abbrev nBuf : Space → Nat
  | .hbm => 22
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x6144, .f32⟩
  | .hbm, ⟨2, _⟩ => ⟨S1024x3864, .f32⟩
  | .hbm, ⟨3, _⟩ => ⟨S4x1x6144, .f32⟩
  | .hbm, ⟨4, _⟩ => ⟨S4x1x1024, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S_, .f32⟩
  | .hbm, ⟨11, _⟩ => ⟨S4x1x1024, .f32⟩
  | .hbm, ⟨12, _⟩ => ⟨S4x1x1024, .f32⟩
  | .hbm, ⟨13, _⟩ => ⟨S4x8192x1024, .f32⟩
  | .hbm, ⟨14, _⟩ => ⟨S4x8192x1024, .f32⟩
  | .hbm, ⟨15, _⟩ => ⟨S4x8192x1024, .f32⟩
  | .hbm, ⟨16, _⟩ => ⟨S4x8192x1024, .f32⟩
  | .hbm, ⟨17, _⟩ => ⟨S1024x512, .f32⟩
  | .hbm, ⟨18, _⟩ => ⟨S4x8192x512, .f32⟩
  | .hbm, ⟨19, _⟩ => ⟨S4x256x32x32x16, .f32⟩
  | .hbm, ⟨20, _⟩ => ⟨S32x32x16x4x256, .f32⟩
  | .hbm, ⟨21, _⟩ => ⟨S32x32x16x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== Kernel4.lean ====
abbrev S4x8192x1024 : Shape := ⟨3, ![4, 8192, 1024]⟩
abbrev S4x6144 : Shape := ⟨2, ![4, 6144]⟩
abbrev S1024x3864 : Shape := ⟨2, ![1024, 3864]⟩
abbrev S2x64x512 : Shape := ⟨3, ![2, 64, 512]⟩
abbrev S3456 : Shape := ⟨1, ![3456]⟩
abbrev S4x1024 : Shape := ⟨2, ![4, 1024]⟩
abbrev S4x1x1024 : Shape := ⟨3, ![4, 1, 1024]⟩
abbrev S32768x1024 : Shape := ⟨2, ![32768, 1024]⟩
abbrev S_ : Shape := ⟨0, ![]⟩
abbrev S1024x1 : Shape := ⟨2, ![1024, 1]⟩
abbrev S1024x3865 : Shape := ⟨2, ![1024, 3865]⟩
abbrev S3456x1 : Shape := ⟨2, ![3456, 1]⟩
abbrev S1024x3456 : Shape := ⟨2, ![1024, 3456]⟩
abbrev S4x2x9216x256 : Shape := ⟨4, ![4, 2, 9216, 256]⟩
abbrev S4x2x72x80x128 : Shape := ⟨5, ![4, 2, 72, 80, 128]⟩
abbrev S4x2x64x128x512 : Shape := ⟨5, ![4, 2, 64, 128, 512]⟩
abbrev S4x2x64x16x128 : Shape := ⟨5, ![4, 2, 64, 16, 128]⟩
abbrev S2x4x2x8192x64 : Shape := ⟨5, ![2, 4, 2, 8192, 64]⟩
abbrev S4x2x8192x128 : Shape := ⟨4, ![4, 2, 8192, 128]⟩
abbrev S4x2x64x80x128 : Shape := ⟨5, ![4, 2, 64, 80, 128]⟩
abbrev S32768x2048 : Shape := ⟨2, ![32768, 2048]⟩
abbrev S512x1024 : Shape := ⟨2, ![512, 1024]⟩
abbrev S1x1x1024 : Shape := ⟨3, ![1, 1, 1024]⟩
abbrev S1x2x4x128x512 : Shape := ⟨5, ![1, 2, 4, 128, 512]⟩
abbrev S1x2x4x16x128 : Shape := ⟨5, ![1, 2, 4, 16, 128]⟩
abbrev S2x1x2x512x64 : Shape := ⟨5, ![2, 1, 2, 512, 64]⟩
abbrev S1x2x512x256 : Shape := ⟨4, ![1, 2, 512, 256]⟩
abbrev S1x2x4x80x128 : Shape := ⟨5, ![1, 2, 4, 80, 128]⟩
abbrev S1x2x512x128 : Shape := ⟨4, ![1, 2, 512, 128]⟩
abbrev S512x2048 : Shape := ⟨2, ![512, 2048]⟩
abbrev S1x1024 : Shape := ⟨2, ![1, 1024]⟩
abbrev S1024x512 : Shape := ⟨2, ![1024, 512]⟩
abbrev S512x512 : Shape := ⟨2, ![512, 512]⟩
abbrev S1024x128 : Shape := ⟨2, ![1024, 128]⟩
abbrev S512x128 : Shape := ⟨2, ![512, 128]⟩
abbrev S128x512 : Shape := ⟨2, ![128, 512]⟩
abbrev S16x128 : Shape := ⟨2, ![16, 128]⟩
abbrev S64x128 : Shape := ⟨2, ![64, 128]⟩
abbrev S1x1x1x64x128 : Shape := ⟨5, ![1, 1, 1, 64, 128]⟩
abbrev S1x64x512 : Shape := ⟨3, ![1, 64, 512]⟩
abbrev S64x512 : Shape := ⟨2, ![64, 512]⟩
abbrev S1x1x1x64x512 : Shape := ⟨5, ![1, 1, 1, 64, 512]⟩
abbrev S1x1x1x16x128 : Shape := ⟨5, ![1, 1, 1, 16, 128]⟩
abbrev S512x64 : Shape := ⟨2, ![512, 64]⟩
abbrev S1x1x1x512x64 : Shape := ⟨5, ![1, 1, 1, 512, 64]⟩
abbrev S1x1x512x128 : Shape := ⟨4, ![1, 1, 512, 128]⟩
abbrev S1024x1024 : Shape := ⟨2, ![1024, 1024]⟩

abbrev nBuf : Space → Nat
  | .hbm => 41
  | .vmem => 24
  | .smem => 0
  | _ => 0

abbrev bufTy : (tb : Table) → Fin (tcTables nBuf tb) → BufTy
  | .hbm, ⟨0, _⟩ => ⟨S4x8192x1024, .f32⟩
  | .hbm, ⟨1, _⟩ => ⟨S4x6144, .f32⟩
  | .hbm, ⟨2, _⟩ => ⟨S1024x3864, .f32⟩
  | .hbm, ⟨3, _⟩ => ⟨S2x64x512, .bf16⟩
  | .hbm, ⟨4, _⟩ => ⟨S3456, .i32⟩
  | .hbm, ⟨5, _⟩ => ⟨S3456, .i1⟩
  | .hbm, ⟨6, _⟩ => ⟨S4x1024, .f32⟩
  | .hbm, ⟨7, _⟩ => ⟨S4x1024, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S4x1x1024, .f32⟩
  | .hbm, ⟨17, _⟩ => ⟨S4x1x1024, .f32⟩
  | .hbm, ⟨18, _⟩ => ⟨S32768x1024, .f32⟩
  | .hbm, ⟨19, _⟩ => ⟨S_, .f32⟩
  | .hbm, ⟨20, _⟩ => ⟨S1024x1, .f32⟩
  | .hbm, ⟨21, _⟩ => ⟨S1024x3865, .f32⟩
  | .hbm, ⟨22, _⟩ => ⟨S_, .i32⟩
  | .hbm, ⟨23, _⟩ => ⟨S3456, .i32⟩
  | .hbm, ⟨24, _⟩ => ⟨S3456, .i32⟩
  | .hbm, ⟨25, _⟩ => ⟨S3456, .i32⟩
  | .hbm, ⟨26, _⟩ => ⟨S3456x1, .i32⟩
  | .hbm, ⟨27, _⟩ => ⟨S1024x3456, .f32⟩
  | .hbm, ⟨28, _⟩ => ⟨S1024x3456, .bf16⟩
  | .hbm, ⟨29, _⟩ => ⟨S_, .bf16⟩
  | .hbm, ⟨30, _⟩ => ⟨S4x2x9216x256, .bf16⟩
  | .hbm, ⟨31, _⟩ => ⟨S_, .bf16⟩
  | .hbm, ⟨32, _⟩ => ⟨S4x2x72x80x128, .bf16⟩
  | .hbm, ⟨33, _⟩ => ⟨S4x2x64x128x512, .bf16⟩
  | .hbm, ⟨34, _⟩ => ⟨S4x2x64x16x128, .f32⟩
  | .hbm, ⟨35, _⟩ => ⟨S2x4x2x8192x64, .bf16⟩
  | .hbm, ⟨36, _⟩ => ⟨S4x2x9216x256, .bf16⟩
  | .hbm, ⟨37, _⟩ => ⟨S4x2x72x80x128, .bf16⟩
  | .hbm, ⟨38, _⟩ => ⟨S4x2x8192x128, .bf16⟩
  | .hbm, ⟨39, _⟩ => ⟨S4x2x64x80x128, .bf16⟩
  | .hbm, ⟨40, _⟩ => ⟨S32768x2048, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x3456, .bf16⟩
  | .local _ .vmem, ⟨7, _⟩ => ⟨S2x64x512, .bf16⟩
  | .local _ .vmem, ⟨8, _⟩ => ⟨S1x2x4x128x512, .bf16⟩
  | .local _ .vmem, ⟨9, _⟩ => ⟨S1x2x4x128x512, .bf16⟩
  | .local _ .vmem, ⟨10, _⟩ => ⟨S1x2x4x16x128, .f32⟩
  | .local _ .vmem, ⟨11, _⟩ => ⟨S1x2x4x16x128, .f32⟩
  | .local _ .vmem, ⟨12, _⟩ => ⟨S2x1x2x512x64, .bf16⟩
  | .local _ .vmem, ⟨13, _⟩ => ⟨S2x1x2x512x64, .bf16⟩
  | .local _ .vmem, ⟨14, _⟩ => ⟨S1x2x512x256, .bf16⟩
  | .local _ .vmem, ⟨15, _⟩ => ⟨S1x2x512x256, .bf16⟩
  | .local _ .vmem, ⟨16, _⟩ => ⟨S1x2x4x80x128, .bf16⟩
  | .local _ .vmem, ⟨17, _⟩ => ⟨S1x2x4x80x128, .bf16⟩
  | .local _ .vmem, ⟨18, _⟩ => ⟨S1x2x512x128, .bf16⟩
  | .local _ .vmem, ⟨19, _⟩ => ⟨S1x2x512x128, .bf16⟩
  | .local _ .vmem, ⟨20, _⟩ => ⟨S1x2x4x80x128, .bf16⟩
  | .local _ .vmem, ⟨21, _⟩ => ⟨S1x2x4x80x128, .bf16⟩
  | .local _ .vmem, ⟨22, _⟩ => ⟨S512x2048, .f32⟩
  | .local _ .vmem, ⟨23, _⟩ => ⟨S512x2048, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23_0 : Ref sig .tc := ⟨.hbm, 33, rfl⟩
abbrev main_v23_1 : Ref sig .tc := ⟨.hbm, 34, rfl⟩
abbrev main_v23_2 : Ref sig .tc := ⟨.hbm, 35, rfl⟩
abbrev main_v23_3 : Ref sig .tc := ⟨.hbm, 36, rfl⟩
abbrev main_v23_4 : Ref sig .tc := ⟨.hbm, 37, rfl⟩
abbrev main_v23_5 : Ref sig .tc := ⟨.hbm, 38, rfl⟩
abbrev main_v23_6 : Ref sig .tc := ⟨.hbm, 39, rfl⟩
abbrev main_v23_7 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_8 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_9 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![c0_i32_10.toNat, v16.toNat, c0_i32_11.toNat, v26.toNat, c0_i32_12.toNat]

def cc0_transform_10 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_11 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_12 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_13 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x3456 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x64x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2x4x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x4x16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x1x2x512x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x4x80x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2x4x80x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S4x8192x1024 : Shape := ⟨3, ![4, 8192, 1024]⟩
abbrev S4x6144 : Shape := ⟨2, ![4, 6144]⟩
abbrev S1024x3864 : Shape := ⟨2, ![1024, 3864]⟩
abbrev S2x64x512 : Shape := ⟨3, ![2, 64, 512]⟩
abbrev S4x1x6144 : Shape := ⟨3, ![4, 1, 6144]⟩
abbrev S4x1x1024 : Shape := ⟨3, ![4, 1, 1024]⟩
abbrev S_ : Shape := ⟨0, ![]⟩
abbrev S4x8192x3864 : Shape := ⟨3, ![4, 8192, 3864]⟩
abbrev S4x8192x512 : Shape := ⟨3, ![4, 8192, 512]⟩
abbrev S4x8192x128 : Shape := ⟨3, ![4, 8192, 128]⟩
abbrev S4x8192x24 : Shape := ⟨3, ![4, 8192, 24]⟩
abbrev S4x64x128x2x4x64 : Shape := ⟨6, ![4, 64, 128, 2, 4, 64]⟩
abbrev S4x2x64x64x4x128 : Shape := ⟨6, ![4, 2, 64, 64, 4, 128]⟩
abbrev S4x2x64x64x512 : Shape := ⟨5, ![4, 2, 64, 64, 512]⟩
abbrev S1x2x1x64x512 : Shape := ⟨5, ![1, 2, 1, 64, 512]⟩
abbrev S4x2x64x128x512 : Shape := ⟨5, ![4, 2, 64, 128, 512]⟩
abbrev S4x64x128x2x4x3 : Shape := ⟨6, ![4, 64, 128, 2, 4, 3]⟩
abbrev S4x2x64x3x4x128 : Shape := ⟨6, ![4, 2, 64, 3, 4, 128]⟩
abbrev S4x2x64x12x128 : Shape := ⟨5, ![4, 2, 64, 12, 128]⟩
abbrev S4x2x64x4x128 : Shape := ⟨5, ![4, 2, 64, 4, 128]⟩
abbrev S4x2x64x16x128 : Shape := ⟨5, ![4, 2, 64, 16, 128]⟩
abbrev S4x8192x2x64 : Shape := ⟨4, ![4, 8192, 2, 64]⟩
abbrev S4x2x8192x64 : Shape := ⟨4, ![4, 2, 8192, 64]⟩
abbrev S1x4x2x8192x64 : Shape := ⟨5, ![1, 4, 2, 8192, 64]⟩
abbrev S2x4x2x8192x64 : Shape := ⟨5, ![2, 4, 2, 8192, 64]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S128x1x128 : Shape := ⟨3, ![128, 1, 128]⟩
abbrev S128x64x128 : Shape := ⟨3, ![128, 64, 128]⟩
abbrev S8192x128 : Shape := ⟨2, ![8192, 128]⟩
abbrev S1x1x8192x128 : Shape := ⟨4, ![1, 1, 8192, 128]⟩
abbrev S4x2x8192x128 : Shape := ⟨4, ![4, 2, 8192, 128]⟩
abbrev S4x2x8192x2 : Shape := ⟨4, ![4, 2, 8192, 2]⟩
abbrev S4x2x8192x62 : Shape := ⟨4, ![4, 2, 8192, 62]⟩
abbrev S4x2x8192x256 : Shape := ⟨4, ![4, 2, 8192, 256]⟩
abbrev S4x2x1024x256 : Shape := ⟨4, ![4, 2, 1024, 256]⟩
abbrev S4x2x9216x256 : Shape := ⟨4, ![4, 2, 9216, 256]⟩
abbrev S4x2x8x80x128 : Shape := ⟨5, ![4, 2, 8, 80, 128]⟩
abbrev S4x2x64x128x64 : Shape := ⟨5, ![4, 2, 64, 128, 64]⟩
abbrev S4x2x64x64x128 : Shape := ⟨5, ![4, 2, 64, 64, 128]⟩
abbrev S4x2x64x1x128 : Shape := ⟨5, ![4, 2, 64, 1, 128]⟩
abbrev S4x2x64x15x128 : Shape := ⟨5, ![4, 2, 64, 15, 128]⟩
abbrev S4x2x64x80x128 : Shape := ⟨5, ![4, 2, 64, 80, 128]⟩
abbrev S4x2x72x80x128 : Shape := ⟨5, ![4, 2, 72, 80, 128]⟩
abbrev S4x8192x2048 : Shape := ⟨3, ![4, 8192, 2048]⟩
abbrev S32768x2048 : Shape := ⟨2, ![32768, 2048]⟩

abbrev nBuf : Space → Nat
  | .hbm => 138
  | .vmem => 0
  | .smem => 0
  | _ => 0

abbrev hbmTy0_0 (i : Nat) : BufTy := match i % 128 with
  | 0 => ⟨S4x8192x1024, .f32⟩
  | 1 => ⟨S4x6144, .f32⟩
  | 2 => ⟨S1024x3864, .f32⟩
  | 3 => ⟨S2x64x512, .bf16⟩
  | 4 => ⟨S4x1x6144, .f32⟩
  | 5 => ⟨S4x1x1024, .f32⟩
  | 6 => ⟨S4x1x1024, .f32⟩
  | 7 => ⟨S4x1x1024, .f32⟩
  | 8 => ⟨S4x1x1024, .f32⟩
  | 9 => ⟨S4x1x1024, .f32⟩
  | 10 => ⟨S4x1x1024, .f32⟩
  | 11 => ⟨S_, .f32⟩
  | 12 => ⟨S4x1x1024, .f32⟩
  | 13 => ⟨S4x1x1024, .f32⟩
  | 14 => ⟨S4x8192x1024, .f32⟩
  | 15 => ⟨S4x8192x1024, .f32⟩
  | 16 => ⟨S4x8192x1024, .f32⟩
  | 17 => ⟨S4x8192x1024, .f32⟩
  | 18 => ⟨S4x8192x3864, .f32⟩
  | 19 => ⟨S4x8192x512, .f32⟩
  | 20 => ⟨S4x8192x512, .f32⟩
  | 21 => ⟨S4x8192x128, .f32⟩
  | 22 => ⟨S4x8192x128, .f32⟩
  | 23 => ⟨S4x8192x128, .f32⟩
  | 24 => ⟨S4x8192x128, .f32⟩
  | 25 => ⟨S4x8192x128, .f32⟩
  | 26 => ⟨S4x8192x128, .f32⟩
  | 27 => ⟨S4x8192x24, .f32⟩
  | 28 => ⟨S4x8192x1024, .f32⟩
  | 29 => ⟨S4x8192x1024, .f32⟩
  | 30 => ⟨S_, .f32⟩
  | 31 => ⟨S4x8192x512, .f32⟩
  | 32 => ⟨S4x8192x512, .f32⟩
  | 33 => ⟨S4x64x128x2x4x64, .f32⟩
  | 34 => ⟨S4x2x64x64x4x128, .f32⟩
  | 35 => ⟨S4x2x64x64x512, .f32⟩
  | 36 => ⟨S4x2x64x64x512, .bf16⟩
  | 37 => ⟨S1x2x1x64x512, .bf16⟩
  | 38 => ⟨S4x2x64x64x512, .bf16⟩
  | 39 => ⟨S4x2x64x128x512, .bf16⟩
  | 40 => ⟨S4x64x128x2x4x3, .f32⟩
  | 41 => ⟨S4x2x64x3x4x128, .f32⟩
  | 42 => ⟨S4x2x64x12x128, .f32⟩
  | 43 => ⟨S_, .f32⟩
  | 44 => ⟨S4x2x64x4x128, .f32⟩
  | 45 => ⟨S4x2x64x16x128, .f32⟩
  | 46 => ⟨S4x2x64x16x128, .f32⟩
  | 47 => ⟨S4x2x64x16x128, .f32⟩
  | 48 => ⟨S_, .f32⟩
  | 49 => ⟨S4x2x64x16x128, .f32⟩
  | 50 => ⟨S4x2x64x16x128, .f32⟩
  | 51 => ⟨S_, .f32⟩
  | 52 => ⟨S4x2x64x16x128, .f32⟩
  | 53 => ⟨S4x2x64x16x128, .f32⟩
  | 54 => ⟨S4x8192x2x64, .f32⟩
  | 55 => ⟨S4x2x8192x64, .f32⟩
  | 56 => ⟨S4x8192x2x64, .f32⟩
  | 57 => ⟨S4x2x8192x64, .f32⟩
  | 58 => ⟨S1x4x2x8192x64, .f32⟩
  | 59 => ⟨S1x4x2x8192x64, .f32⟩
  | 60 => ⟨S2x4x2x8192x64, .f32⟩
  | 61 => ⟨S2x4x2x8192x64, .bf16⟩
  | 62 => ⟨S128, .i32⟩
  | 63 => ⟨S128x1, .i32⟩
  | 64 => ⟨S128, .i32⟩
  | 65 => ⟨S1x128, .i32⟩
  | 66 => ⟨S128x128, .i32⟩
  | 67 => ⟨S128x128, .i32⟩
  | 68 => ⟨S128x128, .i1⟩
  | 69 => ⟨S_, .f32⟩
  | 70 => ⟨S_, .f32⟩
  | 71 => ⟨S128x128, .f32⟩
  | 72 => ⟨S128x128, .f32⟩
  | 73 => ⟨S128x128, .f32⟩
  | 74 => ⟨S128x1x128, .f32⟩
  | 75 => ⟨S128x64x128, .f32⟩
  | 76 => ⟨S8192x128, .f32⟩
  | 77 => ⟨S1x1x8192x128, .f32⟩
  | 78 => ⟨S4x2x8192x128, .f32⟩
  | 79 => ⟨S_, .f32⟩
  | 80 => ⟨S4x2x8192x2, .f32⟩
  | 81 => ⟨S_, .f32⟩
  | 82 => ⟨S4x2x8192x62, .f32⟩
  | 83 => ⟨S4x8192x2x64, .f32⟩
  | 84 => ⟨S4x2x8192x64, .f32⟩
  | 85 => ⟨S4x2x8192x128, .f32⟩
  | 86 => ⟨S4x2x8192x256, .f32⟩
  | 87 => ⟨S4x2x8192x256, .bf16⟩
  | 88 => ⟨S_, .bf16⟩
  | 89 => ⟨S4x2x1024x256, .bf16⟩
  | 90 => ⟨S4x2x9216x256, .bf16⟩
  | 91 => ⟨S_, .bf16⟩
  | 92 => ⟨S4x2x8x80x128, .bf16⟩
  | 93 => ⟨S4x8192x2x64, .f32⟩
  | 94 => ⟨S4x2x8192x64, .f32⟩
  | 95 => ⟨S4x2x64x128x64, .f32⟩
  | 96 => ⟨S4x2x64x64x128, .f32⟩
  | 97 => ⟨S_, .f32⟩
  | 98 => ⟨S4x2x64x1x128, .f32⟩
  | 99 => ⟨S_, .f32⟩
  | 100 => ⟨S4x2x64x15x128, .f32⟩
  | 101 => ⟨S4x2x64x80x128, .f32⟩
  | 102 => ⟨S4x2x64x80x128, .bf16⟩
  | 103 => ⟨S4x2x72x80x128, .bf16⟩
  | 104 => ⟨S4x8192x2x64, .f32⟩
  | 105 => ⟨S4x2x8192x64, .f32⟩
  | 106 => ⟨S_, .f32⟩
  | 107 => ⟨S4x2x8192x64, .f32⟩
  | 108 => ⟨S4x2x8192x128, .f32⟩
  | 109 => ⟨S4x2x8192x128, .bf16⟩
  | 110 => ⟨S4x8192x2x64, .f32⟩
  | 111 => ⟨S4x2x8192x64, .f32⟩
  | 112 => ⟨S4x2x64x128x64, .f32⟩
  | 113 => ⟨S4x2x64x64x128, .f32⟩
  | 114 => ⟨S_, .f32⟩
  | 115 => ⟨S4x2x64x1x128, .f32⟩
  | 116 => ⟨S_, .f32⟩
  | 117 => ⟨S4x2x64x15x128, .f32⟩
  | 118 => ⟨S4x2x64x80x128, .f32⟩
  | 119 => ⟨S4x2x64x80x128, .bf16⟩
  | 120 => ⟨S4x8192x1024, .f32⟩
  | 121 => ⟨S4x8192x1024, .f32⟩
  | 122 => ⟨S_, .f32⟩
  | 123 => ⟨S4x8192x1024, .f32⟩
  | 124 => ⟨S4x8192x1024, .f32⟩
  | 125 => ⟨S_, .f32⟩
  | 126 => ⟨S4x8192x1024, .f32⟩
  | 127 => ⟨S4x8192x1024, .f32⟩
  | _ => ⟨S4x8192x1024, .f32⟩

abbrev hbmTy0_1 (i : Nat) : BufTy := match i % 128 with
  | 0 => ⟨S4x8192x1024, .f32⟩
  | 1 => ⟨S4x8192x1024, .f32⟩
  | 2 => ⟨S_, .f32⟩
  | 3 => ⟨S4x8192x1024, .f32⟩
  | 4 => ⟨S4x8192x1024, .f32⟩
  | 5 => ⟨S_, .f32⟩
  | 6 => ⟨S4x8192x1024, .f32⟩
  | 7 => ⟨S4x8192x1024, .f32⟩
  | 8 => ⟨S4x8192x2048, .f32⟩
  | 9 => ⟨S32768x2048, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_0 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_1 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_2 : Ref sig .tc := ⟨.hbm, 48, rfl⟩
abbrev main_v41 : Ref sig .tc := ⟨.hbm, 49, rfl⟩
abbrev main_v42 : Ref sig .tc := ⟨.hbm, 50, rfl⟩
abbrev main_cst_3 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_cst_4 : Ref sig .tc := ⟨.hbm, 69, rfl⟩
abbrev main_cst_5 : Ref sig .tc := ⟨.hbm, 70, rfl⟩
abbrev main_call0_v0 : Ref sig .tc := ⟨.hbm, 71, rfl⟩
abbrev main_call0_v1 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_6 : Ref sig .tc := ⟨.hbm, 79, rfl⟩
abbrev main_v66 : Ref sig .tc := ⟨.hbm, 80, rfl⟩
abbrev main_cst_7 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_cst_8 : Ref sig .tc := ⟨.hbm, 88, rfl⟩
abbrev main_v73 : Ref sig .tc := ⟨.hbm, 89, rfl⟩
abbrev main_v74 : Ref sig .tc := ⟨.hbm, 90, rfl⟩
abbrev main_cst_9 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_cst_10 : Ref sig .tc := ⟨.hbm, 97, rfl⟩
abbrev main_v80 : Ref sig .tc := ⟨.hbm, 98, rfl⟩
abbrev main_cst_11 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_cst_12 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_cst_13 : Ref sig .tc := ⟨.hbm, 114, rfl⟩
abbrev main_v94 : Ref sig .tc := ⟨.hbm, 115, rfl⟩
abbrev main_cst_14 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_cst_15 : Ref sig .tc := ⟨.hbm, 122, rfl⟩
abbrev main_v100 : Ref sig .tc := ⟨.hbm, 123, rfl⟩
abbrev main_v101 : Ref sig .tc := ⟨.hbm, 124, rfl⟩
abbrev main_cst_16 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_cst_17 : Ref sig .tc := ⟨.hbm, 130, rfl⟩
abbrev main_v106 : Ref sig .tc := ⟨.hbm, 131, rfl⟩
abbrev main_v107 : Ref sig .tc := ⟨.hbm, 132, rfl⟩
abbrev main_cst_18 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩

abbrev nD : Nat := 1
abbrev τ : Topo := Topo.v7x

variable {F : FTy → Type} [FloatOps F]
-- ==== Kernel5.lean ====
abbrev S2x4x2x8192x64 : Shape := ⟨5, ![2, 4, 2, 8192, 64]⟩
abbrev S32x64 : Shape := ⟨2, ![32, 64]⟩
abbrev S2048x128 : Shape := ⟨2, ![2048, 128]⟩
abbrev S128x64 : Shape := ⟨2, ![128, 64]⟩
abbrev S2x4x2x512x1024 : Shape := ⟨5, ![2, 4, 2, 512, 1024]⟩
abbrev S1x32x64 : Shape := ⟨3, ![1, 32, 64]⟩
abbrev S2x32x64 : Shape := ⟨3, ![2, 32, 64]⟩
abbrev S2x2x1024 : Shape := ⟨3, ![2, 2, 1024]⟩
abbrev S1x2048x128 : Shape := ⟨3, ![1, 2048, 128]⟩
abbrev S2x2048x128 : Shape := ⟨3, ![2, 2048, 128]⟩
abbrev S1x128x64 : Shape := ⟨3, ![1, 128, 64]⟩
abbrev S2x128x64 : Shape := ⟨3, ![2, 128, 64]⟩
abbrev S2x4x2x512x64 : Shape := ⟨5, ![2, 4, 2, 512, 64]⟩
abbrev S1x1x1x512x1024 : Shape := ⟨5, ![1, 1, 1, 512, 1024]⟩
abbrev S1x2x1024 : Shape := ⟨3, ![1, 2, 1024]⟩
abbrev S1x1x1x512x64 : Shape := ⟨5, ![1, 1, 1, 512, 64]⟩
abbrev S512x1024 : Shape := ⟨2, ![512, 1024]⟩
abbrev S1x1x1024 : Shape := ⟨3, ![1, 1, 1024]⟩
abbrev S1x1024 : Shape := ⟨2, ![1, 1024]⟩
abbrev S1x1024x128 : Shape := ⟨3, ![1, 1024, 128]⟩
abbrev S1024x128 : Shape := ⟨2, ![1024, 128]⟩
abbrev S512x128 : Shape := ⟨2, ![512, 128]⟩
abbrev S512x64 : Shape := ⟨2, ![512, 64]⟩

abbrev nBuf : Space → Nat
  | .hbm => 21
  | .vmem => 10
  | .smem => 0
  | _ => 0

abbrev bufTy : (tb : Table) → Fin (tcTables nBuf tb) → BufTy
  | .hbm, ⟨0, _⟩ => ⟨S2x4x2x8192x64, .bf16⟩
  | .hbm, ⟨1, _⟩ => ⟨S32x64, .f32⟩
  | .hbm, ⟨2, _⟩ => ⟨S2048x128, .f32⟩
  | .hbm, ⟨3, _⟩ => ⟨S128x64, .f32⟩
  | .hbm, ⟨4, _⟩ => ⟨S32x64, .f32⟩
  | .hbm, ⟨5, _⟩ => ⟨S2048x128, .f32⟩
  | .hbm, ⟨6, _⟩ => ⟨S128x64, .f32⟩
  | .hbm, ⟨7, _⟩ => ⟨S2x4x2x512x1024, .bf16⟩
  | .hbm, ⟨8, _⟩ => ⟨S1x32x64, .f32⟩
  | .hbm, ⟨9, _⟩ => ⟨S1x32x64, .f32⟩
  | .hbm, ⟨10, _⟩ => ⟨S2x32x64, .f32⟩
  | .hbm, ⟨11, _⟩ => ⟨S2x2x1024, .f32⟩
  | .hbm, ⟨12, _⟩ => ⟨S1x2048x128, .f32⟩
  | .hbm, ⟨13, _⟩ => ⟨S1x2048x128, .f32⟩
  | .hbm, ⟨14, _⟩ => ⟨S2x2048x128, .f32⟩
  | .hbm, ⟨15, _⟩ => ⟨S2x2048x128, .bf16⟩
  | .hbm, ⟨16, _⟩ => ⟨S1x128x64, .f32⟩
  | .hbm, ⟨17, _⟩ => ⟨S1x128x64, .f32⟩
  | .hbm, ⟨18, _⟩ => ⟨S2x128x64, .f32⟩
  | .hbm, ⟨19, _⟩ => ⟨S2x128x64, .bf16⟩
  | .hbm, ⟨20, _⟩ => ⟨S2x4x2x512x64, .bf16⟩
  | .local _ .vmem, ⟨0, _⟩ => ⟨S1x1x1x512x1024, .bf16⟩
  | .local _ .vmem, ⟨1, _⟩ => ⟨S1x1x1x512x1024, .bf16⟩
  | .local _ .vmem, ⟨2, _⟩ => ⟨S1x2x1024, .f32⟩
  | .local _ .vmem, ⟨3, _⟩ => ⟨S1x2x1024, .f32⟩
  | .local _ .vmem, ⟨4, _⟩ => ⟨S1x2048x128, .bf16⟩
  | .local _ .vmem, ⟨5, _⟩ => ⟨S1x2048x128, .bf16⟩
  | .local _ .vmem, ⟨6, _⟩ => ⟨S1x128x64, .bf16⟩
  | .local _ .vmem, ⟨7, _⟩ => ⟨S1x128x64, .bf16⟩
  | .local _ .vmem, ⟨8, _⟩ => ⟨S1x1x1x512x64, .bf16⟩
  | .local _ .vmem, ⟨9, _⟩ => ⟨S1x1x1x512x64, .bf16⟩
  | _, _ => ⟨S2x4x2x8192x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 2], ![false, false, false]⟩

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x1x1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x128x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x1x512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference5Ideal.lean ====
abbrev S2x4x2x8192x64 : Shape := ⟨5, ![2, 4, 2, 8192, 64]⟩
abbrev S32x64 : Shape := ⟨2, ![32, 64]⟩
abbrev S2048x128 : Shape := ⟨2, ![2048, 128]⟩
abbrev S128x64 : Shape := ⟨2, ![128, 64]⟩
abbrev S1x4x2x8192x64 : Shape := ⟨5, ![1, 4, 2, 8192, 64]⟩
abbrev S4x2x8192x64 : Shape := ⟨4, ![4, 2, 8192, 64]⟩
abbrev S4x2x512x16x64 : Shape := ⟨5, ![4, 2, 512, 16, 64]⟩
abbrev S4x2x511x16x64 : Shape := ⟨5, ![4, 2, 511, 16, 64]⟩
abbrev S4x2x1x16x64 : Shape := ⟨5, ![4, 2, 1, 16, 64]⟩
abbrev S4x2x512x32x64 : Shape := ⟨5, ![4, 2, 512, 32, 64]⟩
abbrev S1x1x1x32x64 : Shape := ⟨5, ![1, 1, 1, 32, 64]⟩
abbrev S4x2x512x2048 : Shape := ⟨4, ![4, 2, 512, 2048]⟩
abbrev S4x2x512x128 : Shape := ⟨4, ![4, 2, 512, 128]⟩
abbrev S_ : Shape := ⟨0, ![]⟩
abbrev S4x2x512x64 : Shape := ⟨4, ![4, 2, 512, 64]⟩
abbrev S1x4x2x512x64 : Shape := ⟨5, ![1, 4, 2, 512, 64]⟩
abbrev S2x4x2x512x64 : Shape := ⟨5, ![2, 4, 2, 512, 64]⟩

abbrev nBuf : Space → Nat
  | .hbm => 73
  | .vmem => 0
  | .smem => 0
  | _ => 0

abbrev bufTy : (tb : Table) → Fin (tcTables nBuf tb) → BufTy
  | .hbm, ⟨0, _⟩ => ⟨S2x4x2x8192x64, .bf16⟩
  | .hbm, ⟨1, _⟩ => ⟨S32x64, .f32⟩
  | .hbm, ⟨2, _⟩ => ⟨S2048x128, .f32⟩
  | .hbm, ⟨3, _⟩ => ⟨S128x64, .f32⟩
  | .hbm, ⟨4, _⟩ => ⟨S32x64, .f32⟩
  | .hbm, ⟨5, _⟩ => ⟨S2048x128, .f32⟩
  | .hbm, ⟨6, _⟩ => ⟨S128x64, .f32⟩
  | .hbm, ⟨7, _⟩ => ⟨S1x4x2x8192x64, .bf16⟩
  | .hbm, ⟨8, _⟩ => ⟨S4x2x8192x64, .bf16⟩
  | .hbm, ⟨9, _⟩ => ⟨S4x2x8192x64, .f32⟩
  | .hbm, ⟨10, _⟩ => ⟨S4x2x512x16x64, .f32⟩
  | .hbm, ⟨11, _⟩ => ⟨S4x2x511x16x64, .f32⟩
  | .hbm, ⟨12, _⟩ => ⟨S4x2x1x16x64, .f32⟩
  | .hbm, ⟨13, _⟩ => ⟨S4x2x512x16x64, .f32⟩
  | .hbm, ⟨14, _⟩ => ⟨S4x2x512x32x64, .f32⟩
  | .hbm, ⟨15, _⟩ => ⟨S1x1x1x32x64, .f32⟩
  | .hbm, ⟨16, _⟩ => ⟨S4x2x512x32x64, .f32⟩
  | .hbm, ⟨17, _⟩ => ⟨S4x2x512x32x64, .f32⟩
  | .hbm, ⟨18, _⟩ => ⟨S4x2x512x2048, .f32⟩
  | .hbm, ⟨19, _⟩ => ⟨S4x2x512x128, .f32⟩
  | .hbm, ⟨20, _⟩ => ⟨S4x2x512x128, .f32⟩
  | .hbm, ⟨21, _⟩ => ⟨S4x2x512x128, .f32⟩
  | .hbm, ⟨22, _⟩ => ⟨S_, .f32⟩
  | .hbm, ⟨23, _⟩ => ⟨S4x2x512x128, .f32⟩
  | .hbm, ⟨24, _⟩ => ⟨S4x2x512x128, .f32⟩
  | .hbm, ⟨25, _⟩ => ⟨S4x2x512x128, .f32⟩
  | .hbm, ⟨26, _⟩ => ⟨S_, .f32⟩
  | .hbm, ⟨27, _⟩ => ⟨S4x2x512x128, .f32⟩
  | .hbm, ⟨28, _⟩ => ⟨S4x2x512x128, .f32⟩
  | .hbm, ⟨29, _⟩ => ⟨S4x2x512x128, .f32⟩
  | .hbm, ⟨30, _⟩ => ⟨S_, .f32⟩
  | .hbm, ⟨31, _⟩ => ⟨S4x2x512x128, .f32⟩
  | .hbm, ⟨32, _⟩ => ⟨S4x2x512x128, .f32⟩
  | .hbm, ⟨33, _⟩ => ⟨S_, .f32⟩
  | .hbm, ⟨34, _⟩ => ⟨S4x2x512x128, .f32⟩
  | .hbm, ⟨35, _⟩ => ⟨S4x2x512x128, .f32⟩
  | .hbm, ⟨36, _⟩ => ⟨S4x2x512x128, .f32⟩
  | .hbm, ⟨37, _⟩ => ⟨S4x2x512x64, .f32⟩
  | .hbm, ⟨38, _⟩ => ⟨S1x4x2x8192x64, .bf16⟩
  | .hbm, ⟨39, _⟩ => ⟨S4x2x8192x64, .bf16⟩
  | .hbm, ⟨40, _⟩ => ⟨S4x2x8192x64, .f32⟩
  | .hbm, ⟨41, _⟩ => ⟨S4x2x512x16x64, .f32⟩
  | .hbm, ⟨42, _⟩ => ⟨S4x2x511x16x64, .f32⟩
  | .hbm, ⟨43, _⟩ => ⟨S4x2x1x16x64, .f32⟩
  | .hbm, ⟨44, _⟩ => ⟨S4x2x512x16x64, .f32⟩
  | .hbm, ⟨45, _⟩ => ⟨S4x2x512x32x64, .f32⟩
  | .hbm, ⟨46, _⟩ => ⟨S1x1x1x32x64, .f32⟩
  | .hbm, ⟨47, _⟩ => ⟨S4x2x512x32x64, .f32⟩
  | .hbm, ⟨48, _⟩ => ⟨S4x2x512x32x64, .f32⟩
  | .hbm, ⟨49, _⟩ => ⟨S4x2x512x2048, .f32⟩
  | .hbm, ⟨50, _⟩ => ⟨S4x2x512x128, .f32⟩
  | .hbm, ⟨51, _⟩ => ⟨S4x2x512x128, .f32⟩
  | .hbm, ⟨52, _⟩ => ⟨S4x2x512x128, .f32⟩
  | .hbm, ⟨53, _⟩ => ⟨S_, .f32⟩
  | .hbm, ⟨54, _⟩ => ⟨S4x2x512x128, .f32⟩
  | .hbm, ⟨55, _⟩ => ⟨S4x2x512x128, .f32⟩
  | .hbm, ⟨56, _⟩ => ⟨S4x2x512x128, .f32⟩
  | .hbm, ⟨57, _⟩ => ⟨S_, .f32⟩
  | .hbm, ⟨58, _⟩ => ⟨S4x2x512x128, .f32⟩
  | .hbm, ⟨59, _⟩ => ⟨S4x2x512x128, .f32⟩
  | .hbm, ⟨60, _⟩ => ⟨S4x2x512x128, .f32⟩
  | .hbm, ⟨61, _⟩ => ⟨S_, .f32⟩
  | .hbm, ⟨62, _⟩ => ⟨S4x2x512x128, .f32⟩
  | .hbm, ⟨63, _⟩ => ⟨S4x2x512x128, .f32⟩
  | .hbm, ⟨64, _⟩ => ⟨S_, .f32⟩
  | .hbm, ⟨65, _⟩ => ⟨S4x2x512x128, .f32⟩
  | .hbm, ⟨66, _⟩ => ⟨S4x2x512x128, .f32⟩
  | .hbm, ⟨67, _⟩ => ⟨S4x2x512x128, .f32⟩
  | .hbm, ⟨68, _⟩ => ⟨S4x2x512x64, .f32⟩
  | .hbm, ⟨69, _⟩ => ⟨S1x4x2x512x64, .f32⟩
  | .hbm, ⟨70, _⟩ => ⟨S1x4x2x512x64, .f32⟩
  | .hbm, ⟨71, _⟩ => ⟨S2x4x2x512x64, .f32⟩
  | .hbm, ⟨72, _⟩ => ⟨S2x4x2x512x64, .bf16⟩
  | _, _ => ⟨S2x4x2x8192x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_3 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_4 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_5 : Ref sig .tc := ⟨.hbm, 61, rfl⟩
abbrev main_v48 : Ref sig .tc := ⟨.hbm, 62, rfl⟩
abbrev main_v49 : Ref sig .tc := ⟨.hbm, 63, rfl⟩
abbrev main_cst_6 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩

abbrev nD : Nat := 1
abbrev τ : Topo := Topo.v7x

variable {F : FTy → Type} [FloatOps F]
-- ==== Kernel6.lean ====
abbrev S32768x128 : Shape := ⟨2, ![32768, 128]⟩
abbrev S1x128 : Shape := ⟨2, ![1, 128]⟩
abbrev S512x128 : Shape := ⟨2, ![512, 128]⟩
abbrev S512x512 : Shape := ⟨2, ![512, 512]⟩
abbrev S128 : Shape := ⟨1, ![128]⟩

abbrev nBuf : Space → Nat
  | .hbm => 3
  | .vmem => 6
  | .smem => 0
  | _ => 0

abbrev bufTy : (tb : Table) → Fin (tcTables nBuf tb) → BufTy
  | .hbm, ⟨0, _⟩ => ⟨S32768x128, .f32⟩
  | .hbm, ⟨1, _⟩ => ⟨S32768x128, .f32⟩
  | .hbm, ⟨2, _⟩ => ⟨S1x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S1x128, .f32⟩
  | .local _ .vmem, ⟨5, _⟩ => ⟨S1x128, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference6Ideal.lean ====
abbrev S32768x128 : Shape := ⟨2, ![32768, 128]⟩
abbrev S_ : Shape := ⟨0, ![]⟩
abbrev S1x128 : Shape := ⟨2, ![1, 128]⟩
abbrev S32767x128 : Shape := ⟨2, ![32767, 128]⟩

abbrev nBuf : Space → Nat
  | .hbm => 18
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S_, .f32⟩
  | .hbm, ⟨2, _⟩ => ⟨S32768x128, .f32⟩
  | .hbm, ⟨3, _⟩ => ⟨S32768x128, .i1⟩
  | .hbm, ⟨4, _⟩ => ⟨S_, .f32⟩
  | .hbm, ⟨5, _⟩ => ⟨S_, .f32⟩
  | .hbm, ⟨6, _⟩ => ⟨S32768x128, .f32⟩
  | .hbm, ⟨7, _⟩ => ⟨S32768x128, .f32⟩
  | .hbm, ⟨8, _⟩ => ⟨S32768x128, .f32⟩
  | .hbm, ⟨9, _⟩ => ⟨S32768x128, .f32⟩
  | .hbm, ⟨10, _⟩ => ⟨S_, .f32⟩
  | .hbm, ⟨11, _⟩ => ⟨S_, .f32⟩
  | .hbm, ⟨12, _⟩ => ⟨S32768x128, .f32⟩
  | .hbm, ⟨13, _⟩ => ⟨S_, .f32⟩
  | .hbm, ⟨14, _⟩ => ⟨S1x128, .f32⟩
  | .hbm, ⟨15, _⟩ => ⟨S32767x128, .f32⟩
  | .hbm, ⟨16, _⟩ => ⟨S32768x128, .f32⟩
  | .hbm, ⟨17, _⟩ => ⟨S1x128, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_cst_1 : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_call1_v0 : Ref sig .tc := ⟨.hbm, 9, rfl⟩
abbrev main_call1_call0_cst : Ref sig .tc := ⟨.hbm, 10, rfl⟩
abbrev main_call1_call0_v0 : Ref sig .tc := ⟨.hbm, 11, rfl⟩
abbrev main_v3 : Ref sig .tc := ⟨.hbm, 12, rfl⟩
abbrev main_cst_2 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== Kernel7.lean ====
abbrev S8x1024 : Shape := ⟨2, ![8, 1024]⟩
abbrev S1024x6144 : Shape := ⟨2, ![1024, 6144]⟩
abbrev S6144 : Shape := ⟨1, ![6144]⟩
abbrev S1x6144 : Shape := ⟨2, ![1, 6144]⟩
abbrev S8x6144 : Shape := ⟨2, ![8, 6144]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S8x6144, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S8x1024 : Shape := ⟨2, ![8, 1024]⟩
abbrev S1024x6144 : Shape := ⟨2, ![1024, 6144]⟩
abbrev S6144 : Shape := ⟨1, ![6144]⟩
abbrev S_ : Shape := ⟨0, ![]⟩
abbrev S8x6144 : Shape := ⟨2, ![8, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x6144, .f32⟩
  | .hbm, ⟨13, _⟩ => ⟨S1x6144, .f32⟩
  | .hbm, ⟨14, _⟩ => ⟨S8x6144, .f32⟩
  | .hbm, ⟨15, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Proof.Moe.SetupIdeal.lean ====
/- The launch set-up of the experts' program: the host lines, the two tables they make (the block's expert, and whether the block holds a row), the windows' blocks, and the scratch buffers. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines -/

/-- The buffers after the host lines, just before the launch. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program is the host lines and then the launch. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer that no host line writes is still as it was given. -/
theorem V_unwritten (c : Dev nD) (b : Ref sig .tc)
    (hb : (hostOps0 : List (HloOp τ sig (Elt F))).Forall fun op => (Proc.devRef .tc b) ∉ op.writes) :
    V m c b = m ((c : Thread nD τ).loc b) :=
  StableHlo.after_of_forall_not_mem (b := Proc.devRef .tc b) _ _ (List.forall_iff_forall_mem.mp hb)
theorem V_main_arg0 (c : Dev nD) : V m c main_arg0 = m ((c : Thread nD τ).loc main_arg0) := V_unwritten m c main_arg0 (by
  simp only [hostOps0, List.flatten_cons, List.flatten_nil, List.append_nil, List.cons_append, List.nil_append, List.Forall,
    StableHlo.nullary_writes, StableHlo.unary_writes, StableHlo.binary_writes, StableHlo.ternary_writes,
    StableHlo.reshape_writes, Finset.mem_singleton]
  repeat' apply And.intro
  all_goals exact StableHlo.devRef_ne_of_ne (by decide))
theorem V_main_arg1 (c : Dev nD) : V m c main_arg1 = m ((c : Thread nD τ).loc main_arg1) := V_unwritten m c main_arg1 (by
  simp only [hostOps0, List.flatten_cons, List.flatten_nil, List.append_nil, List.cons_append, List.nil_append, List.Forall,
    StableHlo.nullary_writes, StableHlo.unary_writes, StableHlo.binary_writes, StableHlo.ternary_writes,
    StableHlo.reshape_writes, Finset.mem_singleton]
  repeat' apply And.intro
  all_goals exact StableHlo.devRef_ne_of_ne (by decide))
theorem V_main_arg2 (c : Dev nD) : V m c main_arg2 = m ((c : Thread nD τ).loc main_arg2) := V_unwritten m c main_arg2 (by
  simp only [hostOps0, List.flatten_cons, List.flatten_nil, List.append_nil, List.cons_append, List.nil_append, List.Forall,
    StableHlo.nullary_writes, StableHlo.unary_writes, StableHlo.binary_writes, StableHlo.ternary_writes,
    StableHlo.reshape_writes, Finset.mem_singleton]
  repeat' apply And.intro
  all_goals exact StableHlo.devRef_ne_of_ne (by decide))
theorem V_main_arg3 (c : Dev nD) : V m c main_arg3 = m ((c : Thread nD τ).loc main_arg3) := V_unwritten m c main_arg3 (by
  simp only [hostOps0, List.flatten_cons, List.flatten_nil, List.append_nil, List.cons_append, List.nil_append, List.Forall,
    StableHlo.nullary_writes, StableHlo.unary_writes, StableHlo.binary_writes, StableHlo.ternary_writes,
    StableHlo.reshape_writes, Finset.mem_singleton]
  repeat' apply And.intro
  all_goals exact StableHlo.devRef_ne_of_ne (by decide))
theorem V_main_arg4 (c : Dev nD) : V m c main_arg4 = m ((c : Thread nD τ).loc main_arg4) := V_unwritten m c main_arg4 (by
  simp only [hostOps0, List.flatten_cons, List.flatten_nil, List.append_nil, List.cons_append, List.nil_append, List.Forall,
    StableHlo.nullary_writes, StableHlo.unary_writes, StableHlo.binary_writes, StableHlo.ternary_writes,
    StableHlo.reshape_writes, Finset.mem_singleton]
  repeat' apply And.intro
  all_goals exact StableHlo.devRef_ne_of_ne (by decide))
theorem V_main_arg5 (c : Dev nD) : V m c main_arg5 = m ((c : Thread nD τ).loc main_arg5) := V_unwritten m c main_arg5 (by
  simp only [hostOps0, List.flatten_cons, List.flatten_nil, List.append_nil, List.cons_append, List.nil_append, List.Forall,
    StableHlo.nullary_writes, StableHlo.unary_writes, StableHlo.binary_writes, StableHlo.ternary_writes,
    StableHlo.reshape_writes, Finset.mem_singleton]
  repeat' apply And.intro
  all_goals exact StableHlo.devRef_ne_of_ne (by decide))
theorem V_main_arg6 (c : Dev nD) : V m c main_arg6 = m ((c : Thread nD τ).loc main_arg6) := V_unwritten m c main_arg6 (by
  simp only [hostOps0, List.flatten_cons, List.flatten_nil, List.append_nil, List.cons_append, List.nil_append, List.Forall,
    StableHlo.nullary_writes, StableHlo.unary_writes, StableHlo.binary_writes, StableHlo.ternary_writes,
    StableHlo.reshape_writes, Finset.mem_singleton]
  repeat' apply And.intro
  all_goals exact StableHlo.devRef_ne_of_ne (by decide))
theorem V_main_arg7 (c : Dev nD) : V m c main_arg7 = m ((c : Thread nD τ).loc main_arg7) := V_unwritten m c main_arg7 (by
  simp only [hostOps0, List.flatten_cons, List.flatten_nil, List.append_nil, List.cons_append, List.nil_append, List.Forall,
    StableHlo.nullary_writes, StableHlo.unary_writes, StableHlo.binary_writes, StableHlo.ternary_writes,
    StableHlo.reshape_writes, Finset.mem_singleton]
  repeat' apply And.intro
  all_goals exact StableHlo.devRef_ne_of_ne (by decide))
/-! ## The two tables -/

/-- What the two tables hold when the launch begins. -/
def tbl : pre0.Contents (Elt F) := fun j => V m (0 : Dev nD) (pre0.ref j)
/-- There is one device, so the tables are the same on all. -/
theorem V_pre (c : Dev nD) (j : Fin 2) : V m c (pre0.ref j) = tbl m j := by
  obtain rfl : c = 0 := Subsingleton.elim _ _; rfl
/-- Every expert named by the tables is one of the 32, so that the blocks of weights lie inside their arrays. -/
abbrev Ok : Prop := ok0 (F := F) (tbl m)
/-- The tables as tables of which that holds, and the pipeline that uses them. -/
abbrev adm (hO : Ok m) : (pcfg0 (F := F)).Adm := ⟨tbl m, hO⟩
abbrev cfgM (hO : Ok m) : Pipeline.Cfg sig Λ₀ := cfg0 (adm m hO)

/-- The two tables, as the body reads them. -/
abbrev tbM0_0 : Memref sig .tc .smem S190 .i32 := Memref.whole main_v11
abbrev htbM0_0 : tbM0_0.IsWhole := Memref.isWhole_whole _
abbrev tbM0_1 : Memref sig .tc .smem S190 .i32 := Memref.whole main_v21
abbrev htbM0_1 : tbM0_1.IsWhole := Memref.isWhole_whole _

/-- A table's contents on core `c`, and half a share of it: enough to read, while the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The halves of the tables, one by one. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- The block of window `w` at point `t`, as it lies in its array when the launch begins. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Window 0's buffer holds its block at every point, fetched there or before. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- So does window 1's. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- So does window 2's. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- So does window 3's. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- So does window 4's. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The arguments at the end -/

/-- A run that leaves every array as the pipeline's data say leaves the arguments unchanged: the windows' inputs are never
    written, and no window stages the other arguments. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 0).trans (((dats 0 c).arrAt_in 0 rfl _).trans ((hA c 0).trans (V_main_arg3 m c))),
      ((h c).1 1).trans (((dats 0 c).arrAt_in 1 rfl _).trans ((hA c 1).trans (V_main_arg4 m c))),
      ((h c).2 main_arg5 (by decide : main_arg5 ∈ Pipeline.restRefs sig spec0)).trans (V_main_arg5 m c),
      ((h c).1 3).trans (((dats 0 c).arrAt_in 3 rfl _).trans ((hA c 3).trans (V_main_arg6 m c))),
      ((h c).2 main_arg7 (by decide : main_arg7 ∈ Pipeline.restRefs sig spec0)).trans (V_main_arg7 m c)⟩) h

/-! ## The buffers the body is called with -/

theorem liveAt0_0 (hO : Ok m) : ∀ t : Fin (cfgM m hO).N, (cfgM m hO).idle 0 (grid0.coords t) = false := fun _ => rfl
theorem liveAt0_1 (hO : Ok m) : ∀ t : Fin (cfgM m hO).N, (cfgM m hO).idle 1 (grid0.coords t) = false := fun _ => rfl
theorem liveAt0_2 (hO : Ok m) : ∀ t : Fin (cfgM m hO).N, (cfgM m hO).idle 2 (grid0.coords t) = false := fun _ => rfl
theorem liveAt0_3 (hO : Ok m) : ∀ t : Fin (cfgM m hO).N, (cfgM m hO).idle 3 (grid0.coords t) = false := fun _ => rfl
theorem liveAt0_4 (hO : Ok m) : ∀ t : Fin (cfgM m hO).N, (cfgM m hO).idle 4 (grid0.coords t) = false := fun _ => rfl
/-- The buffers the windows use at point `t`. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The body as it is called at point `t`. -/
abbrev bodyAt0 (a : (pcfg0 (F := F)).Adm) (t : Fin (cfg0 a).N) : Prog (TpuEff nD τ sig (Elt F) Λ₀ .tc) PUnit :=
  cc0_moe_experts (grid0.coords t) (Memref.whole main_v11) (Memref.isWhole_whole _) (Memref.whole main_v21) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _)

/-- A buffer through which the output block is stated; which of the two does not matter. -/
abbrev VO0_5 : View sig .tc .vmem S2048x512 .bf16 := (Memref.whole cc0_stg5_0 : Memref sig .tc .vmem S2048x512 .bf16).view
/-- The same buffers, each with the fact that it is a whole one. -/
abbrev ms0_0 (hO : Ok m) (t : Fin (cfgM m hO).N) : Memref sig .tc .vmem S2048x512 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x2048 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x2048 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1024x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S2048x512 .bf16 := spec0_5.stage ((cfgM m hO).slots t 5)
abbrev hs0_5 (hO : Ok m) (t : Fin (cfgM m hO).N) : (ms0_5 m hO t).IsWhole := hstage0_5 (((cfgM m hO).slots t 5).cast nbuf0_5)
/-- The two scratch buffers, for the cast weights of the current expert. -/
abbrev scM0_0 : Memref sig .tc .vmem S1024x2048 .bf16 := Memref.whole cc0_scratch0
abbrev scM0_1 : Memref sig .tc .vmem S1024x1024 .bf16 := Memref.whole cc0_scratch1
/-- The first as a view. -/
abbrev VS0_0 : View sig .tc .vmem S1024x2048 .bf16 := scM0_0.view
/-- The second as a view. -/
abbrev VS0_1 : View sig .tc .vmem S1024x1024 .bf16 := scM0_1.view

/-- What a body may use beside its windows: the two scratch buffers at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Moe

end
-- ==== Proof.Moe.BodyIdeal.lean ====
/- The experts' kernel body on any staging buffers: what one block's step leaves in the output rows and in the two
   scratch copies of the weights. -/
module

public import proofs.«01_k».proof.Proof.Moe.SetupIdeal
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A table's word at an offset inside it. -/
def word (xt : S190.Idx → BitVec 32) (off : Fin 1 → ℕ) (h : ∀ a, off a + S1.size a ≤ S190.size a) : BitVec 32 :=
  xt ((Rect.unit (s := S190) off S1.size h).emb (Shape.Idx.first (numel1_S1.symm ▸ Nat.one_pos)))

/-- The weights are cast again at point `i`: it is the first point, or its block's expert is not the one before's. -/
def Fresh (xt : S190.Idx → BitVec 32) (i : grid0.Coords) : Prop :=
  BitVec.ofNat 32 (i 0).val = 0#32 ∨ word xt (k0_off1 i) (k0_off1_inb i) ≠ word xt (k0_off2 i) (k0_off2_inb i)

theorem bit_or (a b : BitVec 1) : Scalar.cmpi .ne (Scalar.extui (Scalar.ori a b) : BitVec 32) 0#32 = 1#1 ↔ (a = 1#1 ∨ b = 1#1) := by
  revert a b; decide

theorem bit_eq (a b : BitVec 32) : Scalar.cmpi .eq a b = 1#1 ↔ a = b := by
  rw [show Scalar.cmpi .eq a b = BitVec.ofBool (decide (a = b)) from WordCmp.cmpi_eq_eq a b]; by_cases h : a = b <;> simp [h]
theorem bit_ne (a b : BitVec 32) : Scalar.cmpi .ne a b = 1#1 ↔ a ≠ b := by
  rw [show Scalar.cmpi .ne a b = BitVec.ofBool (decide (a ≠ b)) from WordCmp.cmpi_ne_eq a b]; by_cases h : a = b <;> simp [h]

/-- A store of a view's own sizes reads back as what was stored. -/
theorem read_store {sp : Space} {s : Shape} {e : EltTy} (v : View sig .tc sp s e) (f : v.ty.Contents (Elt F)) {off : Fin s.rank → ℕ}
    (inb : ∀ a, off a + s.size a ≤ s.size a) (x : s.Idx → Elt F e) :
    v.read (Elt F) (v.writes (Elt F) f [⟨Rect.unit off s.size inb, x⟩]) = x := by
  funext y
  have h := View.read_writes_cons_emb v f (Rect.unit off s.size inb) x [] y
  rwa [show (Rect.unit off s.size inb).emb y = y from funext fun a => Fin.ext (by
    show off a + 1 * (y a).val = (y a).val
    have := inb a; omega)] at h

/-- The output rows of a block: the experts' layer of its rows where the block is live, and zeros where it is not. -/
def rowsOut (v : BitVec 32) (x0 : Vec F S2048x512 .bf16) (x1 : Vec F S1x1024x2048 .f32) (x2 : Vec F S1x1x2048 .f32)
    (x3 : Vec F S1x1024x1024 .f32) (x4 : Vec F S1x1x1024 .f32) : Vec F S2048x512 .bf16 :=
  if v = 1#32 then k0_pay3 (k0_pay5 x0 (k0_pay1 x1) x2 (k0_pay2 x3) x4) else k0_pay4

set_option maxHeartbeats 1000000 in
/-- One point's step, whatever the branches taken. -/
theorem body_run (c : Dev nD) (i : grid0.Coords) (arg3 : Memref sig .tc .vmem S2048x512 .bf16) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S2048x512 .bf16) (harg8 : arg8.IsWhole) (arg9 : Memref sig .tc .vmem S1024x2048 .bf16) (harg9 : arg9.IsWhole) (arg10 : Memref sig .tc .vmem S1024x1024 .bf16) (harg10 : arg10.IsWhole)
    (x0 : Vec F S2048x512 .bf16) (x1 : Vec F S1x1024x2048 .f32) (x2 : Vec F S1x1x2048 .f32) (x3 : Vec F S1x1024x1024 .f32) (x4 : Vec F S1x1x1024 .f32)
    (s0 : Vec F S1024x2048 .bf16) (s1 : Vec F S1024x1024 .bf16) (xt0 : TbBuf0 (F := F) c tbM0_0) (xt1 : TbBuf0 (F := F) c tbM0_1)
    (h9 : ¬Fresh xt0 i → s0 = k0_pay1 x1) (h10 : ¬Fresh xt0 i → s1 = k0_pay2 x3)
    (hv : word xt1 (k0_off3 i) (k0_off3_inb i) = 0#32 ∨ word xt1 (k0_off3 i) (k0_off3_inb i) = 1#32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare s0 ∗ owns (c : Thread nD τ) arg10 fullShare s1 ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (rowsOut (word xt1 (k0_off3 i) (k0_off3_inb i)) x0 x1 x2 x3 x4) ∗ owns (c : Thread nD τ) arg9 fullShare (k0_pay1 x1) ∗ owns (c : Thread nD τ) arg10 fullShare (k0_pay2 x3) ∗ tbPt0 c tbM0_0 xt0 ∗ tbPt0 c tbM0_1 xt1) -∗ K ⟨⟩))
          ⊢ wp frame (wpE (defs₀ (F := F)) Variants.none c none) E (cc0_moe_experts i tbM0_0 htbM0_0 tbM0_1 htbM0_1 arg3 harg3 arg4 harg4 arg5 harg5 arg6 harg6 arg7 harg7 arg8 harg8 arg9 harg9 arg10 harg10) K := by
  intro E K
  simp only [cc0_moe_experts_eq_skeleton]; unfold cc0_moe_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hs0, HS0⟩, ⟨%fs1, %hs1, HS1⟩, HT0, HT1, Hk⟩
  obtain rfl := harg3.eq_unread hf0; obtain rfl := harg4.eq_unread hf1; obtain rfl := harg5.eq_unread hf2; obtain rfl := harg6.eq_unread hf3; obtain rfl := harg7.eq_unread hf4
  obtain rfl := harg9.eq_unread hs0; obtain rfl := harg10.eq_unread hs1
  sl_exec
  sl_step
  have e9 : View.read (Elt F) arg9.view (if hc : Scalar.cmpi .ne (Scalar.extui (Scalar.ori (Scalar.cmpi .eq (BitVec.ofNat 32 ↑(i 0)) 0#32)
        (Scalar.cmpi .ne (word xt0 (k0_off1 i) (k0_off1_inb i)) (word xt0 (k0_off2 i) (k0_off2_inb i)))) : BitVec 32) 0#32 = 1#1 then
      arg9.view.writes (Elt F) (harg9.unread s0) [⟨Rect.unit ![0, 0] S1024x2048.size inb_S1024x2048_S1024x2048_0_0, k0_pay1
        (View.readAt (Elt F) arg4.view (Rect.unit ![0, 0, 0] S1x1024x2048.size inb_S1x1024x2048_S1x1024x2048_0_0_0).toLoadRect (harg4.unread x1))⟩]
      else harg9.unread s0) = k0_pay1 x1 := by
    split_ifs with hc
    · rw [read_store, View.readAt_full, harg4.read_unread]
    · exact hs0.trans (h9 fun h => hc ((bit_or _ _).mpr (h.imp (bit_eq _ _).mpr (bit_ne _ _).mpr)))
  have e10 : View.read (Elt F) arg10.view (if hc : Scalar.cmpi .ne (Scalar.extui (Scalar.ori (Scalar.cmpi .eq (BitVec.ofNat 32 ↑(i 0)) 0#32)
        (Scalar.cmpi .ne (word xt0 (k0_off1 i) (k0_off1_inb i)) (word xt0 (k0_off2 i) (k0_off2_inb i)))) : BitVec 32) 0#32 = 1#1 then
      arg10.view.writes (Elt F) (harg10.unread s1) [⟨Rect.unit ![0, 0] S1024x1024.size inb_S1024x1024_S1024x1024_0_0, k0_pay2
        (View.readAt (Elt F) arg6.view (Rect.unit ![0, 0, 0] S1x1024x1024.size inb_S1x1024x1024_S1x1024x1024_0_0_0).toLoadRect (harg6.unread x3))⟩]
      else harg10.unread s1) = k0_pay2 x3 := by
    split_ifs with hc
    · rw [read_store, View.readAt_full, harg6.read_unread]
    · exact hs1.trans (h10 fun h => hc ((bit_or _ _).mpr (h.imp (bit_eq _ _).mpr (bit_ne _ _).mpr)))
  iapply Hk
  isplitl [H0]; · iexists _; isplitr; swap; (· iexact H0); ipureintro; exact hf0
  isplitl [H1]; · iexists _; isplitr; swap; (· iexact H1); ipureintro; exact hf1
  isplitl [H2]; · iexists _; isplitr; swap; (· iexact H2); ipureintro; exact hf2
  isplitl [H3]; · iexists _; isplitr; swap; (· iexact H3); ipureintro; exact hf3
  isplitl [H4]; · iexists _; isplitr; swap; (· iexact H4); ipureintro; exact hf4
  isplitl [H5]
  · iexists _; isplitr; swap; (· iexact H5)
    ipureintro
    have er : body_run.sl.r_3 c i arg3 harg3 arg4 harg4 arg5 harg5 arg6 harg6 arg7 harg7 arg9 harg9 arg10 harg10 x0 x1 x2 x3 x4 s0 s1 xt0
        = k0_pay5 x0 (k0_pay1 x1) x2 (k0_pay2 x3) x4 := by
      sl_unfold_words
      rw [View.readAt_full arg3.view, View.readAt_full arg5.view, View.readAt_full arg7.view, View.readAt_full arg9.view,
        View.readAt_full arg10.view, hf0, hf2, hf4]
      exact congrArg₂ (fun a b => k0_pay5 x0 a x2 b x4) e9 e10
    rw [er]
    change View.read (Elt F) arg8.view (if hc : k0_cond3 (word xt1 (k0_off3 i) (k0_off3_inb i)) = 1#1 then _ else
      if hc : k0_cond2 (word xt1 (k0_off3 i) (k0_off3_inb i)) = 1#1 then _ else _) = _
    generalize word xt1 (k0_off3 i) (k0_off3_inb i) = v at hv ⊢
    rcases hv with rfl | rfl
    · rw [dif_pos (by decide), read_store, rowsOut, if_neg (by decide)]
    · rw [dif_neg (by decide), dif_pos (by decide), read_store, rowsOut, if_pos rfl]
  isplitl [HS0]; · iexists _; isplitr; swap; (· iexact HS0); ipureintro; exact e9
  isplitl [HS1]; · iexists _; isplitr; swap; (· iexact HS1); ipureintro; exact e10
  isplitl [HT0]; · iexact HT0
  iexact HT1

end Cert.KernelIdeal.Moe

end
-- ==== Proof.Moe.FrameIdeal.lean ====
/- The frame of the experts' program: what each window and each scratch buffer holds at every point, the body's
   obligation, and the run. The scratch buffers hold, after every point, the cast weights of that point's expert: a point
   that does not cast them again has the expert of the point before. -/
module

public import proofs.«01_k».proof.Proof.Moe.BodyIdeal
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Pipeline.ValueKit
public import Idealize.ShloMosaic.Lib.Claim

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The words and the blocks -/

theorem coords_val : ∀ t : Fin grid0.N, (grid0.coords t 0).val = t.val := by decide +kernel

/-- The expert of the block at point `i`. -/
def expert (i : grid0.Coords) : BitVec 32 := word (tbl m 0) (k0_off1 i) (k0_off1_inb i)
/-- Whether the block at point `i` is live: one, or zero. -/
def live (i : grid0.Coords) : BitVec 32 := word (tbl m 1) (k0_off3 i) (k0_off3_inb i)

/-- Every word of the second table is zero or one. -/
abbrev Bits01 : Prop := ∀ i, live m i = 0#32 ∨ live m i = 1#32

/-- The word before point `t`'s is the word at the point before. -/
theorem off2_eq (t : Fin grid0.N) (hz : t.val ≠ 0) :
    k0_off2 (grid0.coords t) = k0_off1 (grid0.coords ⟨t.val - 1, Nat.lt_of_le_of_lt (Nat.sub_le _ _) t.isLt⟩) := by
  revert t; decide +kernel

theorem word_congr (xt : S190.Idx → BitVec 32) {off off' : Fin 1 → ℕ} (e : off = off') (h h') : word xt off h = word xt off' h' := by
  subst e; rfl

theorem expert_prev (t : Fin grid0.N) (hz : t.val ≠ 0) (h : ¬Fresh (tbl m 0) (grid0.coords t)) :
    expert m (grid0.coords t) = expert m (grid0.coords ⟨t.val - 1, Nat.lt_of_le_of_lt (Nat.sub_le _ _) t.isLt⟩) := by
  have h2 : word (tbl m 0) (k0_off1 (grid0.coords t)) (k0_off1_inb _) = word (tbl m 0) (k0_off2 (grid0.coords t)) (k0_off2_inb _) :=
    not_not.mp fun hn => h (Or.inr hn)
  refine h2.trans ?_
  unfold expert word
  exact word_congr _ (off2_eq t hz) _ _

/-- The windows' block indices. -/
theorem index0 (hO : Ok m) (t : Fin (cfgM m hO).N) : ((cfgM m hO).win 0).index t = ![(BitVec.ofNat 32 (grid0.coords t 0).val).toNat, 0] := rfl
theorem transform1 (pf : pre0.Contents (Elt F)) (i : grid0.Coords) :
    cc0_transform_1 k0_off1_inb numel1_S1 pf i = ![(word (pf 0) (k0_off1 i) (k0_off1_inb i)).toNat, 0, 0] := rfl
theorem index1 (hO : Ok m) (t : Fin (cfgM m hO).N) : ((cfgM m hO).win 1).index t = ![(expert m (grid0.coords t)).toNat, 0, 0] :=
  transform1 (tbl m) (grid0.coords t)
theorem transform2 (pf : pre0.Contents (Elt F)) (i : grid0.Coords) :
    cc0_transform_2 k0_off1_inb numel1_S1 pf i = ![(word (pf 0) (k0_off1 i) (k0_off1_inb i)).toNat, 0, 0] := rfl
theorem index2 (hO : Ok m) (t : Fin (cfgM m hO).N) : ((cfgM m hO).win 2).index t = ![(expert m (grid0.coords t)).toNat, 0, 0] :=
  transform2 (tbl m) (grid0.coords t)
theorem transform3 (pf : pre0.Contents (Elt F)) (i : grid0.Coords) :
    cc0_transform_3 k0_off1_inb numel1_S1 pf i = ![(word (pf 0) (k0_off1 i) (k0_off1_inb i)).toNat, 0, 0] := rfl
theorem index3 (hO : Ok m) (t : Fin (cfgM m hO).N) : ((cfgM m hO).win 3).index t = ![(expert m (grid0.coords t)).toNat, 0, 0] :=
  transform3 (tbl m) (grid0.coords t)
theorem transform4 (pf : pre0.Contents (Elt F)) (i : grid0.Coords) :
    cc0_transform_4 k0_off1_inb numel1_S1 pf i = ![(word (pf 0) (k0_off1 i) (k0_off1_inb i)).toNat, 0, 0] := rfl
theorem index4 (hO : Ok m) (t : Fin (cfgM m hO).N) : ((cfgM m hO).win 4).index t = ![(expert m (grid0.coords t)).toNat, 0, 0] :=
  transform4 (tbl m) (grid0.coords t)

/-- The weights' blocks depend on the point through its expert only. -/
theorem iblk1_congr (hO : Ok m) (c : Dev nD) (t t' : Fin (cfgM m hO).N) (h : expert m (grid0.coords t) = expert m (grid0.coords t')) :
    iblk m hO c 1 t = iblk m hO c 1 t' := by
  funext y
  refine congrArg (V m c main_arg4) (funext fun a => Fin.ext ?_)
  refine (((cfgM m hO).win 1).rect_emb_val t y a).trans (Eq.trans ?_ (((cfgM m hO).win 1).rect_emb_val t' y a).symm)
  rw [index1, index1, h]
theorem iblk3_congr (hO : Ok m) (c : Dev nD) (t t' : Fin (cfgM m hO).N) (h : expert m (grid0.coords t) = expert m (grid0.coords t')) :
    iblk m hO c 3 t = iblk m hO c 3 t' := by
  funext y
  refine congrArg (V m c main_arg6) (funext fun a => Fin.ext ?_)
  refine (((cfgM m hO).win 3).rect_emb_val t y a).trans (Eq.trans ?_ (((cfgM m hO).win 3).rect_emb_val t' y a).symm)
  rw [index3, index3, h]

theorem atD_eq (pf : pre0.Contents (Elt F)) (i : grid0.Coords) : pf.atD 1 (k0_off3 i) = word (pf 1) (k0_off3 i) (k0_off3_inb i) := by
  have hin : ∀ a : Fin (pre0.ref 1).ty.shape.rank, k0_off3 i a + 1 ≤ (pre0.ref 1).ty.shape.size a := fun (a : Fin 1) => by
    fin_cases a; exact k0_off3_inb i 0
  unfold Pipeline.Prefetch.Contents.atD
  refine (dif_pos hin).trans (congrArg (pf 1) (funext fun a => Fin.ext ?_))
  show k0_off3 i a = k0_off3 i a + 1 * 0
  omega

/-- The output window is written at every point. -/
theorem liveAt0_5 (hO : Ok m) (hb : Bits01 m) (t : Fin (cfgM m hO).N) : (cfgM m hO).idle 5 (grid0.coords t) = false := by
  show (!(k0_cond2 ((tbl m).atD 1 (k0_off3 (grid0.coords t))) == 1#1) && !(k0_cond3 ((tbl m).atD 1 (k0_off4 (grid0.coords t))) == 1#1)) = false
  have e : (tbl m).atD 1 (k0_off3 (grid0.coords t)) = live m (grid0.coords t) := atD_eq (tbl m) _
  rw [show k0_off4 (grid0.coords t) = k0_off3 (grid0.coords t) from rfl, e]
  rcases hb (grid0.coords t) with h | h <;> rw [h] <;> decide

/-! ## The pipeline's proof data -/

/-- The scratch buffers after point `t`. -/
def sc0 (hO : Ok m) (c : Dev nD) (t : Fin (cfgM m hO).N) : Vec F S1024x2048 .bf16 := k0_pay1 (iblk m hO c 1 t)
def sc1 (hO : Ok m) (c : Dev nD) (t : Fin (cfgM m hO).N) : Vec F S1024x1024 .bf16 := k0_pay2 (iblk m hO c 3 t)

/-- The output block after point `t`. -/
def outAt (hO : Ok m) (c : Dev nD) (t : Fin (cfgM m hO).N) : Vec F S2048x512 .bf16 :=
  rowsOut (live m (grid0.coords t)) (iblk m hO c 0 t) (iblk m hO c 1 t) (iblk m hO c 2 t) (iblk m hO c 3 t) (iblk m hO c 4 t)

/-- What the body may use beside its windows before point `n`: at first both scratch buffers at anything; later the cast
    weights that the point before left in them. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare (sc0 m hO c ⟨n, hn⟩) ∗ owns (c : Thread nD τ) scM0_1 fullShare (sc1 m hO c ⟨n, hn⟩)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` the scratch buffers hold that point's weights. -/
theorem PhiS_succ (hO : Ok m) (c : Dev nD) (n : ℕ) (hn : n < (cfgM m hO).N) :
    PhiS m hO c (n + 1) hn = iprop(iprop(iprop(owns (c : Thread nD τ) scM0_0 fullShare (sc0 m hO c ⟨n, hn⟩) ∗ owns (c : Thread nD τ) scM0_1 fullShare (sc1 m hO c ⟨n, hn⟩)) ∗ (∃ r, prngReg c r)) ∗ Pipeline.ΦT pre0 (tbl m) c) := rfl

/-- Before any point but the first they hold the weights of the point before. -/
theorem PhiS_pos (hO : Ok m) (c : Dev nD) (n : ℕ) (h : n ≤ (cfgM m hO).N) (hz : n ≠ 0) :
    PhiS m hO c n h = iprop(iprop(iprop(owns (c : Thread nD τ) scM0_0 fullShare (sc0 m hO c ⟨n - 1, by omega⟩) ∗ owns (c : Thread nD τ) scM0_1 fullShare (sc1 m hO c ⟨n - 1, by omega⟩)) ∗ (∃ r, prngReg c r)) ∗ Pipeline.ΦT pre0 (tbl m) c) := by
  cases n with
  | zero => exact absurd rfl hz
  | succ n => rfl

/-- The data of the pipeline on core `c`: the arrays as the launch finds them; after the body, an input's buffer still at its
    block and the output's at the block's rows; and the scratch buffers between points. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO c t
  Φ t := PhiS m hO c t.val (Nat.le_of_lt_succ t.isLt)
  q _ := fullShare
  owed _ := 0

/-- The arrays of the data are those the launch finds. -/
theorem A_eq (hO : Ok m) (c : Dev nD) (w : Fin (cfgM m hO).W) : (dats m hO 0 c).A w = V m c (Pipeline.arrRef spec0 w) := by
  dsimp only [dats]

/-- What the body may use at the start of point `t`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves in each window's buffer. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = outAt m hO c t := by dsimp only [dats]; try rfl

/-- What it finds in each input's. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body at a point -/

/-- What the body is called with at point `t`, window by window, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t)

set_option maxHeartbeats 1600000 in
/-- The body at any point: the inputs' buffers hold their blocks, the scratch buffers what the point before left, which is
    this point's weights unless they are cast again. -/
theorem sound_body (hO : Ok m) (hb : Bits01 m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO hb t]; try rfl, after0_5]
  by_cases hz : t.val = 0
  · rw [PhiS_castSucc m hO c t, PhiS_zero m hO c _ _ hz, PhiT0_eq, PhiA0_eq]
    have hf : Fresh (tbl m 0) (grid0.coords t) := Or.inl (by rw [coords_val, hz])
    iintro ⟨⟨⟨⟨⟨%s0, HS0⟩, ⟨%s1, HS1⟩⟩, Hg⟩, ⟨HT0, HT1⟩⟩, Ho, ⟨%d0, H0⟩, ⟨%d1, H1⟩, ⟨%d2, H2⟩, ⟨%d3, H3⟩, ⟨%d4, H4⟩, ⟨%d5, H5⟩⟩
    iapply (body_run c (grid0.coords t) _ _ _ _ _ _ _ _ _ _ _ _ _ _ _ _ (iblk m hO c 0 t) (iblk m hO c 1 t) (iblk m hO c 2 t) (iblk m hO c 3 t) (iblk m hO c 4 t) s0 s1 (tbl m 0) (tbl m 1) (fun h => absurd hf h) (fun h => absurd hf h) (hb _) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HT0]; · iexact HT0
    isplitl [HT1]; · iexact HT1
    iintro ⟨H0, H1, H2, H3, H4, H5, HS0, HS1, HT0, HT1⟩
    isplitl [HS0 HS1 Hg HT0 HT1]
    · isplitl [HS0 HS1 Hg]
      · isplitl [HS0 HS1]
        · isplitl [HS0]; · iexact HS0
          iexact HS1
        iexact Hg
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    iexact H5
  · rw [PhiS_castSucc m hO c t, PhiS_pos m hO c _ _ hz, PhiT0_eq]
    have e0 : ¬Fresh (tbl m 0) (grid0.coords t) → sc0 m hO c ⟨t.val - 1, Nat.lt_of_le_of_lt (Nat.sub_le _ _) t.isLt⟩ = k0_pay1 (iblk m hO c 1 t) := fun h => by
      unfold sc0; rw [iblk1_congr m hO c _ _ (expert_prev m t hz h)]
    have e1 : ¬Fresh (tbl m 0) (grid0.coords t) → sc1 m hO c ⟨t.val - 1, Nat.lt_of_le_of_lt (Nat.sub_le _ _) t.isLt⟩ = k0_pay2 (iblk m hO c 3 t) := fun h => by
      unfold sc1; rw [iblk3_congr m hO c _ _ (expert_prev m t hz h)]
    iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩⟩
    iapply (body_run c (grid0.coords t) _ _ _ _ _ _ _ _ _ _ _ _ _ _ _ _ (iblk m hO c 0 t) (iblk m hO c 1 t) (iblk m hO c 2 t) (iblk m hO c 3 t) (iblk m hO c 4 t) _ _ (tbl m 0) (tbl m 1) e0 e1 (hb _) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HT0]; · iexact HT0
    isplitl [HT1]; · iexact HT1
    iintro ⟨H0, H1, H2, H3, H4, H5, HS0, HS1, HT0, HT1⟩
    isplitl [HS0 HS1 Hg HT0 HT1]
    · isplitl [HS0 HS1 Hg]
      · isplitl [HS0 HS1]
        · isplitl [HS0]; · iexact HS0
          iexact HS1
        iexact Hg
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    iexact H5

/-- The body that is called at point `t`. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body does at every point what the data say. -/
theorem body_obligation (hO : Ok m) (hb : Bits01 m) (c : Dev nD) : BodyObligation (dats (F := F) m hO 0 c) (defs₀ (F := F)) Variants.none () Set.univ := fun t => by
  rw [bigSep_W0, bigSep_W0, defs₀_row m hO]
  exact triple_restated (sound_body m hO hb c t) rfl .rfl fun _ => .rfl

/-- What the launch gives is what the first point wants. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point the scratch buffers may be forgotten. -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1⟩, Hg⟩, -⟩
  isplitl [HS0 HS1]
  · isplitl [HS0]
    · iexists _; iexact HS0
    iexists _; iexact HS1
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 190 := N_0; omega)

/-! ## The run and the frame -/

set_option backward.isDefEq.respectTransparency.types false in
/-- The run: every fair execution ends, with every array as the data say and every counter at zero. -/
theorem run_main_quiescent (hO : Ok m) (hb : Bits01 m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO hb c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The same without the counters. -/
theorem run_main (hO : Ok m) (hb : Bits01 m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO hb)

/-- The arguments end as they were given. -/
theorem unchanged (hO : Ok m) (hb : Bits01 m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ hO (dats m hO) (A_eq m hO) (run_main m ρ hO hb)

/-- Every fair execution ends with the arguments as they were given and the counters at zero. -/
theorem frame (hO : Ok m) (hb : Bits01 m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hO hb) ((θ_run defs _ _).mono (fun _ h => h.2) (run_main_quiescent m ρ hO hb))

end Cert.KernelIdeal.Moe

end
-- ==== Proof.Moe.TablesIdeal.lean ====
/- The two tables as the host lines make them: the expert of each block, counted over the experts' ends, is below 32;
   the live word is zero or one. So the launch's side conditions hold whatever the arguments. -/
module

public import proofs.«01_k».proof.Proof.Moe.FrameIdeal
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Tactic
public import Idealize.ShloMosaic.Lib.Pipeline.ValueKit
public import Idealize.ShloMosaic.Lib.Claim

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first row of each block, as a float. -/
def firstRow : FVec F S190 .f32 := mulf (sitofp .f32 (iotaInDim S190 32 0)) (broadcastInDim S190 ![] bcast_S_S190 (constant S_ .f32 0x44800000#32))

/-- How many experts end at or before each block's first row. -/
def endsBefore (ends : FVec F S32 .f32) : IVec S190 32 :=
  Host.reduce IntOp.addi (extui 32 (cmpf .oge
    (broadcastInDim S190x32 ![0, 1] bcast_S190x1_S190x32_0_1 (broadcastInDim S190x1 ![0] bcast_S190_S190x1_0 (firstRow (F := F))))
    (broadcastInDim S190x32 ![0, 1] bcast_S1x32_S190x32_0_1 (broadcastInDim S1x32 ![1] bcast_S32_S1x32_1 ends))) natLt_1_32)
    (constantI S_ 32 0#32) reducesTo_S190x32_S190_d1 h_S_

/-- The expert of each block. -/
def blockExpert (ends : FVec F S32 .f32) : IVec S190 32 :=
  minsi (endsBefore ends) (broadcastInDim S190 ![] bcast_S_S190 (constantI S_ 32 31#32))

/-- The expert of each block as an index with a negative one wrapped. -/
def blockIndex (ends : FVec F S32 .f32) : IVec S190x1 32 :=
  broadcastInDim S190x1 ![0] bcast_S190_S190x1_0 (select (cmpi .slt (blockExpert ends) (broadcastInDim S190 ![] bcast_S_S190 (constantI S_ 32 0#32)))
    (addi (blockExpert ends) (broadcastInDim S190 ![] bcast_S_S190 (constantI S_ 32 32#32))) (blockExpert ends))

/-- Whether each block holds a row of its expert. -/
def blockLive (ends starts used : FVec F S32 .f32) : IVec S190 32 :=
  extui 32 (cmpf .olt (firstRow (F := F)) (Host.gather gather_S32_S190x1_S190_n_0_n_n_0_1_1 (addf starts used) (blockIndex ends))) natLt_1_32

theorem V_v11 (c : Dev nD) : V m c main_v11 = blockExpert (m ((c : Thread nD τ).loc main_arg0)) := by
  unfold_abbrev_sides
  after_results
  rfl

theorem V_v21 (c : Dev nD) : V m c main_v21
    = blockLive (m ((c : Thread nD τ).loc main_arg0)) (m ((c : Thread nD τ).loc main_arg1)) (m ((c : Thread nD τ).loc main_arg2)) := by
  unfold_abbrev_sides
  after_results
  rfl

theorem wide_le (b : BitVec 1) : (BitVec.setWidth 32 b).toNat ≤ 1 := by revert b; decide
theorem wide_bit (b : BitVec 1) : BitVec.setWidth 32 b = 0#32 ∨ BitVec.setWidth 32 b = 1#32 := by revert b; decide

theorem toNat_foldl_le {ι : Type} (g : ι → BitVec 32) (hg : ∀ n, (g n).toNat ≤ 1) (l : List ι) :
    ∀ z : BitVec 32, z.toNat + l.length < 2 ^ 32 → (l.foldl (fun r n => IntOp.addi r (g n)) z).toNat ≤ z.toNat + l.length := by
  induction l with
  | nil => intro z _; exact le_refl _
  | cons n l ih =>
    intro z hz
    rw [List.length_cons] at hz ⊢
    have h1 := hg n
    have e : (IntOp.addi z (g n)).toNat = z.toNat + (g n).toNat := by
      show (z + g n).toNat = _
      rw [BitVec.toNat_add, Nat.mod_eq_of_lt (by omega)]
    have := ih (IntOp.addi z (g n)) (by omega)
    rw [List.foldl_cons]
    omega

theorem endsBefore_le (ends : FVec F S32 .f32) (j : S190.Idx) : (endsBefore ends j).toNat ≤ 6080 := by
  unfold endsBefore Host.reduce
  refine le_trans (toNat_foldl_le _ (fun n => ?_) _ _ ?_) ?_
  · show (BitVec.setWidth 32 _).toNat ≤ 1
    exact wide_le _
  · have := List.length_filter_le (fun n => decide (reducesTo_S190x32_S190_d1.drop (S190x32.rowMajor.symm n) = j)) (List.finRange S190x32.numel)
    rw [List.length_finRange] at this
    have e : S190x32.numel = 6080 := by decide
    have e0 : (constantI S_ 32 0#32 (Shape.Idx.first h_S_)).toNat = 0 := rfl
    omega
  · have := List.length_filter_le (fun n => decide (reducesTo_S190x32_S190_d1.drop (S190x32.rowMajor.symm n) = j)) (List.finRange S190x32.numel)
    rw [List.length_finRange] at this
    have e : S190x32.numel = 6080 := by decide
    have e0 : (constantI S_ 32 0#32 (Shape.Idx.first h_S_)).toNat = 0 := rfl
    omega

theorem minsi_31 (x : BitVec 32) (h : x.toNat ≤ 6080) : (IntOp.minsi x 31#32).toNat = min x.toNat 31 := by
  have e : x.slt 31#32 = decide (x.toNat < 31) := by
    rw [BitVec.slt_eq_decide, WordCmp.toInt_eq_toNat_of_lt_half (w := 32) (by omega)]
    exact decide_eq_decide.mpr Int.ofNat_lt
  unfold IntOp.minsi
  rw [e]
  by_cases hx : x.toNat < 31
  · rw [decide_eq_true hx, if_pos rfl]; omega
  · rw [decide_eq_false hx, if_neg (by decide)]
    show 31 = _
    omega

theorem blockExpert_toNat (ends : FVec F S32 .f32) (j : S190.Idx) : (blockExpert ends j).toNat = min (endsBefore ends j).toNat 31 :=
  minsi_31 _ (endsBefore_le ends j)

theorem blockLive_bit (ends starts used : FVec F S32 .f32) (j : S190.Idx) : blockLive ends starts used j = 0#32 ∨ blockLive ends starts used j = 1#32 := by
  unfold blockLive
  show BitVec.setWidth 32 _ = 0#32 ∨ BitVec.setWidth 32 _ = 1#32
  exact wide_bit _

theorem expert_eq (i : grid0.Coords) : ∃ j : S190.Idx, (j 0).val = (k0_off1 i) 0 ∧ expert m i = blockExpert (m (((0 : Dev nD) : Thread nD τ).loc main_arg0)) j :=
  ⟨_, by show k0_off1 i 0 + 1 * 0 = _; omega, congrFun (V_v11 m 0) _⟩

theorem live_eq (i : grid0.Coords) : ∃ j : S190.Idx, (j 0).val = (k0_off3 i) 0 ∧ live m i = blockLive (m (((0 : Dev nD) : Thread nD τ).loc main_arg0))
    (m (((0 : Dev nD) : Thread nD τ).loc main_arg1)) (m (((0 : Dev nD) : Thread nD τ).loc main_arg2)) j :=
  ⟨_, by show k0_off3 i 0 + 1 * 0 = _; omega, congrFun (V_v21 m 0) _⟩

theorem bits01 : Bits01 m := fun i => by
  obtain ⟨j, -, h⟩ := live_eq m i
  rw [h]; exact blockLive_bit _ _ _ j

theorem expert_lt (i : grid0.Coords) : (expert m i).toNat < 32 := by
  obtain ⟨j, -, h⟩ := expert_eq m i
  rw [h, blockExpert_toNat]; omega

theorem ok : Ok m := by
  refine ⟨fun i => ⟨fun a => ?_, Or.inl rfl⟩, fun i => ⟨fun a => ?_, Or.inl rfl⟩, fun i => ⟨fun a => ?_, Or.inl rfl⟩, fun i => ⟨fun a => ?_, Or.inl rfl⟩⟩
  · rw [transform1]; have := expert_lt m i; fin_cases a <;> [exact Nat.mul_le_mul_right 1 this; exact Nat.le_refl _; exact Nat.le_refl _]
  · rw [transform2]; have := expert_lt m i; fin_cases a <;> [exact Nat.mul_le_mul_right 1 this; exact Nat.le_refl _; exact Nat.le_refl _]
  · rw [transform3]; have := expert_lt m i; fin_cases a <;> [exact Nat.mul_le_mul_right 1 this; exact Nat.le_refl _; exact Nat.le_refl _]
  · rw [transform4]; have := expert_lt m i; fin_cases a <;> [exact Nat.mul_le_mul_right 1 this; exact Nat.le_refl _; exact Nat.le_refl _]

end Cert.KernelIdeal.Moe

end
-- ==== Proof.Moe.Layer.lean ====
/- One row of one expert's feed-forward block over the reals, and the two readings of it: the reference's batched
   products and the kernel body's halves. -/
module

public import Idealize.ShloMosaic.Lib.Pointwise

@[expose] public section

noncomputable section

namespace Cert.Moe

open Idealize.ShloMosaic

/-- One unit before the activation: the row's product with a column of the weights, and the bias. -/
def unit (x w : Fin 1024 → EReal) (b : EReal) : EReal := ∑ k, x k * w k + b

/-- The activation of a gate and an up value: both clamped at seven, the gate through its logistic. -/
def act (gate up : EReal) : EReal :=
  (min (Ideal.ofBits .f32 0x40E00000#32) (max (Ideal.ofBits .f32 0xC0E00000#32) up) + 1) * min gate (Ideal.ofBits .f32 0x40E00000#32)
    * Ideal.logistic (Ideal.ofBits .f32 0x3FD9DB23#32 * min gate (Ideal.ofBits .f32 0x40E00000#32))

/-- A row's value at output column `d`: the hidden units' activations times the second weights, and the second bias.
    The gates are the first 1024 columns of the first weights, the up values the other 1024. -/
def expertRow (x : Fin 1024 → EReal) (w : Fin 1024 → Fin 2048 → EReal) (b : Fin 2048 → EReal)
    (w' : Fin 1024 → Fin 1024 → EReal) (b' : Fin 1024 → EReal) (d : Fin 1024) : EReal :=
  ∑ f : Fin 1024, act (unit x (fun k => w k ⟨f.val, by omega⟩) (b ⟨f.val, by omega⟩))
      (unit x (fun k => w k ⟨1024 + f.val, by omega⟩) (b ⟨1024 + f.val, by omega⟩)) * w' f d
    + b' d

end Cert.Moe

end
-- ==== Proof.Moe.Payloads.lean ====
/- What the kernel's body computes from its blocks, element by element. -/
module

public import proofs.«01_k».proof.Proof.Moe.BodyIdeal
public import proofs.«01_k».proof.Proof.Moe.Layer
public import Idealize.ShloMosaic.Lib.Pointwise

@[expose] public section

set_option maxRecDepth 16384

noncomputable section

namespace Cert.KernelIdeal.Moe

open Cert.KernelIdeal.Gen
open Idealize.ShloMosaic Idealize.ShloMosaic.Tactic

/-- A row of 1024 held as two packed rows of 512, at `k`. -/
theorem packed_sum (x : FVec Ideal S2048x512 .bf16) (a : Fin 1024) (w : Fin 1024 → EReal) :
    ∑ k : Fin 1024, x (ix2 ⟨a.val * 2 + k.val / 512, by omega⟩ ⟨k.val % 512, by omega⟩) * w k
      = ∑ k : Fin 512, x (ix2 ⟨2 * a.val, by omega⟩ k) * w ⟨k.val, by omega⟩
        + ∑ k : Fin 512, x (ix2 ⟨2 * a.val + 1, by omega⟩ k) * w ⟨512 + k.val, by omega⟩ := by
  rw [Fin.sum_univ_two_halves 512 512 rfl]
  refine congrArg₂ (· + ·) (Finset.sum_congr rfl fun k _ => ?_) (Finset.sum_congr rfl fun k _ => ?_)
  · refine congrArg₂ (· * ·) (congrArg x ?_) rfl
    exact congrArg₂ ix2 (Fin.ext (by show a.val * 2 + k.val / 512 = 2 * a.val; omega)) (Fin.ext (by show k.val % 512 = k.val; omega))
  · refine congrArg₂ (· * ·) (congrArg x ?_) rfl
    exact congrArg₂ ix2 (Fin.ext (by show a.val * 2 + (512 + k.val) / 512 = 2 * a.val + 1; omega)) (Fin.ext (by show (512 + k.val) % 512 = k.val; omega))

theorem pay5_apply (x : Vec Ideal S2048x512 .bf16) (w : Vec Ideal S1x1024x2048 .f32) (b : Vec Ideal S1x1x2048 .f32)
    (w' : Vec Ideal S1x1024x1024 .f32) (b' : Vec Ideal S1x1x1024 .f32) (a d : Fin 1024) :
    k0_pay5 (F := Ideal) x (k0_pay1 w) b (k0_pay2 w') b' (ix2 a d)
      = Cert.Moe.expertRow (fun k => x (ix2 ⟨a.val * 2 + k.val / 512, by omega⟩ ⟨k.val % 512, by omega⟩)) (fun k n => w (ix3 0 k n))
          (fun n => b (ix3 0 0 n)) (fun f d => w' (ix3 0 f d)) (fun d => b' (ix3 0 0 d)) d := by
  unfold Cert.Moe.expertRow Cert.Moe.act Cert.Moe.unit
  simp only [packed_sum x a]
  pointwise [k0_pay5, k0_pay1, k0_pay2]

theorem pay3_apply (v : FVec Ideal S1024x1024 .f32) (r : Fin 2048) (q : Fin 512) :
    k0_pay3 (F := Ideal) v (ix2 r q) = v (ix2 ⟨r.val / 2, by omega⟩ ⟨r.val % 2 * 512 + q.val, by omega⟩) := by
  pointwise [k0_pay3]
  split
  · exact congrArg v (congrArg₂ ix2 rfl (Fin.ext (by show q.val = r.val % 2 * 512 + q.val; omega)))
  · exact congrArg v (congrArg₂ ix2 rfl (Fin.ext (by show 512 + q.val = r.val % 2 * 512 + q.val; omega)))

theorem pay4_apply (j : S2048x512.Idx) : k0_pay4 (F := Ideal) j = 0 := by
  pointwise [k0_pay4]

/-- What a grid point stores, at packed row `r` and column `q`: its expert applied to the row, or zero. -/
theorem rowsOut_apply (v : BitVec 32) (x : Vec Ideal S2048x512 .bf16) (w : Vec Ideal S1x1024x2048 .f32) (b : Vec Ideal S1x1x2048 .f32)
    (w' : Vec Ideal S1x1024x1024 .f32) (b' : Vec Ideal S1x1x1024 .f32) (r : Fin 2048) (q : Fin 512) :
    rowsOut (F := Ideal) v x w b w' b' (ix2 r q)
      = if v = 1#32 then Cert.Moe.expertRow (fun k => x (ix2 ⟨r.val / 2 * 2 + k.val / 512, by omega⟩ ⟨k.val % 512, by omega⟩)) (fun k n => w (ix3 0 k n))
          (fun n => b (ix3 0 0 n)) (fun f d => w' (ix3 0 f d)) (fun d => b' (ix3 0 0 d)) ⟨r.val % 2 * 512 + q.val, by omega⟩
        else 0 := by
  unfold rowsOut
  split
  · rw [pay3_apply, pay5_apply]
  · exact pay4_apply _

end Cert.KernelIdeal.Moe

end
-- ==== Proof.Moe.Blocks.lean ====
/- The blocks the windows place before a grid point, read at an element of the array each comes from. -/
module

public import proofs.«01_k».proof.Proof.Moe.TablesIdeal
public import proofs.«01_k».proof.Proof.Moe.Payloads
public import Idealize.ShloMosaic.Lib.Pipeline.ValueKit
public import Idealize.ShloMosaic.Lib.Pipeline.Covers
public import Idealize.ShloMosaic.Lib.StableHlo.Run
public import Idealize.ShloMosaic.Lib.Pointwise
public import Idealize.ShloMosaic.Lib.Tactic

@[expose] public section

set_option maxRecDepth 16384

noncomputable section

namespace Cert.KernelIdeal.Moe

open Cert.KernelIdeal.Gen
open Idealize.ShloMosaic Idealize.ShloMosaic.TcCoe Idealize.ShloMosaic.Tactic Idealize.SL.Sem

variable {F : FTy → Type} [FloatOps F]
variable (m : (ℓ : Loc nD τ sig) → Buf (Elt F) ℓ)

/-- The two bias arrays as the host lines reshape them. -/
theorem V_v22 (c : Dev nD) : V m c main_v22 = shapeCast S32x1x2048 (m ((c : Thread nD τ).loc main_arg5)) shapeCasts_S32x2048_S32x1x2048 := by
  unfold_abbrev_sides
  after_results
  rfl

theorem V_v23 (c : Dev nD) : V m c main_v23 = shapeCast S32x1x1024 (m ((c : Thread nD τ).loc main_arg7)) shapeCasts_S32x1024_S32x1x1024 := by
  unfold_abbrev_sides
  after_results
  rfl

/-- The expert of a grid point. -/
def expertAt (t : Fin grid0.N) : Fin 32 := ⟨(expert m (grid0.coords t)).toNat, expert_lt m _⟩

theorem coord_nat (t : Fin grid0.N) : (BitVec.ofNat 32 (grid0.coords t 0).val).toNat = t.val := by
  rw [coords_val, BitVec.toNat_ofNat, Nat.mod_eq_of_lt]
  have : t.val < 190 := t.isLt
  omega

theorem iblk0_apply (hO : Ok m) (c : Dev nD) (t : Fin (cfgM m hO).N) (r : Fin 2048) (q : Fin 512) (R : Fin 389120) (hR : R.val = t.val * 2048 + r.val) :
    iblk m hO c 0 t (ix2 r q) = m ((c : Thread nD τ).loc main_arg3) (ix2 R q) := by
  have hA : V m c (Pipeline.arrRef spec0 0) = m ((c : Thread nD τ).loc main_arg3) := V_main_arg3 m c
  refine (congrFun hA _).trans ?_
  show m ((c : Thread nD τ).loc main_arg3) _ = _
  refine congrArg (m ((c : Thread nD τ).loc main_arg3)) (funext fun a => Fin.ext ?_)
  have h := ((cfgM m hO).win 0).rect_emb_val t (ix2 r q) a
  refine h.trans ?_
  rw [index0, coord_nat]
  match a with
  | ⟨0, _⟩ => exact hR.symm
  | ⟨1, _⟩ => show 0 * 512 + q.val = q.val; omega

theorem emb1 (hO : Ok m) (t : Fin (cfgM m hO).N) (k : Fin 1024) (n : Fin 2048) :
    (((cfgM m hO).win 1).blk t).view.emb (ix3 0 k n) = (ix3 (expertAt m t) k n : S32x1024x2048.Idx) := by
  refine funext fun a => Fin.ext ?_
  refine (((cfgM m hO).win 1).rect_emb_val t (ix3 0 k n) a).trans ?_
  rw [index1]
  match a with
  | ⟨0, _⟩ => show (expert m (grid0.coords t)).toNat * 1 + 0 = (expert m (grid0.coords t)).toNat; omega
  | ⟨1, _⟩ => show 0 * 1024 + k.val = k.val; omega
  | ⟨2, _⟩ => show 0 * 2048 + n.val = n.val; omega

theorem iblk1_apply (hO : Ok m) (c : Dev nD) (t : Fin (cfgM m hO).N) (k : Fin 1024) (n : Fin 2048) :
    iblk m hO c 1 t (ix3 0 k n) = m ((c : Thread nD τ).loc main_arg4) (ix3 (expertAt m t) k n) :=
  (congrFun (V_main_arg4 m c : V m c (Pipeline.arrRef spec0 1) = m ((c : Thread nD τ).loc main_arg4)) _).trans
    (congrArg (m ((c : Thread nD τ).loc main_arg4)) (emb1 m hO t k n))

theorem emb3 (hO : Ok m) (t : Fin (cfgM m hO).N) (k n : Fin 1024) :
    (((cfgM m hO).win 3).blk t).view.emb (ix3 0 k n) = (ix3 (expertAt m t) k n : S32x1024x1024.Idx) := by
  refine funext fun a => Fin.ext ?_
  refine (((cfgM m hO).win 3).rect_emb_val t (ix3 0 k n) a).trans ?_
  rw [index3]
  match a with
  | ⟨0, _⟩ => show (expert m (grid0.coords t)).toNat * 1 + 0 = (expert m (grid0.coords t)).toNat; omega
  | ⟨1, _⟩ => show 0 * 1024 + k.val = k.val; omega
  | ⟨2, _⟩ => show 0 * 1024 + n.val = n.val; omega

theorem iblk3_apply (hO : Ok m) (c : Dev nD) (t : Fin (cfgM m hO).N) (k n : Fin 1024) :
    iblk m hO c 3 t (ix3 0 k n) = m ((c : Thread nD τ).loc main_arg6) (ix3 (expertAt m t) k n) :=
  (congrFun (V_main_arg6 m c : V m c (Pipeline.arrRef spec0 3) = m ((c : Thread nD τ).loc main_arg6)) _).trans
    (congrArg (m ((c : Thread nD τ).loc main_arg6)) (emb3 m hO t k n))

theorem iblk2_apply (hO : Ok m) (c : Dev nD) (t : Fin (cfgM m hO).N) (n : Fin 2048) :
    iblk m hO c 2 t (ix3 0 0 n) = m ((c : Thread nD τ).loc main_arg5) (ix2 (expertAt m t) n) := by
  have hA : V m c (Pipeline.arrRef spec0 2) = _ := V_v22 m c
  refine (congrFun hA _).trans ?_
  show shapeCast S32x1x2048 (m ((c : Thread nD τ).loc main_arg5)) shapeCasts_S32x2048_S32x1x2048 _ = _
  have e : (((cfgM m hO).win 2).blk t).view.emb (ix3 0 0 n) = (ix3 (expertAt m t) 0 n : S32x1x2048.Idx) := by
    refine funext fun a => Fin.ext ?_
    refine (((cfgM m hO).win 2).rect_emb_val t (ix3 0 0 n) a).trans ?_
    rw [index2]
    match a with
    | ⟨0, _⟩ => show (expert m (grid0.coords t)).toNat * 1 + 0 = (expert m (grid0.coords t)).toNat; omega
    | ⟨1, _⟩ => rfl
    | ⟨2, _⟩ => show 0 * 2048 + n.val = n.val; omega
  refine (congrArg (shapeCast S32x1x2048 (m ((c : Thread nD τ).loc main_arg5)) shapeCasts_S32x2048_S32x1x2048) e).trans ?_
  generalize m ((c : Thread nD τ).loc main_arg5) = x
  generalize expertAt m t = e
  revert x
  intro (x : FVec F S32x2048 .f32)
  show shapeCast S32x1x2048 x _ _ = x _
  pointwise

theorem iblk4_apply (hO : Ok m) (c : Dev nD) (t : Fin (cfgM m hO).N) (n : Fin 1024) :
    iblk m hO c 4 t (ix3 0 0 n) = m ((c : Thread nD τ).loc main_arg7) (ix2 (expertAt m t) n) := by
  have hA : V m c (Pipeline.arrRef spec0 4) = _ := V_v23 m c
  refine (congrFun hA _).trans ?_
  show shapeCast S32x1x1024 (m ((c : Thread nD τ).loc main_arg7)) shapeCasts_S32x1024_S32x1x1024 _ = _
  have e : (((cfgM m hO).win 4).blk t).view.emb (ix3 0 0 n) = (ix3 (expertAt m t) 0 n : S32x1x1024.Idx) := by
    refine funext fun a => Fin.ext ?_
    refine (((cfgM m hO).win 4).rect_emb_val t (ix3 0 0 n) a).trans ?_
    rw [index4]
    match a with
    | ⟨0, _⟩ => show (expert m (grid0.coords t)).toNat * 1 + 0 = (expert m (grid0.coords t)).toNat; omega
    | ⟨1, _⟩ => rfl
    | ⟨2, _⟩ => show 0 * 1024 + n.val = n.val; omega
  refine (congrArg (shapeCast S32x1x1024 (m ((c : Thread nD τ).loc main_arg7)) shapeCasts_S32x1024_S32x1x1024) e).trans ?_
  generalize m ((c : Thread nD τ).loc main_arg7) = x
  generalize expertAt m t = e
  revert x
  intro (x : FVec F S32x1024 .f32)
  show shapeCast S32x1x1024 x _ _ = x _
  pointwise

theorem nblk5_0 (hO : Ok m) : ((cfgM m hO).win 5).nblk (0 : Fin 2) = 190 := by show (389120 + 2048 - 1) / 2048 = 190; decide
theorem nblk5_1 (hO : Ok m) : ((cfgM m hO).win 5).nblk (1 : Fin 2) = 1 := by show (512 + 512 - 1) / 512 = 1; decide

/-- Every packed row of the result belongs to some point's block. -/
theorem covers5 (hO : Ok m) : ((cfgM m hO).win 5).Covers := by
  have hs : ∀ a : Fin 2, 0 < ((cfgM m hO).win 5).size a := by
    intro a
    match a with
    | ⟨0, _⟩ => show 0 < 2048; decide
    | ⟨1, _⟩ => show 0 < 512; decide
  refine ((cfgM m hO).win 5).covers_of_indexMap_surj rfl hs fun β => ?_
  have h0 : (β (0 : Fin 2)).val < 190 := lt_of_lt_of_eq (β (0 : Fin 2)).isLt (nblk5_0 m hO)
  have h1 : (β (1 : Fin 2)).val < 1 := lt_of_lt_of_eq (β (1 : Fin 2)).isLt (nblk5_1 m hO)
  have hb : ∀ d : Fin 1, (β (0 : Fin 2)).val < grid0.bound d := by
    intro d
    match d with
    | ⟨0, _⟩ => exact h0
  have key : ∀ a : Fin 2, ((cfgM m hO).win 5).indexMap (fun d => ⟨(β (0 : Fin 2)).val, hb d⟩) a = (β a).val := by
    intro a
    match a with
    | ⟨0, _⟩ =>
      show (BitVec.ofNat 32 (β (0 : Fin 2)).val).toNat = (β (0 : Fin 2)).val
      rw [BitVec.toNat_ofNat, Nat.mod_eq_of_lt (by omega)]
    | ⟨1, _⟩ =>
      show 0 = (β (1 : Fin 2)).val
      omega
  exact ⟨_, key⟩

end Cert.KernelIdeal.Moe

end
-- ==== Proof.Moe.Take.lean ====
/- Slices of an array along its first axis, chosen by a column of indices: the gather read at an element, for an array of
   matrices and for an array of rows. -/
module

public import Idealize.ShloMosaic.Lib.Pointwise

@[expose] public section

noncomputable section

namespace Cert.Moe

open Idealize.ShloMosaic

variable {α : Type}

/-- The dimension numbers that take one matrix per index. -/
abbrev matrixDims (N A B T : Nat)
    (wf : GatherDims.WF ⟨3, ![N, A, B]⟩ ⟨2, ![T, 1]⟩ ⟨3, ![T, A, B]⟩ [1, 2] [0] [] [0] [] 1 ![1, A, B]) :
    GatherDims ⟨3, ![N, A, B]⟩ ⟨2, ![T, 1]⟩ ⟨3, ![T, A, B]⟩ where
  offsetDims := [1, 2]
  collapsedSliceDims := [0]
  operandBatchingDims := []
  startIndicesBatchingDims := []
  startIndexMap := [0]
  indexVectorDim := 1
  sliceSizes := ![1, A, B]
  wf := wf

/-- The dimension numbers that take one row per index. -/
abbrev rowDims (N B T : Nat)
    (wf : GatherDims.WF ⟨2, ![N, B]⟩ ⟨2, ![T, 1]⟩ ⟨2, ![T, B]⟩ [1] [0] [] [0] [] 1 ![1, B]) :
    GatherDims ⟨2, ![N, B]⟩ ⟨2, ![T, 1]⟩ ⟨2, ![T, B]⟩ where
  offsetDims := [1]
  collapsedSliceDims := [0]
  operandBatchingDims := []
  startIndicesBatchingDims := []
  startIndexMap := [0]
  indexVectorDim := 1
  sliceSizes := ![1, B]
  wf := wf

/-- The matrix taken for index `t` is the array's at the start index there, kept inside the array. -/
theorem take_matrix {N A B T : Nat} (wf : GatherDims.WF ⟨3, ![N, A, B]⟩ ⟨2, ![T, 1]⟩ ⟨3, ![T, A, B]⟩ [1, 2] [0] [] [0] [] 1 ![1, A, B])
    (x : (⟨3, ![N, A, B]⟩ : Shape).Idx → α) (idx : IVec ⟨2, ![T, 1]⟩ 32) (t : Fin T) (a : Fin A) (b : Fin B) (e : Fin N)
    (he : min (idx (ix2 t 0)).toInt.toNat (N - 1) = e.val) :
    Host.gather (matrixDims N A B T wf) x idx (ix3 t a b) = x (ix3 e a b) := by
  unfold Host.gather
  refine congrArg x (funext fun k => Fin.ext ?_)
  show (matrixDims N A B T wf).start (ix3 t a b) idx k + (matrixDims N A B T wf).batchCoord (ix3 t a b) k
    + (matrixDims N A B T wf).offCoord (ix3 t a b) k = _
  rw [GatherDims.batchCoord_eq_zero _ _ _ List.not_mem_nil]
  have hk : k = (0 : Fin 3) ∨ k = (1 : Fin 3) ∨ k = (2 : Fin 3) := by
    match k with
    | ⟨0, _⟩ => exact .inl rfl
    | ⟨1, _⟩ => exact .inr (.inl rfl)
    | ⟨2, _⟩ => exact .inr (.inr rfl)
  rcases hk with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ (matrixDims N A B T wf).startIndexMap from List.mem_singleton.mpr rfl)]
    refine Eq.trans (congrArg (fun i => min (idx i).toInt.toNat (N - 1)) (?_ : _ = ix2 t 0)) he
    funext c; refine Fin.ext ?_
    match c with
    | ⟨0, _⟩ => rfl
    | ⟨1, _⟩ => rfl
  · unfold GatherDims.start
    rw [dif_neg (by simp)]
    show 0 + 0 + a.val = a.val
    omega
  · unfold GatherDims.start
    rw [dif_neg (by simp)]
    show 0 + 0 + b.val = b.val
    omega

/-- The row taken for index `t` is the array's at the start index there, kept inside the array. -/
theorem take_row {N B T : Nat} (wf : GatherDims.WF ⟨2, ![N, B]⟩ ⟨2, ![T, 1]⟩ ⟨2, ![T, B]⟩ [1] [0] [] [0] [] 1 ![1, B])
    (x : (⟨2, ![N, B]⟩ : Shape).Idx → α) (idx : IVec ⟨2, ![T, 1]⟩ 32) (t : Fin T) (b : Fin B) (e : Fin N)
    (he : min (idx (ix2 t 0)).toInt.toNat (N - 1) = e.val) :
    Host.gather (rowDims N B T wf) x idx (ix2 t b) = x (ix2 e b) := by
  unfold Host.gather
  refine congrArg x (funext fun k => Fin.ext ?_)
  show (rowDims N B T wf).start (ix2 t b) idx k + (rowDims N B T wf).batchCoord (ix2 t b) k
    + (rowDims N B T wf).offCoord (ix2 t b) k = _
  rw [GatherDims.batchCoord_eq_zero _ _ _ List.not_mem_nil]
  have hk : k = (0 : Fin 2) ∨ k = (1 : Fin 2) := by
    match k with
    | ⟨0, _⟩ => exact .inl rfl
    | ⟨1, _⟩ => exact .inr rfl
  rcases hk with rfl | rfl
  · rw [GatherDims.offCoord_eq_zero _ _ _ (fun h => ((GatherDims.mem_sKept _ _).mp h).1 (List.mem_singleton.mpr rfl))]
    unfold GatherDims.start
    rw [dif_pos (show (0 : Fin 2) ∈ (rowDims N B T wf).startIndexMap from List.mem_singleton.mpr rfl)]
    refine Eq.trans (congrArg (fun i => min (idx i).toInt.toNat (N - 1)) (?_ : _ = ix2 t 0)) he
    funext c; refine Fin.ext ?_
    match c with
    | ⟨0, _⟩ => rfl
    | ⟨1, _⟩ => rfl
  · unfold GatherDims.start
    rw [dif_neg (by simp)]
    show 0 + 0 + b.val = b.val
    omega

end Cert.Moe

end
-- ==== Proof.Moe.Reference.lean ====
/- What the reference computes, element by element. -/
module

public import proofs.«01_k».proof.Proof.Gen.ReferenceIdeal.Run
public import proofs.«01_k».proof.Proof.Moe.Layer
public import proofs.«01_k».proof.Proof.Moe.Take
public import Idealize.ShloMosaic.Lib.Pointwise
public import Idealize.ShloMosaic.Lib.Tactic

@[expose] public section

set_option maxRecDepth 16384

noncomputable section

namespace Cert.ReferenceIdeal.Moe

open Cert.ReferenceIdeal Cert.ReferenceIdeal.Gen Idealize.ShloMosaic Idealize.ShloMosaic.TcCoe

section

variable {F : FTy → Type} [FloatOps F]

/-- The first row of each block, as a float. -/
def firstRow : FVec F S190 .f32 := mulf (sitofp .f32 (iotaInDim S190 32 0)) (broadcastInDim S190 ![] bcast_S_S190 (constant S_ .f32 0x44800000#32))

/-- How many experts end at or before each block's first row. -/
def endsBefore (ends : FVec F S32 .f32) : IVec S190 32 :=
  Host.reduce IntOp.addi (extui 32 (cmpf .oge
    (broadcastInDim S190x32 ![0, 1] bcast_S190x1_S190x32_0_1 (broadcastInDim S190x1 ![0] bcast_S190_S190x1_0 (firstRow (F := F))))
    (broadcastInDim S190x32 ![0, 1] bcast_S1x32_S190x32_0_1 (broadcastInDim S1x32 ![1] bcast_S32_S1x32_1 ends))) natLt_1_32)
    (constantI S_ 32 0#32) reducesTo_S190x32_S190_d1 h_S_

/-- The expert of each block: that count, kept between 0 and 31. -/
def blockExpert (ends : FVec F S32 .f32) : IVec S190 32 :=
  minsi (broadcastInDim S190 ![] bcast_S_S190 (id (constantI S_ 32 31#32)))
    (maxsi (broadcastInDim S190 ![] bcast_S_S190 (id (constantI S_ 32 0#32))) (endsBefore ends))

/-- A block's expert as an index, with a negative one wrapped. -/
def blockIndex (e : IVec S190 32) : IVec S190x1 32 :=
  broadcastInDim S190x1 ![0] bcast_S190_S190x1_0 (select (cmpi .slt e (broadcastInDim S190 ![] bcast_S_S190 (constantI S_ 32 0#32)))
    (addi e (broadcastInDim S190 ![] bcast_S_S190 (constantI S_ 32 32#32))) e)

/-- Whether each block's first row is a row of its expert. -/
def blockLive (starts used : FVec F S32 .f32) (ix : IVec S190x1 32) : IVec S190 1 :=
  cmpf .olt (firstRow (F := F)) (Host.gather gather_S32_S190x1_S190_n_0_n_n_0_1_1 (addf starts used) ix)

/-- The first product with its bias, block by block. -/
def hidden (xs : FVec F S389120x512 .bf16) (w : FVec F S190x1024x2048 .f32) (b : FVec F S190x2048 .f32) : FVec F S190x1024x2048 .f32 :=
  addf (Host.dotGeneral dot_S190x1024x1024_S190x1024x2048_S190x1024x2048_2_1_1_2_0_0 none
      (shapeCast S190x1024x1024 (extf .f32 xs bitsLt_bf16_f32) shapeCasts_S389120x512_S190x1024x1024) w)
    (broadcastInDim S190x1024x2048 ![0, 1, 2] bcast_S190x1x2048_S190x1024x2048_0_1_2 (broadcastInDim S190x1x2048 ![0, 2] bcast_S190x2048_S190x1x2048_0_2 b))

/-- The clamped gates. -/
def gates (h : FVec F S190x1024x2048 .f32) : FVec F S190x1024x1024 .f32 :=
  minimumf (extractStridedSlice S190x1024x1024 ![0, 0, 0] h slices_S190x1024x2048_S190x1024x1024_0_0_0)
    (broadcastInDim S190x1024x1024 ![] bcast_S_S190x1024x1024 (constant S_ .f32 0x40E00000#32))

/-- The clamped up values. -/
def ups (h : FVec F S190x1024x2048 .f32) : FVec F S190x1024x1024 .f32 :=
  minimumf (broadcastInDim S190x1024x1024 ![] bcast_S_S190x1024x1024 (id (constant S_ .f32 0x40E00000#32)))
    (maximumf (broadcastInDim S190x1024x1024 ![] bcast_S_S190x1024x1024 (id (constant S_ .f32 0xC0E00000#32)))
      (extractStridedSlice S190x1024x1024 ![0, 0, 1024] h slices_S190x1024x2048_S190x1024x1024_0_0_1024))

/-- The activations. -/
def acts (h : FVec F S190x1024x2048 .f32) : FVec F S190x1024x1024 .f32 :=
  mulf (mulf (addf (ups h) (broadcastInDim S190x1024x1024 ![] bcast_S_S190x1024x1024 (constant S_ .f32 0x3F800000#32))) (gates h))
    (Host.divf (broadcastInDim S190x1024x1024 ![] bcast_S_S190x1024x1024 (constant S_ .f32 0x3F800000#32))
      (addf (broadcastInDim S190x1024x1024 ![] bcast_S_S190x1024x1024 (constant S_ .f32 0x3F800000#32))
        (Host.exp (Host.negf (mulf (broadcastInDim S190x1024x1024 ![] bcast_S_S190x1024x1024 (constant S_ .f32 0x3FD9DB23#32)) (gates h))))))

/-- The second product with its bias. -/
def outs (a : FVec F S190x1024x1024 .f32) (w : FVec F S190x1024x1024 .f32) (b : FVec F S190x1024 .f32) : FVec F S190x1024x1024 .f32 :=
  addf (Host.dotGeneral dot_S190x1024x1024_S190x1024x1024_S190x1024x1024_2_1_1_2_0_0 none a w)
    (broadcastInDim S190x1024x1024 ![0, 1, 2] bcast_S190x1x1024_S190x1024x1024_0_1_2 (broadcastInDim S190x1x1024 ![0, 2] bcast_S190x1024_S190x1x1024_0_2 b))

/-- The rows of the blocks that are live, zero elsewhere, in the packed order. -/
def packed (live : IVec S190 1) (y : FVec F S190x1024x1024 .f32) : FVec F S389120x512 .bf16 :=
  truncf .bf16 (shapeCast S389120x512 (select
      (broadcastInDim S190x1024x1024 ![0, 1, 2] bcast_S190x1x1_S190x1024x1024_0_1_2 (broadcastInDim S190x1x1 ![0] bcast_S190_S190x1x1_0 live)) y
      (broadcastInDim S190x1024x1024 ![] bcast_S_S190x1024x1024 (id (constant S_ .f32 0x00000000#32))))
    shapeCasts_S190x1024x1024_S389120x512) bitsLt_bf16_f32

/-- The reference's result from its eight arguments. -/
def result (ends starts used : FVec F S32 .f32) (xs : FVec F S389120x512 .bf16) (w : FVec F S32x1024x2048 .f32) (b : FVec F S32x2048 .f32)
    (w' : FVec F S32x1024x1024 .f32) (b' : FVec F S32x1024 .f32) : FVec F S389120x512 .bf16 :=
  packed (blockLive starts used (blockIndex (blockExpert ends)))
    (outs (acts (hidden xs (Host.gather gather_S32x1024x2048_S190x1_S190x1024x2048_12_0_n_n_0_1_110242048 w (blockIndex (blockExpert ends)))
        (Host.gather gather_S32x2048_S190x1_S190x2048_1_0_n_n_0_1_12048 b (blockIndex (blockExpert ends)))))
      (Host.gather gather_S32x1024x1024_S190x1_S190x1024x1024_12_0_n_n_0_1_110241024 w' (blockIndex (blockExpert ends)))
      (Host.gather gather_S32x1024_S190x1_S190x1024_1_0_n_n_0_1_11024 b' (blockIndex (blockExpert ends))))

theorem res_eq (m : (ℓ : Loc nD τ sig) → Buf (Elt F) ℓ) (c : Dev nD) : Value.res_main_v78 m c
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  unfold Value.res_main_v78
  rfl

end

theorem hidden_apply (xs : FVec Ideal S389120x512 .bf16) (w : FVec Ideal S190x1024x2048 .f32) (b : FVec Ideal S190x2048 .f32)
    (t : Fin 190) (a : Fin 1024) (n : Fin 2048) : hidden xs w b (ix3 t a n)
      = Cert.Moe.unit (fun k => xs (ix2 ⟨t.val * 2048 + a.val * 2 + k.val / 512, by omega⟩ ⟨k.val % 512, by omega⟩)) (fun k => w (ix3 t k n)) (b (ix2 t n)) := by
  unfold Cert.Moe.unit
  pointwise [hidden]

theorem acts_apply (h : FVec Ideal S190x1024x2048 .f32) (t : Fin 190) (a f : Fin 1024) : acts h (ix3 t a f)
    = Cert.Moe.act (h (ix3 t a ⟨f.val, by omega⟩)) (h (ix3 t a ⟨1024 + f.val, by omega⟩)) := by
  unfold Cert.Moe.act
  pointwise [acts, gates, ups]
  rfl

theorem outs_apply (x w : FVec Ideal S190x1024x1024 .f32) (b : FVec Ideal S190x1024 .f32) (t : Fin 190) (a d : Fin 1024) :
    outs x w b (ix3 t a d) = ∑ f : Fin 1024, x (ix3 t a f) * w (ix3 t f d) + b (ix2 t d) := by
  pointwise [outs]

theorem packed_apply (live : IVec S190 1) (y : FVec Ideal S190x1024x1024 .f32) (r : Fin 389120) (q : Fin 512) :
    packed live y (ix2 r q) = if live (ix1 ⟨r.val / 2048, by omega⟩) = 1#1
      then y (ix3 ⟨r.val / 2048, by omega⟩ ⟨r.val / 2 % 1024, by omega⟩ ⟨r.val % 2 * 512 + q.val, by omega⟩) else 0 := by
  have z : (id (constant S_ .f32 0#32) : FVec Ideal S_ .f32) ix0 = 0 := by
    show Ideal.ofBits .f32 0#32 = 0
    exact Ideal.ofBits_zero_f32
  pointwise [packed]
  rw [z]
  rfl

/-- The reference's result at row `r`, column `q` of the packed array: the expert of the row's block, applied to the row. -/
theorem result_apply (ends starts used : FVec Ideal S32 .f32) (xs : FVec Ideal S389120x512 .bf16) (w : FVec Ideal S32x1024x2048 .f32)
    (b : FVec Ideal S32x2048 .f32) (w' : FVec Ideal S32x1024x1024 .f32) (b' : FVec Ideal S32x1024 .f32) (r : Fin 389120) (q : Fin 512)
    (e : Fin 32) (he : min (blockIndex (blockExpert ends) (ix2 ⟨r.val / 2048, by omega⟩ 0)).toInt.toNat 31 = e.val) :
    result ends starts used xs w b w' b' (ix2 r q)
      = if blockLive starts used (blockIndex (blockExpert ends)) (ix1 ⟨r.val / 2048, by omega⟩) = 1#1
        then Cert.Moe.expertRow
          (fun k => xs (ix2 ⟨r.val / 2048 * 2048 + r.val / 2 % 1024 * 2 + k.val / 512, by omega⟩ ⟨k.val % 512, by omega⟩))
          (fun k n => w (ix3 e k n)) (fun n => b (ix2 e n)) (fun f d => w' (ix3 e f d)) (fun d => b' (ix2 e d))
          ⟨r.val % 2 * 512 + q.val, by omega⟩
        else 0 := by
  unfold result
  rw [packed_apply, outs_apply]
  unfold Cert.Moe.expertRow
  have h1 (a : Fin 1024) (n : Fin 2048) : Host.gather gather_S32x1024x2048_S190x1_S190x1024x2048_12_0_n_n_0_1_110242048 w (blockIndex (blockExpert ends))
      (ix3 ⟨r.val / 2048, by omega⟩ a n) = w (ix3 e a n) := Cert.Moe.take_matrix _ w _ _ a n e he
  have h2 (n : Fin 2048) : Host.gather gather_S32x2048_S190x1_S190x2048_1_0_n_n_0_1_12048 b (blockIndex (blockExpert ends))
      (ix2 ⟨r.val / 2048, by omega⟩ n) = b (ix2 e n) := Cert.Moe.take_row _ b _ _ n e he
  have h3 (a n : Fin 1024) : Host.gather gather_S32x1024x1024_S190x1_S190x1024x1024_12_0_n_n_0_1_110241024 w' (blockIndex (blockExpert ends))
      (ix3 ⟨r.val / 2048, by omega⟩ a n) = w' (ix3 e a n) := Cert.Moe.take_matrix _ w' _ _ a n e he
  have h4 (n : Fin 1024) : Host.gather gather_S32x1024_S190x1_S190x1024_1_0_n_n_0_1_11024 b' (blockIndex (blockExpert ends))
      (ix2 ⟨r.val / 2048, by omega⟩ n) = b' (ix2 e n) := Cert.Moe.take_row _ b' _ _ n e he
  simp only [acts_apply, hidden_apply, h1, h2, h3, h4]

end Cert.ReferenceIdeal.Moe

end
-- ==== Proof.Moe.Value.lean ====
/- What the kernel leaves in its result array is what the reference computes from the same arguments. -/
module

public import proofs.«01_k».proof.Proof.Moe.Blocks
public import proofs.«01_k».proof.Proof.Moe.Reference
public import Idealize.ShloMosaic.Lib.Tactic.WordOmega

@[expose] public section

set_option maxRecDepth 16384

noncomputable section

namespace Cert.KernelIdeal.Moe

open Cert.KernelIdeal.Gen
open Idealize.ShloMosaic Idealize.ShloMosaic.TcCoe Idealize.ShloMosaic.Tactic Idealize.SL.Sem
open Idealize.ShloMosaic.Pipeline (Dat Cfg Window)

/-- A count of at most 6080 is not negative, so keeping it at 0 or above changes nothing. -/
theorem clip_word (s : BitVec 32) (h : s.toNat ≤ 6080) : IntOp.minsi 31#32 (IntOp.maxsi 0#32 s) = IntOp.minsi s 31#32 := by
  have e : s.toInt = (s.toNat : Int) := by rw [BitVec.toInt_eq_toNat_cond, if_pos (by omega)]
  have hm : IntOp.maxsi 0#32 s = s := by
    unfold IntOp.maxsi
    split
    · rename_i hh
      apply BitVec.eq_of_toNat_eq
      simp only [BitVec.slt, BitVec.sle, e, decide_eq_true_eq] at hh
      simp at hh ⊢
      omega
    · rfl
  rw [hm]
  apply BitVec.eq_of_toNat_eq
  unfold IntOp.minsi
  simp only [BitVec.slt, BitVec.sle, e]
  split <;> split <;> simp_all <;> omega

/-- Both programs give each block the same expert. -/
theorem blockExpert_same (ends : FVec Ideal S32 .f32) : Cert.ReferenceIdeal.Moe.blockExpert ends = blockExpert ends :=
  funext fun j => clip_word _ (endsBefore_le ends j)

theorem blockIndex_same (ends : FVec Ideal S32 .f32) : Cert.ReferenceIdeal.Moe.blockIndex (blockExpert ends) = blockIndex ends := rfl

/-- The kernel's live word is the reference's live bit, widened. -/
theorem blockLive_same (ends starts used : FVec Ideal S32 .f32) (j : S190.Idx) : blockLive ends starts used j
    = BitVec.setWidth 32 (Cert.ReferenceIdeal.Moe.blockLive starts used (blockIndex ends) j) := rfl

theorem widened (b : BitVec 1) : BitVec.setWidth 32 b = 1#32 ↔ b = 1#1 := by revert b; decide

/-- A block's index is its expert. -/
theorem blockIndex_word (ends : FVec Ideal S32 .f32) (t : Fin 190) :
    min (blockIndex ends (ix2 t 0)).toInt.toNat 31 = (blockExpert ends (ix1 t)).toNat := by
  have h : (blockExpert ends (ix1 t)).toNat ≤ 31 := by rw [blockExpert_toNat]; omega
  have e : blockIndex ends (ix2 t 0) = (if IntOp.cmpi .slt (blockExpert ends (ix1 t)) 0#32 = 1#1 then IntOp.addi (blockExpert ends (ix1 t)) 32#32 else blockExpert ends (ix1 t)) := by
    pointwise [blockIndex]
    rfl
  rw [e]
  generalize blockExpert ends (ix1 t) = x at h
  have ex : x.toInt = (x.toNat : Int) := by rw [BitVec.toInt_eq_toNat_cond, if_pos (by omega)]
  have hn : ¬ IntOp.cmpi .slt x 0#32 = 1#1 := by
    word_omega
  rw [if_neg hn, ex]
  omega

variable (m : (ℓ : Loc nD τ sig) → Buf (Elt Ideal) ℓ) (ρ : Dev nD → PrngReg)

theorem expert_at (t : Fin grid0.N) : expert m (grid0.coords t) = blockExpert (F := Ideal) (m (((0 : Dev nD) : Thread nD τ).loc main_arg0)) (ix1 ⟨t.val, t.isLt⟩) := by
  obtain ⟨j, hj, h⟩ := expert_eq m (grid0.coords t)
  rw [h]
  refine congrArg _ (funext fun a => Fin.ext ?_)
  match a with
  | ⟨0, _⟩ => exact hj.trans (coord_nat t)

theorem live_at (t : Fin grid0.N) : live m (grid0.coords t) = blockLive (F := Ideal) (m (((0 : Dev nD) : Thread nD τ).loc main_arg0))
    (m (((0 : Dev nD) : Thread nD τ).loc main_arg1)) (m (((0 : Dev nD) : Thread nD τ).loc main_arg2)) (ix1 ⟨t.val, t.isLt⟩) := by
  obtain ⟨j, hj, h⟩ := live_eq m (grid0.coords t)
  rw [h]
  refine congrArg _ (funext fun a => Fin.ext ?_)
  match a with
  | ⟨0, _⟩ => exact hj.trans (coord_nat t)

/-- The reference's result from this memory's arguments. -/
abbrev resultOf (c : Dev nD) : FVec Ideal S389120x512 .bf16 :=
  Cert.ReferenceIdeal.Moe.result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- What a grid point stores is its block of the reference's result. -/
theorem outAt_eq (hO : Ok m) (t : Fin (cfgM m hO).N) (r : Fin 2048) (q : Fin 512) (R : Fin 389120) (hR : R.val = t.val * 2048 + r.val) :
    outAt m hO 0 t (ix2 r q) = resultOf m 0 (ix2 R q) := by
  have ht : R.val / 2048 = t.val := by omega
  have hi : (⟨R.val / 2048, by omega⟩ : Fin 190) = ⟨t.val, t.isLt⟩ := Fin.ext ht
  refine (rowsOut_apply _ _ _ _ _ _ r q).trans ?_
  unfold resultOf
  rw [Cert.ReferenceIdeal.Moe.result_apply _ _ _ _ _ _ _ _ R q (expertAt m t)
    (by
      rw [blockExpert_same, blockIndex_same, hi, blockIndex_word]
      exact (congrArg BitVec.toNat (expert_at m t)).symm)]
  rw [blockExpert_same, blockIndex_same, hi, live_at, blockLive_same]
  simp only [widened]
  refine if_congr Iff.rfl ?_ rfl
  have h0 : (fun k : Fin 1024 => iblk m hO 0 0 t (ix2 ⟨r.val / 2 * 2 + k.val / 512, by omega⟩ ⟨k.val % 512, by omega⟩))
      = fun k => m (((0 : Dev nD) : Thread nD τ).loc main_arg3) (ix2 ⟨R.val / 2048 * 2048 + R.val / 2 % 1024 * 2 + k.val / 512, by omega⟩ ⟨k.val % 512, by omega⟩) :=
    funext fun k => iblk0_apply m hO 0 t _ _ _ (by show R.val / 2048 * 2048 + R.val / 2 % 1024 * 2 + k.val / 512 = t.val * 2048 + (r.val / 2 * 2 + k.val / 512); omega)
  have h1 : (fun (k : Fin 1024) (n : Fin 2048) => iblk m hO 0 1 t (ix3 0 k n)) = fun k n => m (((0 : Dev nD) : Thread nD τ).loc main_arg4) (ix3 (expertAt m t) k n) :=
    funext fun k => funext fun n => iblk1_apply m hO 0 t k n
  have h2 : (fun (n : Fin 2048) => iblk m hO 0 2 t (ix3 0 0 n)) = fun n => m (((0 : Dev nD) : Thread nD τ).loc main_arg5) (ix2 (expertAt m t) n) :=
    funext fun n => iblk2_apply m hO 0 t n
  have h3 : (fun (k n : Fin 1024) => iblk m hO 0 3 t (ix3 0 k n)) = fun k n => m (((0 : Dev nD) : Thread nD τ).loc main_arg6) (ix3 (expertAt m t) k n) :=
    funext fun k => funext fun n => iblk3_apply m hO 0 t k n
  have h4 : (fun (n : Fin 1024) => iblk m hO 0 4 t (ix3 0 0 n)) = fun n => m (((0 : Dev nD) : Thread nD τ).loc main_arg7) (ix2 (expertAt m t) n) :=
    funext fun n => iblk4_apply m hO 0 t n
  have hd : (⟨r.val % 2 * 512 + q.val, by omega⟩ : Fin 1024) = ⟨R.val % 2 * 512 + q.val, by omega⟩ :=
    Fin.ext (by show r.val % 2 * 512 + q.val = R.val % 2 * 512 + q.val; omega)
  rw [hd]
  refine congrFun (?_ : Cert.Moe.expertRow _ _ _ _ _ = Cert.Moe.expertRow _ _ _ _ _) _
  exact h0 ▸ h1 ▸ h2 ▸ h3 ▸ h4 ▸ rfl

/-- The result array after the last grid point is the reference's result. -/
theorem final (hO : Ok m) : (dats m hO 0 0).arrAt 5 (cfgM m hO).N = resultOf m 0 := by
  refine (dats m hO 0 0).arrAt_eq_of_covers 5 _ (covers5 m hO) fun t _ y => ?_
  rw [after0_5]
  revert y
  intro (y : S2048x512.Idx)
  have hR : t.val * 2048 + (y 0).val < 389120 := by
    have h1 : t.val < 190 := t.isLt
    have h2 : (y 0).val < 2048 := (y 0).isLt
    omega
  have e : (((cfgM m hO).win 5).blk t).view.emb y = (ix2 ⟨t.val * 2048 + (y 0).val, hR⟩ (y 1) : S389120x512.Idx) := by
    refine funext fun a => Fin.ext ?_
    refine (((cfgM m hO).win 5).rect_emb_val t y a).trans ?_
    match a with
    | ⟨0, _⟩ =>
      show (BitVec.ofNat 32 (grid0.coords t 0).val).toNat * 2048 + (y 0).val = t.val * 2048 + (y 0).val
      rw [coord_nat]
    | ⟨1, _⟩ => show 0 * 512 + (y 1).val = (y 1).val; omega
  refine Eq.trans ?_ (congrArg (resultOf m 0) e).symm
  have hy : y = (ix2 (y 0) (y 1) : S2048x512.Idx) := funext fun a => match a with
    | ⟨0, _⟩ => rfl
    | ⟨1, _⟩ => rfl
  refine Eq.trans ?_ (outAt_eq m hO t (y 0) (y 1) ⟨t.val * 2048 + (y 0).val, hR⟩ rfl)
  exact congrArg (outAt m hO 0 t) hy

/-- The kernel's run ends with the reference's result in its result array, and its arguments as they were. -/
theorem run : θ_run defs (onTc (τ := τ) (main (F := Ideal))) ⟨m, fun _ => 0, ρ⟩ (fun r => ∀ c : Dev nD,
      r.2.mem ((c.tc : Thread nD τ).loc main_v24) = resultOf m c) :=
  (θ_run defs _ _).mono (fun r h c => by
    have hc : c = 0 := Subsingleton.elim _ _
    subst hc
    exact ((h 0).1 5).trans (final m (ok m))) (run_main m ρ (ok m) (bits01 m))

end Cert.KernelIdeal.Moe

end
-- ==== Proof.Mix.Blocks.lean ====
/- The blocks the merge kernel's windows place before a grid point, read at an element of the argument each comes from. -/
module

public import proofs.«01_k».proof.Proof.Gen.Kernel2Ideal.Value
public import Idealize.ShloMosaic.Lib.Pipeline.ValueKit
public import Idealize.ShloMosaic.Lib.StableHlo.Run
public import Idealize.ShloMosaic.Lib.Pointwise
public import Idealize.ShloMosaic.Lib.Tactic

@[expose] public section

set_option maxRecDepth 16384

noncomputable section

namespace Cert.Kernel2Ideal.Mix

open Cert.Kernel2Ideal Cert.Kernel2Ideal.Gen
open Idealize.ShloMosaic Idealize.ShloMosaic.TcCoe Idealize.ShloMosaic.Tactic Idealize.SL.Sem

variable (m : (ℓ : Loc nD τ sig) → Buf (Elt Ideal) ℓ)

theorem lt (t : Fin cfg0.N) : t.val < 64 := t.isLt

/-! The arrays the host lines make. -/

theorem V_v12 (c : Dev nD) : V m c main_v12 = shapeCast S32768x1024 (m ((c : Thread nD τ).loc main_arg3)) shapeCasts_S4x8192x1024_S32768x1024 := by
  unfold_abbrev_sides
  after_results
  rfl

theorem V_v8 (c : Dev nD) : V m c main_v8 = shapeCast S4x1x1024 (extractStridedSlice S4x1024 ![0, 2048] (m ((c : Thread nD τ).loc main_arg4)) slices_S4x6144_S4x1024_0_2048) shapeCasts_S4x1024_S4x1x1024 := by
  unfold_abbrev_sides
  after_results
  rfl

theorem V_v10 (c : Dev nD) : V m c main_v10 = shapeCast S4x1x1024 (extractStridedSlice S4x1024 ![0, 4096] (m ((c : Thread nD τ).loc main_arg4)) slices_S4x6144_S4x1024_0_4096) shapeCasts_S4x1024_S4x1x1024 := by
  unfold_abbrev_sides
  after_results
  rfl

theorem V_v9 (c : Dev nD) : V m c main_v9 = shapeCast S4x1x1024 (extractStridedSlice S4x1024 ![0, 3072] (m ((c : Thread nD τ).loc main_arg4)) slices_S4x6144_S4x1024_0_3072) shapeCasts_S4x1024_S4x1x1024 := by
  unfold_abbrev_sides
  after_results
  rfl

theorem V_v21 (c : Dev nD) : V m c main_v21 = truncf (F := Ideal) .bf16 (m ((c : Thread nD τ).loc main_arg5)) bitsLt_bf16_f32 := by
  unfold_abbrev_sides
  after_results

theorem V_v22 (c : Dev nD) : V m c main_v22 = shapeCast S1x2048 (m ((c : Thread nD τ).loc main_arg6)) shapeCasts_S2048_S1x2048 := by
  unfold_abbrev_sides
  after_results
  rfl

theorem V_v23 (c : Dev nD) : V m c main_v23 = truncf (F := Ideal) .bf16 (m ((c : Thread nD τ).loc main_arg7)) bitsLt_bf16_f32 := by
  unfold_abbrev_sides
  after_results

theorem V_v24 (c : Dev nD) : V m c main_v24 = truncf (F := Ideal) .bf16 (m ((c : Thread nD τ).loc main_arg8)) bitsLt_bf16_f32 := by
  unfold_abbrev_sides
  after_results

theorem V_v25 (c : Dev nD) : V m c main_v25 = shapeCast S1x1024 (m ((c : Thread nD τ).loc main_arg9)) shapeCasts_S1024_S1x1024 := by
  unfold_abbrev_sides
  after_results
  rfl

theorem V_v26 (c : Dev nD) : V m c main_v26 = shapeCast S1x1024 (m ((c : Thread nD τ).loc main_arg10)) shapeCasts_S1024_S1x1024 := by
  unfold_abbrev_sides
  after_results
  rfl

/-! Where the windows point at grid point `t`: its 512 rows, and the batch `t / 16` they lie in. -/

theorem index0 : ∀ t : Fin grid0.N, cc0_transform_0 (grid0.coords t) = ![0, t.val] := by decide +kernel
theorem index1 : ∀ t : Fin grid0.N, cc0_transform_1 (grid0.coords t) = ![t.val, 0] := by decide +kernel
theorem index2 : ∀ t : Fin grid0.N, cc0_transform_2 (grid0.coords t) = ![t.val, 0] := by decide +kernel
theorem index3 : ∀ t : Fin grid0.N, cc0_transform_3 (grid0.coords t) = ![t.val, 0] := by decide +kernel
theorem index4 : ∀ t : Fin grid0.N, cc0_transform_4 (grid0.coords t) = ![t.val / 16, 0, 0] := by decide +kernel
theorem index5 : ∀ t : Fin grid0.N, cc0_transform_5 (grid0.coords t) = ![t.val / 16, 0, 0] := by decide +kernel
theorem index6 : ∀ t : Fin grid0.N, cc0_transform_6 (grid0.coords t) = ![t.val / 16, 0, 0] := by decide +kernel
theorem index7 : ∀ t : Fin grid0.N, cc0_transform_7 (grid0.coords t) = ![0, 0] := by decide +kernel
theorem index8 : ∀ t : Fin grid0.N, cc0_transform_8 (grid0.coords t) = ![0, 0] := by decide +kernel
theorem index9 : ∀ t : Fin grid0.N, cc0_transform_9 (grid0.coords t) = ![0, 0] := by decide +kernel
theorem index10 : ∀ t : Fin grid0.N, cc0_transform_10 (grid0.coords t) = ![0, 0] := by decide +kernel
theorem index11 : ∀ t : Fin grid0.N, cc0_transform_11 (grid0.coords t) = ![0, 0] := by decide +kernel
theorem index12 : ∀ t : Fin grid0.N, cc0_transform_12 (grid0.coords t) = ![0, 0] := by decide +kernel
theorem index15 : ∀ t : Fin grid0.N, cc0_transform_15 (grid0.coords t) = ![t.val, 0] := by decide +kernel
theorem index16 : ∀ t : Fin grid0.N, cc0_transform_16 (grid0.coords t) = ![t.val, 0] := by decide +kernel

theorem emb0 (t : Fin cfg0.N) (k r : Fin 512) (R : Fin 32768) (hR : R.val = t.val * 512 + r.val) :
    ((cfg0.win 0).blk t).view.emb (ix2 k r) = (ix2 k R : S512x32768.Idx) := by
  refine funext fun a => Fin.ext ?_
  refine ((cfg0.win 0).rect_emb_val t (ix2 k r) a).trans ?_
  refine (congrArg (fun v : Fin 2 → Nat => v a * S512x512.size a + (ix2 k r : S512x512.Idx) a) (index0 t)).trans ?_
  match a with
  | ⟨0, _⟩ => show 0 * 512 + k.val = k.val; omega
  | ⟨1, _⟩ => exact hR.symm

theorem emb1 (t : Fin cfg0.N) (r : Fin 512) (k : Fin 512) (R : Fin 32768) (hR : R.val = t.val * 512 + r.val) :
    ((cfg0.win 1).blk t).view.emb (ix2 r k) = (ix2 R k : S32768x512.Idx) := by
  refine funext fun a => Fin.ext ?_
  refine ((cfg0.win 1).rect_emb_val t (ix2 r k) a).trans ?_
  refine (congrArg (fun v : Fin 2 → Nat => v a * S512x512.size a + (ix2 r k : S512x512.Idx) a) (index1 t)).trans ?_
  match a with
  | ⟨0, _⟩ => exact hR.symm
  | ⟨1, _⟩ => show 0 * 512 + k.val = k.val; omega

theorem emb2 (t : Fin cfg0.N) (r : Fin 512) (k : Fin 2048) (R : Fin 32768) (hR : R.val = t.val * 512 + r.val) :
    ((cfg0.win 2).blk t).view.emb (ix2 r k) = (ix2 R k : S32768x2048.Idx) := by
  refine funext fun a => Fin.ext ?_
  refine ((cfg0.win 2).rect_emb_val t (ix2 r k) a).trans ?_
  refine (congrArg (fun v : Fin 2 → Nat => v a * S512x2048.size a + (ix2 r k : S512x2048.Idx) a) (index2 t)).trans ?_
  match a with
  | ⟨0, _⟩ => exact hR.symm
  | ⟨1, _⟩ => show 0 * 2048 + k.val = k.val; omega

theorem emb3 (t : Fin cfg0.N) (r : Fin 512) (k : Fin 1024) (R : Fin 32768) (hR : R.val = t.val * 512 + r.val) :
    ((cfg0.win 3).blk t).view.emb (ix2 r k) = (ix2 R k : S32768x1024.Idx) := by
  refine funext fun a => Fin.ext ?_
  refine ((cfg0.win 3).rect_emb_val t (ix2 r k) a).trans ?_
  refine (congrArg (fun v : Fin 2 → Nat => v a * S512x1024.size a + (ix2 r k : S512x1024.Idx) a) (index3 t)).trans ?_
  match a with
  | ⟨0, _⟩ => exact hR.symm
  | ⟨1, _⟩ => show 0 * 1024 + k.val = k.val; omega

theorem emb7 (t : Fin cfg0.N) (r : Fin 512) (k : Fin 2048) :
    ((cfg0.win 7).blk t).view.emb (ix2 r k) = (ix2 r k : S512x2048.Idx) := by
  refine funext fun a => Fin.ext ?_
  refine ((cfg0.win 7).rect_emb_val t (ix2 r k) a).trans ?_
  refine (congrArg (fun v : Fin 2 → Nat => v a * S512x2048.size a + (ix2 r k : S512x2048.Idx) a) (index7 t)).trans ?_
  match a with
  | ⟨0, _⟩ => show 0 * 512 + r.val = r.val; omega
  | ⟨1, _⟩ => show 0 * 2048 + k.val = k.val; omega

theorem emb8 (t : Fin cfg0.N) (k : Fin 2048) :
    ((cfg0.win 8).blk t).view.emb (ix2 0 k) = (ix2 0 k : S1x2048.Idx) := by
  refine funext fun a => Fin.ext ?_
  refine ((cfg0.win 8).rect_emb_val t (ix2 0 k) a).trans ?_
  refine (congrArg (fun v : Fin 2 → Nat => v a * S1x2048.size a + (ix2 0 k : S1x2048.Idx) a) (index8 t)).trans ?_
  match a with
  | ⟨0, _⟩ => rfl
  | ⟨1, _⟩ => show 0 * 2048 + k.val = k.val; omega

theorem emb9 (t : Fin cfg0.N) (r : Fin 512) (k : Fin 1024) :
    ((cfg0.win 9).blk t).view.emb (ix2 r k) = (ix2 r k : S512x1024.Idx) := by
  refine funext fun a => Fin.ext ?_
  refine ((cfg0.win 9).rect_emb_val t (ix2 r k) a).trans ?_
  refine (congrArg (fun v : Fin 2 → Nat => v a * S512x1024.size a + (ix2 r k : S512x1024.Idx) a) (index9 t)).trans ?_
  match a with
  | ⟨0, _⟩ => show 0 * 512 + r.val = r.val; omega
  | ⟨1, _⟩ => show 0 * 1024 + k.val = k.val; omega

theorem emb10 (t : Fin cfg0.N) (r : Fin 1024) (k : Fin 1024) :
    ((cfg0.win 10).blk t).view.emb (ix2 r k) = (ix2 r k : S1024x1024.Idx) := by
  refine funext fun a => Fin.ext ?_
  refine ((cfg0.win 10).rect_emb_val t (ix2 r k) a).trans ?_
  refine (congrArg (fun v : Fin 2 → Nat => v a * S1024x1024.size a + (ix2 r k : S1024x1024.Idx) a) (index10 t)).trans ?_
  match a with
  | ⟨0, _⟩ => show 0 * 1024 + r.val = r.val; omega
  | ⟨1, _⟩ => show 0 * 1024 + k.val = k.val; omega

theorem emb11 (t : Fin cfg0.N) (k : Fin 1024) :
    ((cfg0.win 11).blk t).view.emb (ix2 0 k) = (ix2 0 k : S1x1024.Idx) := by
  refine funext fun a => Fin.ext ?_
  refine ((cfg0.win 11).rect_emb_val t (ix2 0 k) a).trans ?_
  refine (congrArg (fun v : Fin 2 → Nat => v a * S1x1024.size a + (ix2 0 k : S1x1024.Idx) a) (index11 t)).trans ?_
  match a with
  | ⟨0, _⟩ => rfl
  | ⟨1, _⟩ => show 0 * 1024 + k.val = k.val; omega

theorem emb12 (t : Fin cfg0.N) (k : Fin 1024) :
    ((cfg0.win 12).blk t).view.emb (ix2 0 k) = (ix2 0 k : S1x1024.Idx) := by
  refine funext fun a => Fin.ext ?_
  refine ((cfg0.win 12).rect_emb_val t (ix2 0 k) a).trans ?_
  refine (congrArg (fun v : Fin 2 → Nat => v a * S1x1024.size a + (ix2 0 k : S1x1024.Idx) a) (index12 t)).trans ?_
  match a with
  | ⟨0, _⟩ => rfl
  | ⟨1, _⟩ => show 0 * 1024 + k.val = k.val; omega

theorem emb15 (t : Fin cfg0.N) (r : Fin 512) (k : Fin 1024) (R : Fin 32768) (hR : R.val = t.val * 512 + r.val) :
    ((cfg0.win 15).blk t).view.emb (ix2 r k) = (ix2 R k : S32768x1024.Idx) := by
  refine funext fun a => Fin.ext ?_
  refine ((cfg0.win 15).rect_emb_val t (ix2 r k) a).trans ?_
  refine (congrArg (fun v : Fin 2 → Nat => v a * S512x1024.size a + (ix2 r k : S512x1024.Idx) a) (index15 t)).trans ?_
  match a with
  | ⟨0, _⟩ => exact hR.symm
  | ⟨1, _⟩ => show 0 * 1024 + k.val = k.val; omega

theorem emb16 (t : Fin cfg0.N) (r : Fin 512) (k : Fin 1024) (R : Fin 32768) (hR : R.val = t.val * 512 + r.val) :
    ((cfg0.win 16).blk t).view.emb (ix2 r k) = (ix2 R k : S32768x1024.Idx) := by
  refine funext fun a => Fin.ext ?_
  refine ((cfg0.win 16).rect_emb_val t (ix2 r k) a).trans ?_
  refine (congrArg (fun v : Fin 2 → Nat => v a * S512x1024.size a + (ix2 r k : S512x1024.Idx) a) (index16 t)).trans ?_
  match a with
  | ⟨0, _⟩ => exact hR.symm
  | ⟨1, _⟩ => show 0 * 1024 + k.val = k.val; omega

theorem emb4 (t : Fin cfg0.N) (k : Fin 1024) (b : Fin 4) (hb : b.val = t.val / 16) :
    ((cfg0.win 4).blk t).view.emb (ix3 0 0 k) = (ix3 b 0 k : S4x1x1024.Idx) := by
  refine funext fun a => Fin.ext ?_
  refine ((cfg0.win 4).rect_emb_val t (ix3 0 0 k) a).trans ?_
  refine (congrArg (fun v : Fin 3 → Nat => v a * S1x1x1024.size a + (ix3 0 0 k : S1x1x1024.Idx) a) (index4 t)).trans ?_
  match a with
  | ⟨0, _⟩ => show t.val / 16 * 1 + 0 = b.val; omega
  | ⟨1, _⟩ => rfl
  | ⟨2, _⟩ => show 0 * 1024 + k.val = k.val; omega

theorem emb5 (t : Fin cfg0.N) (k : Fin 1024) (b : Fin 4) (hb : b.val = t.val / 16) :
    ((cfg0.win 5).blk t).view.emb (ix3 0 0 k) = (ix3 b 0 k : S4x1x1024.Idx) := by
  refine funext fun a => Fin.ext ?_
  refine ((cfg0.win 5).rect_emb_val t (ix3 0 0 k) a).trans ?_
  refine (congrArg (fun v : Fin 3 → Nat => v a * S1x1x1024.size a + (ix3 0 0 k : S1x1x1024.Idx) a) (index5 t)).trans ?_
  match a with
  | ⟨0, _⟩ => show t.val / 16 * 1 + 0 = b.val; omega
  | ⟨1, _⟩ => rfl
  | ⟨2, _⟩ => show 0 * 1024 + k.val = k.val; omega

theorem emb6 (t : Fin cfg0.N) (k : Fin 1024) (b : Fin 4) (hb : b.val = t.val / 16) :
    ((cfg0.win 6).blk t).view.emb (ix3 0 0 k) = (ix3 b 0 k : S4x1x1024.Idx) := by
  refine funext fun a => Fin.ext ?_
  refine ((cfg0.win 6).rect_emb_val t (ix3 0 0 k) a).trans ?_
  refine (congrArg (fun v : Fin 3 → Nat => v a * S1x1x1024.size a + (ix3 0 0 k : S1x1x1024.Idx) a) (index6 t)).trans ?_
  match a with
  | ⟨0, _⟩ => show t.val / 16 * 1 + 0 = b.val; omega
  | ⟨1, _⟩ => rfl
  | ⟨2, _⟩ => show 0 * 1024 + k.val = k.val; omega

/-! The blocks at an element. -/

theorem input_apply (x : FVec Ideal S4x8192x1024 .f32) (R : Fin 32768) (k : Fin 1024) :
    shapeCast S32768x1024 x shapeCasts_S4x8192x1024_S32768x1024 (ix2 R k) = x (ix3 ⟨R.val / 8192, by omega⟩ ⟨R.val % 8192, by omega⟩ k) := by
  pointwise

theorem iblk0_apply (c : Dev nD) (t : Fin cfg0.N) (k r : Fin 512) (R : Fin 32768) (hR : R.val = t.val * 512 + r.val) : iblk m c 0 t (ix2 k r) = m ((c : Thread nD τ).loc main_arg0) (ix2 k R) :=
  (congrFun (V_main_arg0 m c : V m c (Pipeline.arrRef spec0 0) = m ((c : Thread nD τ).loc main_arg0)) _).trans
    (congrArg (m ((c : Thread nD τ).loc main_arg0)) (emb0 t k r R hR))

theorem iblk1_apply (c : Dev nD) (t : Fin cfg0.N) (r k : Fin 512) (R : Fin 32768) (hR : R.val = t.val * 512 + r.val) : iblk m c 1 t (ix2 r k) = m ((c : Thread nD τ).loc main_arg1) (ix2 R k) :=
  (congrFun (V_main_arg1 m c : V m c (Pipeline.arrRef spec0 1) = m ((c : Thread nD τ).loc main_arg1)) _).trans
    (congrArg (m ((c : Thread nD τ).loc main_arg1)) (emb1 t r k R hR))

theorem iblk2_apply (c : Dev nD) (t : Fin cfg0.N) (r : Fin 512) (k : Fin 2048) (R : Fin 32768) (hR : R.val = t.val * 512 + r.val) : iblk m c 2 t (ix2 r k) = m ((c : Thread nD τ).loc main_arg2) (ix2 R k) :=
  (congrFun (V_main_arg2 m c : V m c (Pipeline.arrRef spec0 2) = m ((c : Thread nD τ).loc main_arg2)) _).trans
    (congrArg (m ((c : Thread nD τ).loc main_arg2)) (emb2 t r k R hR))

theorem iblk3_apply (c : Dev nD) (t : Fin cfg0.N) (r : Fin 512) (k : Fin 1024) (R : Fin 32768) (hR : R.val = t.val * 512 + r.val) :
    iblk m c 3 t (ix2 r k) = m ((c : Thread nD τ).loc main_arg3) (ix3 ⟨R.val / 8192, by omega⟩ ⟨R.val % 8192, by omega⟩ k) := by
  refine (congrFun (V_v12 m c : V m c (Pipeline.arrRef spec0 3) = _) _).trans ?_
  refine (congrArg _ (emb3 t r k R hR)).trans ?_
  exact input_apply _ R k

theorem iblk4_apply (c : Dev nD) (t : Fin cfg0.N) (k : Fin 1024) (b : Fin 4) (hb : b.val = t.val / 16) :
    iblk m c 4 t (ix3 0 0 k) = m ((c : Thread nD τ).loc main_arg4) (ix2 b ⟨2048 + k.val, by omega⟩) := by
  refine (congrFun (V_v8 m c : V m c (Pipeline.arrRef spec0 4) = _) _).trans ?_
  refine (congrArg _ (emb4 t k b hb)).trans ?_
  pointwise

theorem iblk5_apply (c : Dev nD) (t : Fin cfg0.N) (k : Fin 1024) (b : Fin 4) (hb : b.val = t.val / 16) :
    iblk m c 5 t (ix3 0 0 k) = m ((c : Thread nD τ).loc main_arg4) (ix2 b ⟨4096 + k.val, by omega⟩) := by
  refine (congrFun (V_v10 m c : V m c (Pipeline.arrRef spec0 5) = _) _).trans ?_
  refine (congrArg _ (emb5 t k b hb)).trans ?_
  pointwise

theorem iblk6_apply (c : Dev nD) (t : Fin cfg0.N) (k : Fin 1024) (b : Fin 4) (hb : b.val = t.val / 16) :
    iblk m c 6 t (ix3 0 0 k) = m ((c : Thread nD τ).loc main_arg4) (ix2 b ⟨3072 + k.val, by omega⟩) := by
  refine (congrFun (V_v9 m c : V m c (Pipeline.arrRef spec0 6) = _) _).trans ?_
  refine (congrArg _ (emb6 t k b hb)).trans ?_
  pointwise

theorem iblk7_apply (c : Dev nD) (t : Fin cfg0.N) (r : Fin 512) (k : Fin 2048) : iblk m c 7 t (ix2 r k) = m ((c : Thread nD τ).loc main_arg5) (ix2 r k) :=
  (congrFun (V_v21 m c : V m c (Pipeline.arrRef spec0 7) = _) _).trans (congrArg (m ((c : Thread nD τ).loc main_arg5)) (emb7 t r k))

theorem iblk9_apply (c : Dev nD) (t : Fin cfg0.N) (r : Fin 512) (k : Fin 1024) : iblk m c 9 t (ix2 r k) = m ((c : Thread nD τ).loc main_arg7) (ix2 r k) :=
  (congrFun (V_v23 m c : V m c (Pipeline.arrRef spec0 9) = _) _).trans (congrArg (m ((c : Thread nD τ).loc main_arg7)) (emb9 t r k))

theorem iblk10_apply (c : Dev nD) (t : Fin cfg0.N) (r : Fin 1024) (k : Fin 1024) : iblk m c 10 t (ix2 r k) = m ((c : Thread nD τ).loc main_arg8) (ix2 r k) :=
  (congrFun (V_v24 m c : V m c (Pipeline.arrRef spec0 10) = _) _).trans (congrArg (m ((c : Thread nD τ).loc main_arg8)) (emb10 t r k))

theorem iblk8_apply (c : Dev nD) (t : Fin cfg0.N) (k : Fin 2048) : iblk m c 8 t (ix2 0 k) = m ((c : Thread nD τ).loc main_arg6) (ix1 k) := by
  refine (congrFun (V_v22 m c : V m c (Pipeline.arrRef spec0 8) = _) _).trans ?_
  refine (congrArg _ (emb8 t k)).trans ?_
  pointwise

theorem iblk11_apply (c : Dev nD) (t : Fin cfg0.N) (k : Fin 1024) : iblk m c 11 t (ix2 0 k) = m ((c : Thread nD τ).loc main_arg9) (ix1 k) := by
  refine (congrFun (V_v25 m c : V m c (Pipeline.arrRef spec0 11) = _) _).trans ?_
  refine (congrArg _ (emb11 t k)).trans ?_
  pointwise

theorem iblk12_apply (c : Dev nD) (t : Fin cfg0.N) (k : Fin 1024) : iblk m c 12 t (ix2 0 k) = m ((c : Thread nD τ).loc main_arg10) (ix1 k) := by
  refine (congrFun (V_v26 m c : V m c (Pipeline.arrRef spec0 12) = _) _).trans ?_
  refine (congrArg _ (emb12 t k)).trans ?_
  pointwise

end Cert.Kernel2Ideal.Mix

end
-- ==== Proof.Mix.Layer.lean ====
/- One row of the gated merge over the reals: the two mixers' outputs gated and projected, added to the scaled input,
   normalized, and modulated for the feed-forward part. -/
module

public import Idealize.ShloMosaic.Lib.Pointwise

@[expose] public section

noncomputable section

namespace Cert.Mix

open Idealize.ShloMosaic

/-- The gated linear unit of a row: the first 1024 columns times the logistic of the other 1024. -/
def glu (y : Fin 512 → EReal) (w : Fin 512 → Fin 2048 → EReal) (b : Fin 2048 → EReal) (i : Fin 1024) : EReal :=
  (∑ k, y k * w k ⟨i.val, by omega⟩ + b ⟨i.val, by omega⟩) * Ideal.logistic (∑ k, y k * w k ⟨1024 + i.val, by omega⟩ + b ⟨1024 + i.val, by omega⟩)

/-- The two mixers' outputs, each times its gate; the gates' first half is the scan's, the second the attention's. -/
def merged (y : Fin 512 → EReal) (w : Fin 512 → Fin 2048 → EReal) (b : Fin 2048 → EReal) (o : Fin 512 → EReal) (u : Fin 512 → Fin 1024 → EReal)
    (g : Fin 2048 → EReal) (i : Fin 1024) : EReal :=
  g ⟨i.val, by omega⟩ * glu y w b i + g ⟨1024 + i.val, by omega⟩ * ∑ k, o k * u k i

/-- The merged row through its output projection, gated, added to the scaled input row. -/
def added (p : Fin 1024 → EReal) (w : Fin 1024 → Fin 1024 → EReal) (x g : Fin 1024 → EReal) (j : Fin 1024) : EReal :=
  Ideal.ofBits .f32 0x3F9837F0#32 * x j + g j * ∑ i, p i * w i j

/-- The mean of a row. -/
def mean (v : Fin 1024 → EReal) : EReal := Ideal.div (∑ k, v k) (Ideal.ofBits .f32 0x44800000#32)

/-- The layer norm of a row, scaled and shifted. -/
def norm (v a b : Fin 1024 → EReal) (j : Fin 1024) : EReal :=
  (v j - mean v) * Ideal.rsqrt (mean (fun k => (v k - mean v) * (v k - mean v)) + Ideal.ofBits .f32 0x3727C5AC#32) * a j + b j

/-- The modulation of a row. -/
def modulated (v sc sh : Fin 1024 → EReal) (j : Fin 1024) : EReal := v j * (1 + sc j) + sh j

end Cert.Mix

end
-- ==== Proof.Mix.Payloads.lean ====
/- What the merge kernel's body computes from its blocks, element by element. -/
module

public import proofs.«01_k».proof.Proof.Gen.Kernel2Ideal.Frame
public import proofs.«01_k».proof.Proof.Mix.Layer
public import Idealize.ShloMosaic.Lib.Pointwise

@[expose] public section

set_option maxRecDepth 16384

noncomputable section

namespace Cert.Kernel2Ideal.Mix

open Cert.Kernel2Ideal Cert.Kernel2Ideal.Gen
open Idealize.ShloMosaic Idealize.ShloMosaic.Tactic

theorem pay2_apply (y : Vec Ideal S512x512 .bf16) (w : Vec Ideal S512x2048 .bf16) (b : Vec Ideal S1x2048 .f32) (o : Vec Ideal S512x512 .bf16)
    (u : Vec Ideal S512x1024 .bf16) (gs gn : Vec Ideal S512x1024 .f32) (w' : Vec Ideal S1024x1024 .bf16) (x : Vec Ideal S512x1024 .f32) (g : Vec Ideal S1x1x1024 .f32)
    (G : Fin 512 → Fin 2048 → EReal) (hs : ∀ (r : Fin 512) (i : Fin 1024), gs (ix2 r i) = G r ⟨i.val, by omega⟩)
    (hn : ∀ (r : Fin 512) (i : Fin 1024), gn (ix2 r i) = G r ⟨1024 + i.val, by omega⟩) (r : Fin 512) (j : Fin 1024) :
    k0_pay2 (F := Ideal) y w b o u gs gn w' x g (ix2 r j)
      = Cert.Mix.added (Cert.Mix.merged (fun k => y (ix2 k r)) (fun k i => w (ix2 k i)) (fun i => b (ix2 0 i)) (fun k => o (ix2 r k)) (fun k i => u (ix2 k i)) (G r))
          (fun i d => w' (ix2 i d)) (fun d => x (ix2 r d)) (fun d => g (ix3 0 0 d)) j := by
  unfold Cert.Mix.added Cert.Mix.merged Cert.Mix.glu
  pointwise [k0_pay2]
  simp only [hs, hn]

theorem pay3_apply (v : FVec Ideal S512x1024 .f32) (a b : Vec Ideal S1x1024 .f32) (r : Fin 512) (j : Fin 1024) :
    k0_pay3 (F := Ideal) v a b (ix2 r j) = Cert.Mix.norm (fun k => v (ix2 r k)) (fun k => a (ix2 0 k)) (fun k => b (ix2 0 k)) j := by
  unfold Cert.Mix.norm Cert.Mix.mean
  pointwise [k0_pay3]

theorem pay5_apply (v : FVec Ideal S512x1024 .f32) (a b : Vec Ideal S1x1024 .f32) (sc sh : Vec Ideal S1x1x1024 .f32) (r : Fin 512) (j : Fin 1024) :
    k0_pay5 (F := Ideal) v a b sc sh (ix2 r j)
      = Cert.Mix.modulated (fun k => k0_pay3 (F := Ideal) v a b (ix2 r k)) (fun k => sc (ix3 0 0 k)) (fun k => sh (ix3 0 0 k)) j := by
  unfold Cert.Mix.modulated
  pointwise [k0_pay5, k0_pay4]

end Cert.Kernel2Ideal.Mix

end
-- ==== Proof.Mix.Reference.lean ====
/- What the reference of the merge computes, element by element. -/
module

public import proofs.«01_k».proof.Proof.Gen.Reference2Ideal.Run
public import proofs.«01_k».proof.Proof.Mix.Layer
public import Idealize.ShloMosaic.Lib.Pointwise
public import Idealize.ShloMosaic.Lib.Tactic

@[expose] public section

set_option maxRecDepth 16384

noncomputable section

namespace Cert.Reference2Ideal.Mix

open Cert.Reference2Ideal Cert.Reference2Ideal.Gen Idealize.ShloMosaic Idealize.ShloMosaic.TcCoe

section

variable {F : FTy → Type} [FloatOps F]

/-- The linear unit before its gate: the scan's output times the weights, and the bias. -/
def unit (y : FVec F S512x32768 .bf16) (w : FVec F S512x2048 .f32) (b : FVec F S2048 .f32) : FVec F S4x8192x2048 .f32 :=
  addf (Host.dotGeneral dot_S4x8192x512_S512x2048_S4x8192x2048_2_0_01_1_n_n none
      (shapeCast S4x8192x512 (transpose S32768x512 [1, 0] (extf .f32 y bitsLt_bf16_f32) transposes_S512x32768_S32768x512_1_0) shapeCasts_S32768x512_S4x8192x512) w)
    (broadcastInDim S4x8192x2048 ![0, 1, 2] bcast_S1x1x2048_S4x8192x2048_0_1_2 (broadcastInDim S1x1x2048 ![2] bcast_S2048_S1x1x2048_2 b))

/-- Its first half times the logistic of its second. -/
def gated (h : FVec F S4x8192x2048 .f32) : FVec F S4x8192x1024 .f32 :=
  mulf (extractStridedSlice S4x8192x1024 ![0, 0, 0] h slices_S4x8192x2048_S4x8192x1024_0_0_0)
    (Host.divf (broadcastInDim S4x8192x1024 ![] bcast_S_S4x8192x1024 (constant S_ .f32 0x3F800000#32))
      (addf (broadcastInDim S4x8192x1024 ![] bcast_S_S4x8192x1024 (constant S_ .f32 0x3F800000#32))
        (Host.exp (Host.negf (extractStridedSlice S4x8192x1024 ![0, 0, 1024] h slices_S4x8192x2048_S4x8192x1024_0_0_1024)))))

/-- The two mixers' outputs through their gates. -/
def merged (s : FVec F S4x8192x1024 .f32) (o : FVec F S32768x512 .bf16) (u : FVec F S512x1024 .f32) (g : FVec F S32768x2048 .f32) : FVec F S4x8192x1024 .f32 :=
  addf (mulf (extractStridedSlice S4x8192x1024 ![0, 0, 0] (shapeCast S4x8192x2048 g shapeCasts_S32768x2048_S4x8192x2048) slices_S4x8192x2048_S4x8192x1024_0_0_0) s)
    (mulf (extractStridedSlice S4x8192x1024 ![0, 0, 1024] (shapeCast S4x8192x2048 g shapeCasts_S32768x2048_S4x8192x2048) slices_S4x8192x2048_S4x8192x1024_0_0_1024)
      (Host.dotGeneral dot_S4x8192x512_S512x1024_S4x8192x1024_2_0_01_1_n_n none (shapeCast S4x8192x512 (extf .f32 o bitsLt_bf16_f32) shapeCasts_S32768x512_S4x8192x512) u))

/-- A sixth of the conditioning, from column `n`. -/
def part (n : Nat) (hn : S4x1x6144.Slices ![0, 0, n] S4x1x1024) (ada : FVec F S4x6144 .f32) : FVec F S4x1x1024 .f32 :=
  extractStridedSlice S4x1x1024 ![0, 0, n] (broadcastInDim S4x1x6144 ![0, 2] bcast_S4x6144_S4x1x6144_0_2 ada) hn

/-- The merged rows through the output projection, gated, added to the scaled input. -/
def added (p : FVec F S4x8192x1024 .f32) (w : FVec F S1024x1024 .f32) (x : FVec F S4x8192x1024 .f32) (g : FVec F S4x1x1024 .f32) : FVec F S4x8192x1024 .f32 :=
  addf (mulf (broadcastInDim S4x8192x1024 ![] bcast_S_S4x8192x1024 (constant S_ .f32 0x3F9837F0#32)) x)
    (mulf (broadcastInDim S4x8192x1024 ![0, 1, 2] bcast_S4x1x1024_S4x8192x1024_0_1_2 g)
      (Host.dotGeneral dot_S4x8192x1024_S1024x1024_S4x8192x1024_2_0_01_1_n_n none p w))

/-- The rows' means. -/
def mean (v : FVec F S4x8192x1024 .f32) : FVec F S4x8192x1 .f32 :=
  Host.divf (broadcastInDim S4x8192x1 ![0, 1] bcast_S4x8192_S4x8192x1_0_1 (Host.reduceAdd v (constant S_ .f32 0x00000000#32) reducesTo_S4x8192x1024_S4x8192_d2 h_S_))
    (broadcastInDim S4x8192x1 ![] bcast_S_S4x8192x1 (constant S_ .f32 0x44800000#32))

/-- The rows with their means taken off. -/
def centred (v : FVec F S4x8192x1024 .f32) : FVec F S4x8192x1024 .f32 :=
  subf v (broadcastInDim S4x8192x1024 ![0, 1, 2] bcast_S4x8192x1_S4x8192x1024_0_1_2 (mean v))

/-- The layer norm. -/
def norm (v : FVec F S4x8192x1024 .f32) (a b : FVec F S1024 .f32) : FVec F S4x8192x1024 .f32 :=
  addf (mulf (mulf (centred v) (broadcastInDim S4x8192x1024 ![0, 1, 2] bcast_S4x8192x1_S4x8192x1024_0_1_2
        (Host.rsqrt (addf (mean (mulf (centred v) (centred v))) (broadcastInDim S4x8192x1 ![] bcast_S_S4x8192x1 (constant S_ .f32 0x3727C5AC#32))))))
      (broadcastInDim S4x8192x1024 ![0, 1, 2] bcast_S1x1x1024_S4x8192x1024_0_1_2 (broadcastInDim S1x1x1024 ![2] bcast_S1024_S1x1x1024_2 a)))
    (broadcastInDim S4x8192x1024 ![0, 1, 2] bcast_S1x1x1024_S4x8192x1024_0_1_2 (broadcastInDim S1x1x1024 ![2] bcast_S1024_S1x1x1024_2 b))

/-- The modulation. -/
def modulated (v : FVec F S4x8192x1024 .f32) (sc sh : FVec F S4x1x1024 .f32) : FVec F S4x8192x1024 .f32 :=
  addf (mulf v (broadcastInDim S4x8192x1024 ![0, 1, 2] bcast_S4x1x1024_S4x8192x1024_0_1_2
      (addf (broadcastInDim S4x1x1024 ![] bcast_S_S4x1x1024 (constant S_ .f32 0x3F800000#32)) sc)))
    (broadcastInDim S4x8192x1024 ![0, 1, 2] bcast_S4x1x1024_S4x8192x1024_0_1_2 sh)

/-- The normalized rows from the reference's arguments. -/
def rows (y : FVec F S512x32768 .bf16) (o : FVec F S32768x512 .bf16) (g : FVec F S32768x2048 .f32) (x : FVec F S4x8192x1024 .f32) (ada : FVec F S4x6144 .f32)
    (w : FVec F S512x2048 .f32) (b : FVec F S2048 .f32) (u : FVec F S512x1024 .f32) (w' : FVec F S1024x1024 .f32) (na nb : FVec F S1024 .f32) : FVec F S4x8192x1024 .f32 :=
  norm (added (merged (gated (unit y w b)) o u g) w' x (part 2048 slices_S4x1x6144_S4x1x1024_0_0_2048 ada)) na nb

/-- The first result: the normalized rows. -/
def first (y : FVec F S512x32768 .bf16) (o : FVec F S32768x512 .bf16) (g : FVec F S32768x2048 .f32) (x : FVec F S4x8192x1024 .f32) (ada : FVec F S4x6144 .f32)
    (w : FVec F S512x2048 .f32) (b : FVec F S2048 .f32) (u : FVec F S512x1024 .f32) (w' : FVec F S1024x1024 .f32) (na nb : FVec F S1024 .f32) : FVec F S32768x1024 .f32 :=
  shapeCast S32768x1024 (rows y o g x ada w b u w' na nb) shapeCasts_S4x8192x1024_S32768x1024

/-- The second result: the modulated rows. -/
def second (y : FVec F S512x32768 .bf16) (o : FVec F S32768x512 .bf16) (g : FVec F S32768x2048 .f32) (x : FVec F S4x8192x1024 .f32) (ada : FVec F S4x6144 .f32)
    (w : FVec F S512x2048 .f32) (b : FVec F S2048 .f32) (u : FVec F S512x1024 .f32) (w' : FVec F S1024x1024 .f32) (na nb : FVec F S1024 .f32) : FVec F S32768x1024 .bf16 :=
  truncf .bf16 (shapeCast S32768x1024 (modulated (rows y o g x ada w b u w' na nb) (part 4096 slices_S4x1x6144_S4x1x1024_0_0_4096 ada)
    (part 3072 slices_S4x1x6144_S4x1x1024_0_0_3072 ada)) shapeCasts_S4x8192x1024_S32768x1024) bitsLt_bf16_f32

theorem first_eq (m : (ℓ : Loc nD τ sig) → Buf (Elt F) ℓ) (c : Dev nD) : Value.res_main_v68 m c
    = first (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) := by
  unfold Value.res_main_v68
  rfl

theorem second_eq (m : (ℓ : Loc nD τ sig) → Buf (Elt F) ℓ) (c : Dev nD) : Value.res_main_v70 m c
    = second (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) := by
  unfold Value.res_main_v70
  rfl

end

theorem unit_apply (y : FVec Ideal S512x32768 .bf16) (w : FVec Ideal S512x2048 .f32) (b : FVec Ideal S2048 .f32) (c : Fin 4) (l : Fin 8192) (i : Fin 2048) :
    unit y w b (ix3 c l i) = ∑ k : Fin 512, y (ix2 k ⟨c.val * 8192 + l.val, by omega⟩) * w (ix2 k i) + b (ix1 i) := by
  pointwise [unit]

theorem gated_apply (h : FVec Ideal S4x8192x2048 .f32) (c : Fin 4) (l : Fin 8192) (i : Fin 1024) :
    gated h (ix3 c l i) = h (ix3 c l ⟨i.val, by omega⟩) * Ideal.logistic (h (ix3 c l ⟨1024 + i.val, by omega⟩)) := by
  pointwise [gated]
  rfl

theorem merged_apply (s : FVec Ideal S4x8192x1024 .f32) (o : FVec Ideal S32768x512 .bf16) (u : FVec Ideal S512x1024 .f32) (g : FVec Ideal S32768x2048 .f32)
    (c : Fin 4) (l : Fin 8192) (i : Fin 1024) : merged s o u g (ix3 c l i)
      = g (ix2 ⟨c.val * 8192 + l.val, by omega⟩ ⟨i.val, by omega⟩) * s (ix3 c l i)
        + g (ix2 ⟨c.val * 8192 + l.val, by omega⟩ ⟨1024 + i.val, by omega⟩) * ∑ k : Fin 512, o (ix2 ⟨c.val * 8192 + l.val, by omega⟩ k) * u (ix2 k i) := by
  pointwise [merged]

theorem part_apply (n : Nat) (hn : S4x1x6144.Slices ![0, 0, n] S4x1x1024) (h : n + 1024 ≤ 6144) (ada : FVec Ideal S4x6144 .f32) (c : Fin 4) (k : Fin 1024) :
    part n hn ada (ix3 c 0 k) = ada (ix2 c ⟨n + k.val, by omega⟩) := by
  pointwise [part]

theorem added_apply (p : FVec Ideal S4x8192x1024 .f32) (w : FVec Ideal S1024x1024 .f32) (x : FVec Ideal S4x8192x1024 .f32) (g : FVec Ideal S4x1x1024 .f32)
    (c : Fin 4) (l : Fin 8192) (j : Fin 1024) : added p w x g (ix3 c l j)
      = Cert.Mix.added (fun i => p (ix3 c l i)) (fun i d => w (ix2 i d)) (fun d => x (ix3 c l d)) (fun d => g (ix3 c 0 d)) j := by
  unfold Cert.Mix.added
  pointwise [added]

theorem mean_apply (v : FVec Ideal S4x8192x1024 .f32) (c : Fin 4) (l : Fin 8192) : mean v (ix3 c l 0) = Cert.Mix.mean (fun k => v (ix3 c l k)) := by
  unfold Cert.Mix.mean
  pointwise [mean]

theorem centred_apply (v : FVec Ideal S4x8192x1024 .f32) (c : Fin 4) (l : Fin 8192) (j : Fin 1024) :
    centred v (ix3 c l j) = v (ix3 c l j) - Cert.Mix.mean (fun k => v (ix3 c l k)) := by
  rw [← mean_apply]
  pointwise [centred]

theorem norm_apply (v : FVec Ideal S4x8192x1024 .f32) (a b : FVec Ideal S1024 .f32) (c : Fin 4) (l : Fin 8192) (j : Fin 1024) :
    norm v a b (ix3 c l j) = Cert.Mix.norm (fun k => v (ix3 c l k)) (fun k => a (ix1 k)) (fun k => b (ix1 k)) j := by
  unfold Cert.Mix.norm
  have h : (fun k : Fin 1024 => (v (ix3 c l k) - Cert.Mix.mean (fun k => v (ix3 c l k))) * (v (ix3 c l k) - Cert.Mix.mean (fun k => v (ix3 c l k))))
      = fun k => mulf (centred v) (centred v) (ix3 c l k) :=
    funext fun k => (congrArg₂ (· * ·) (centred_apply v c l k) (centred_apply v c l k)).symm
  rw [h]
  beta_reduce
  rw [← centred_apply, ← mean_apply]
  pointwise [norm]

theorem modulated_apply (v : FVec Ideal S4x8192x1024 .f32) (sc sh : FVec Ideal S4x1x1024 .f32) (c : Fin 4) (l : Fin 8192) (j : Fin 1024) :
    modulated v sc sh (ix3 c l j) = Cert.Mix.modulated (fun k => v (ix3 c l k)) (fun k => sc (ix3 c 0 k)) (fun k => sh (ix3 c 0 k)) j := by
  unfold Cert.Mix.modulated
  pointwise [modulated]

/-- A normalized row, from the reference's arguments. -/
theorem rows_apply (y : FVec Ideal S512x32768 .bf16) (o : FVec Ideal S32768x512 .bf16) (g : FVec Ideal S32768x2048 .f32) (x : FVec Ideal S4x8192x1024 .f32)
    (ada : FVec Ideal S4x6144 .f32) (w : FVec Ideal S512x2048 .f32) (b : FVec Ideal S2048 .f32) (u : FVec Ideal S512x1024 .f32) (w' : FVec Ideal S1024x1024 .f32)
    (na nb : FVec Ideal S1024 .f32) (c : Fin 4) (l : Fin 8192) (j : Fin 1024) : rows y o g x ada w b u w' na nb (ix3 c l j)
      = Cert.Mix.norm (Cert.Mix.added (Cert.Mix.merged (fun k => y (ix2 k ⟨c.val * 8192 + l.val, by omega⟩)) (fun k i => w (ix2 k i)) (fun i => b (ix1 i))
            (fun k => o (ix2 ⟨c.val * 8192 + l.val, by omega⟩ k)) (fun k i => u (ix2 k i)) (fun i => g (ix2 ⟨c.val * 8192 + l.val, by omega⟩ i)))
          (fun i d => w' (ix2 i d)) (fun d => x (ix3 c l d)) (fun d => ada (ix2 c ⟨2048 + d.val, by omega⟩))) (fun k => na (ix1 k)) (fun k => nb (ix1 k)) j := by
  refine (norm_apply _ _ _ c l j).trans (congrFun (congrArg (fun v => Cert.Mix.norm v (fun k => na (ix1 k)) (fun k => nb (ix1 k))) (funext fun d => ?_)) j)
  refine (added_apply _ _ _ _ c l d).trans ?_
  have hp : (fun i => merged (gated (unit y w b)) o u g (ix3 c l i)) = Cert.Mix.merged (fun k => y (ix2 k ⟨c.val * 8192 + l.val, by omega⟩)) (fun k i => w (ix2 k i)) (fun i => b (ix1 i))
            (fun k => o (ix2 ⟨c.val * 8192 + l.val, by omega⟩ k)) (fun k i => u (ix2 k i)) (fun i => g (ix2 ⟨c.val * 8192 + l.val, by omega⟩ i)) :=
    funext fun i => by rw [merged_apply, gated_apply, unit_apply, unit_apply]; rfl
  have hg : (fun d => part 2048 slices_S4x1x6144_S4x1x1024_0_0_2048 ada (ix3 c 0 d)) = fun d : Fin 1024 => ada (ix2 c ⟨2048 + d.val, by omega⟩) :=
    funext fun d => part_apply 2048 _ (by omega) ada c d
  rw [hp, hg]

theorem first_apply (y : FVec Ideal S512x32768 .bf16) (o : FVec Ideal S32768x512 .bf16) (g : FVec Ideal S32768x2048 .f32) (x : FVec Ideal S4x8192x1024 .f32)
    (ada : FVec Ideal S4x6144 .f32) (w : FVec Ideal S512x2048 .f32) (b : FVec Ideal S2048 .f32) (u : FVec Ideal S512x1024 .f32) (w' : FVec Ideal S1024x1024 .f32)
    (na nb : FVec Ideal S1024 .f32) (r : Fin 32768) (j : Fin 1024) : first y o g x ada w b u w' na nb (ix2 r j)
      = rows y o g x ada w b u w' na nb (ix3 ⟨r.val / 8192, by omega⟩ ⟨r.val % 8192, by omega⟩ j) := by
  pointwise [first]

theorem second_apply (y : FVec Ideal S512x32768 .bf16) (o : FVec Ideal S32768x512 .bf16) (g : FVec Ideal S32768x2048 .f32) (x : FVec Ideal S4x8192x1024 .f32)
    (ada : FVec Ideal S4x6144 .f32) (w : FVec Ideal S512x2048 .f32) (b : FVec Ideal S2048 .f32) (u : FVec Ideal S512x1024 .f32) (w' : FVec Ideal S1024x1024 .f32)
    (na nb : FVec Ideal S1024 .f32) (r : Fin 32768) (j : Fin 1024) : second y o g x ada w b u w' na nb (ix2 r j)
      = Cert.Mix.modulated (fun k => rows y o g x ada w b u w' na nb (ix3 ⟨r.val / 8192, by omega⟩ ⟨r.val % 8192, by omega⟩ k))
          (fun k => ada (ix2 ⟨r.val / 8192, by omega⟩ ⟨4096 + k.val, by omega⟩)) (fun k => ada (ix2 ⟨r.val / 8192, by omega⟩ ⟨3072 + k.val, by omega⟩)) j := by
  have e : second y o g x ada w b u w' na nb (ix2 r j) = modulated (rows y o g x ada w b u w' na nb) (part 4096 slices_S4x1x6144_S4x1x1024_0_0_4096 ada)
      (part 3072 slices_S4x1x6144_S4x1x1024_0_0_3072 ada) (ix3 ⟨r.val / 8192, by omega⟩ ⟨r.val % 8192, by omega⟩ j) := by
    pointwise [second]
  refine e.trans ((modulated_apply _ _ _ _ _ j).trans ?_)
  rw [funext fun d => part_apply 4096 slices_S4x1x6144_S4x1x1024_0_0_4096 (by omega) ada ⟨r.val / 8192, by omega⟩ d,
    funext fun d => part_apply 3072 slices_S4x1x6144_S4x1x1024_0_0_3072 (by omega) ada ⟨r.val / 8192, by omega⟩ d]

end Cert.Reference2Ideal.Mix

end
-- ==== Proof.Mix.Value.lean ====
/- What the merge kernel leaves in its first two result arrays: the reference's results. -/
module

public import proofs.«01_k».proof.Proof.Mix.Blocks
public import proofs.«01_k».proof.Proof.Mix.Payloads
public import proofs.«01_k».proof.Proof.Mix.Reference
public import Idealize.ShloMosaic.Lib.Pipeline.Covers

@[expose] public section

set_option maxRecDepth 16384

noncomputable section

namespace Cert.Kernel2Ideal.Mix

open Cert.Kernel2Ideal Cert.Kernel2Ideal.Gen
open Idealize.ShloMosaic Idealize.ShloMosaic.TcCoe Idealize.ShloMosaic.Tactic Idealize.SL.Sem

variable (m : (ℓ : Loc nD τ sig) → Buf (Elt Ideal) ℓ)

/-- What the reference computes from this kernel's arguments: its rows, and its two results. -/
abbrev rowsOf (c : Dev nD) : FVec Ideal Cert.Reference2Ideal.S4x8192x1024 .f32 :=
  Cert.Reference2Ideal.Mix.rows (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))

abbrev firstOf (c : Dev nD) : FVec Ideal S32768x1024 .f32 :=
  Cert.Reference2Ideal.Mix.first (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))

abbrev secondOf (c : Dev nD) : FVec Ideal S32768x1024 .bf16 :=
  Cert.Reference2Ideal.Mix.second (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))

theorem hz3 : (![0, 0, 0] : Fin 3 → Nat) = fun _ => 0 := funext fun a => by fin_cases a <;> rfl
theorem hz2 : (![0, 0] : Fin 2 → Nat) = fun _ => 0 := funext fun a => by fin_cases a <;> rfl

/-- The two halves of the gates' block. -/
theorem left_apply (x : Vec Ideal S512x2048 .f32) (r : Fin 512) (i : Fin 1024) : View.ld x r0_4 (ix2 r i) = x (ix2 r ⟨i.val, by omega⟩) :=
  View.ld_unit_apply_of x _ _ _ _ (ix2 r ⟨i.val, by omega⟩) fun a => match a with
    | ⟨0, _⟩ => by show r.val = 0 + r.val; omega
    | ⟨1, _⟩ => by show i.val = 0 + i.val; omega

theorem right_apply (x : Vec Ideal S512x2048 .f32) (r : Fin 512) (i : Fin 1024) : View.ld x r0_5 (ix2 r i) = x (ix2 r ⟨1024 + i.val, by omega⟩) :=
  View.ld_unit_apply_of x _ _ _ _ (ix2 r ⟨1024 + i.val, by omega⟩) fun a => match a with
    | ⟨0, _⟩ => by show r.val = 0 + r.val; omega
    | ⟨1, _⟩ => by show 1024 + i.val = 1024 + i.val; omega

/-- What a grid point stores, its loads read as whole blocks. -/
theorem sums_eq (x0 : Vec Ideal S512x512 .bf16) (x1 : Vec Ideal S512x512 .bf16) (x2 : Vec Ideal S512x2048 .f32) (x3 : Vec Ideal S512x1024 .f32) (x4 x5 x6 : Vec Ideal S1x1x1024 .f32)
    (x7 : Vec Ideal S512x2048 .bf16) (x8 : Vec Ideal S1x2048 .f32) (x9 : Vec Ideal S512x1024 .bf16) (x10 : Vec Ideal S1024x1024 .bf16) (x11 x12 : Vec Ideal S1x1024 .f32)
    (x13 : Vec Ideal S1024x128 .f32) (x14 : Vec Ideal S1x128 .f32) : k0_pay26 (F := Ideal) x0 x1 x2 x3 x4 x5 x6 x7 x8 x9 x10 x11 x12 x13 x14
      = k0_pay2 (F := Ideal) x0 x7 x8 x1 x9 (View.ld x2 r0_4) (View.ld x2 r0_5) x10 x3 x4 := by
  unfold k0_pay26
  repeat rw [View.ld_unit_zero hz2]
  rw [View.ld_unit_zero hz3]

theorem out15_eq (x0 : Vec Ideal S512x512 .bf16) (x1 : Vec Ideal S512x512 .bf16) (x2 : Vec Ideal S512x2048 .f32) (x3 : Vec Ideal S512x1024 .f32) (x4 x5 x6 : Vec Ideal S1x1x1024 .f32)
    (x7 : Vec Ideal S512x2048 .bf16) (x8 : Vec Ideal S1x2048 .f32) (x9 : Vec Ideal S512x1024 .bf16) (x10 : Vec Ideal S1024x1024 .bf16) (x11 x12 : Vec Ideal S1x1024 .f32)
    (x13 : Vec Ideal S1024x128 .f32) (x14 : Vec Ideal S1x128 .f32) : out0_15 (F := Ideal) x0 x1 x2 x3 x4 x5 x6 x7 x8 x9 x10 x11 x12 x13 x14
      = k0_pay3 (F := Ideal) (k0_pay26 (F := Ideal) x0 x1 x2 x3 x4 x5 x6 x7 x8 x9 x10 x11 x12 x13 x14) x11 x12 := by
  unfold out0_15
  rw [View.canon_unit_zero hz2]
  repeat rw [View.ld_unit_zero hz2]

theorem out16_eq (x0 : Vec Ideal S512x512 .bf16) (x1 : Vec Ideal S512x512 .bf16) (x2 : Vec Ideal S512x2048 .f32) (x3 : Vec Ideal S512x1024 .f32) (x4 x5 x6 : Vec Ideal S1x1x1024 .f32)
    (x7 : Vec Ideal S512x2048 .bf16) (x8 : Vec Ideal S1x2048 .f32) (x9 : Vec Ideal S512x1024 .bf16) (x10 : Vec Ideal S1024x1024 .bf16) (x11 x12 : Vec Ideal S1x1024 .f32)
    (x13 : Vec Ideal S1024x128 .f32) (x14 : Vec Ideal S1x128 .f32) : out0_16 (F := Ideal) x0 x1 x2 x3 x4 x5 x6 x7 x8 x9 x10 x11 x12 x13 x14
      = k0_pay5 (F := Ideal) (k0_pay26 (F := Ideal) x0 x1 x2 x3 x4 x5 x6 x7 x8 x9 x10 x11 x12 x13 x14) x11 x12 x5 x6 := by
  unfold out0_16
  rw [View.canon_unit_zero hz2]
  repeat rw [View.ld_unit_zero hz2]
  repeat rw [View.ld_unit_zero hz3]

/-- The rows a grid point adds up, before their norm. -/
def sums (c : Dev nD) (t : Fin cfg0.N) : FVec Ideal S512x1024 .f32 :=
  k0_pay2 (F := Ideal) (iblk m c 0 t) (iblk m c 7 t) (iblk m c 8 t) (iblk m c 1 t) (iblk m c 9 t) (View.ld (iblk m c 2 t) r0_4) (View.ld (iblk m c 2 t) r0_5)
    (iblk m c 10 t) (iblk m c 3 t) (iblk m c 4 t)

/-- A normalized row at a grid point is the reference's. -/
theorem stored_first (c : Dev nD) (t : Fin cfg0.N) (r : Fin 512) (R : Fin 32768) (hR : R.val = t.val * 512 + r.val) (j : Fin 1024) :
    k0_pay3 (F := Ideal) (sums m c t) (iblk m c 11 t) (iblk m c 12 t) (ix2 r j)
      = rowsOf m c (ix3 ⟨R.val / 8192, by omega⟩ ⟨R.val % 8192, by omega⟩ j) := by
  refine (pay3_apply _ _ _ r j).trans ?_
  refine Eq.trans ?_ (Cert.Reference2Ideal.Mix.rows_apply _ _ _ _ _ _ _ _ _ _ _ _ _ _).symm
  have hb : R.val / 8192 = t.val / 16 := by omega
  have e : (⟨R.val / 8192 * 8192 + R.val % 8192, by omega⟩ : Fin 32768) = R := Fin.ext (by show R.val / 8192 * 8192 + R.val % 8192 = R.val; omega)
  rw [e, funext fun k => iblk11_apply m c t k, funext fun k => iblk12_apply m c t k]
  refine congrFun (congrArg (fun v => Cert.Mix.norm v _ _) (funext fun d => ?_)) j
  refine (pay2_apply _ _ _ _ _ _ _ _ _ _ (fun r i => iblk m c 2 t (ix2 r i)) (left_apply _) (right_apply _) r d).trans ?_
  rw [funext fun k => iblk0_apply m c t k r R hR, funext fun k => funext fun i => iblk7_apply m c t k i, funext fun i => iblk8_apply m c t i,
    funext fun k => iblk1_apply m c t r k R hR, funext fun k => funext fun i => iblk9_apply m c t k i, funext fun k => iblk2_apply m c t r k R hR,
    funext fun i => funext fun d => iblk10_apply m c t i d, funext fun d => iblk3_apply m c t r d R hR,
    funext fun d => iblk4_apply m c t d ⟨R.val / 8192, by omega⟩ hb]

/-- So is a modulated one. -/
theorem stored_second (c : Dev nD) (t : Fin cfg0.N) (r : Fin 512) (R : Fin 32768) (hR : R.val = t.val * 512 + r.val) (j : Fin 1024) :
    k0_pay5 (F := Ideal) (sums m c t) (iblk m c 11 t) (iblk m c 12 t) (iblk m c 5 t) (iblk m c 6 t) (ix2 r j) = secondOf m c (ix2 R j) := by
  have hb : R.val / 8192 = t.val / 16 := by omega
  refine (pay5_apply _ _ _ _ _ r j).trans ?_
  refine Eq.trans ?_ (Cert.Reference2Ideal.Mix.second_apply _ _ _ _ _ _ _ _ _ _ _ _ _).symm
  rw [funext fun k => stored_first m c t r R hR k, funext fun k => iblk5_apply m c t k ⟨R.val / 8192, by omega⟩ hb,
    funext fun k => iblk6_apply m c t k ⟨R.val / 8192, by omega⟩ hb]

/-- The first result array after the last grid point. -/
theorem final_first (c : Dev nD) : (dats m 0 c).arrAt 15 cfg0.N = firstOf m c := by
  refine (dats m 0 c).arrAt_eq_of_covers 15 _ (by decide +kernel) fun t _ y => ?_
  rw [after0_15]
  revert y
  intro (y : S512x1024.Idx)
  obtain ⟨r, j, rfl⟩ : ∃ (r : Fin 512) (j : Fin 1024), y = ix2 r j := ⟨y 0, y 1, funext fun a => match a with
    | ⟨0, _⟩ => rfl
    | ⟨1, _⟩ => rfl⟩
  have hR : t.val * 512 + r.val < 32768 := by have := lt t; omega
  refine Eq.trans ?_ (congrArg (firstOf m c) (emb15 t r j ⟨t.val * 512 + r.val, hR⟩ rfl)).symm
  refine Eq.trans ?_ (Cert.Reference2Ideal.Mix.first_apply _ _ _ _ _ _ _ _ _ _ _ _ _).symm
  refine Eq.trans ?_ (stored_first m c t r ⟨t.val * 512 + r.val, hR⟩ rfl j)
  unfold sums
  rw [out15_eq, sums_eq]
  rfl

/-- The second result array after the last grid point. -/
theorem final_second (c : Dev nD) : (dats m 0 c).arrAt 16 cfg0.N = secondOf m c := by
  refine (dats m 0 c).arrAt_eq_of_covers 16 _ (by decide +kernel) fun t _ y => ?_
  rw [after0_16]
  revert y
  intro (y : S512x1024.Idx)
  obtain ⟨r, j, rfl⟩ : ∃ (r : Fin 512) (j : Fin 1024), y = ix2 r j := ⟨y 0, y 1, funext fun a => match a with
    | ⟨0, _⟩ => rfl
    | ⟨1, _⟩ => rfl⟩
  have hR : t.val * 512 + r.val < 32768 := by have := lt t; omega
  refine Eq.trans ?_ (congrArg (secondOf m c) (emb16 t r j ⟨t.val * 512 + r.val, hR⟩ rfl)).symm
  refine Eq.trans ?_ (stored_second m c t r ⟨t.val * 512 + r.val, hR⟩ rfl j)
  unfold sums
  rw [out16_eq, sums_eq]
  rfl

end Cert.Kernel2Ideal.Mix

end
-- ==== Proof.Proj.Value.lean ====
/- The scan's input projection: what the kernel leaves in its result array, and that the reference computes the same. -/
module

public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.Covers
public import Idealize.ShloMosaic.Lib.StableHlo.Run
public import Idealize.ShloMosaic.Lib.Pointwise
public import Idealize.ShloMosaic.Lib.Tactic

@[expose] public section

set_option maxRecDepth 16384

noncomputable section

namespace Cert.Proj

open Idealize.ShloMosaic

/-- One projected value: a row of the sequence, scaled and shifted, times a column of the weights. -/
def value (x sc sh w : Fin 1024 → EReal) : EReal := ∑ k, (x k * (1 + sc k) + sh k) * w k

end Cert.Proj

namespace Cert.Reference3Ideal.Proj

open Cert.Reference3Ideal Cert.Reference3Ideal.Gen Idealize.ShloMosaic Idealize.ShloMosaic.TcCoe

/-- The reference's result from its three arguments. -/
def result {F : FTy → Type} [FloatOps F] (x : FVec F S4x8192x1024 .f32) (ada : FVec F S4x6144 .f32) (w : FVec F S1024x3864 .f32) : FVec F S32x32x16x1024 .f32 :=
  shapeCast S32x32x16x1024 (transpose S32x32x16x4x256 [3, 2, 4, 0, 1] (shapeCast S4x256x32x32x16 (Host.dotGeneral dot_S4x8192x1024_S1024x512_S4x8192x512_2_0_01_1_n_n none
    (addf (mulf x (broadcastInDim S4x8192x1024 ![0, 1, 2] bcast_S4x1x1024_S4x8192x1024_0_1_2
        (addf (broadcastInDim S4x1x1024 ![] bcast_S_S4x1x1024 (constant S_ .f32 0x3F800000#32))
          (extractStridedSlice S4x1x1024 ![0, 0, 1024] (broadcastInDim S4x1x6144 ![0, 2] bcast_S4x6144_S4x1x6144_0_2 ada) slices_S4x1x6144_S4x1x1024_0_0_1024))))
      (broadcastInDim S4x8192x1024 ![0, 1, 2] bcast_S4x1x1024_S4x8192x1024_0_1_2
        (extractStridedSlice S4x1x1024 ![0, 0, 0] (broadcastInDim S4x1x6144 ![0, 2] bcast_S4x6144_S4x1x6144_0_2 ada) slices_S4x1x6144_S4x1x1024_0_0_0)))
    (extractStridedSlice S1024x512 ![0, 0] w slices_S1024x3864_S1024x512_0_0)) shapeCasts_S4x8192x512_S4x256x32x32x16)
    transposes_S4x256x32x32x16_S32x32x16x4x256_3_2_4_0_1) shapeCasts_S32x32x16x4x256_S32x32x16x1024

theorem result_apply (x : FVec Ideal S4x8192x1024 .f32) (ada : FVec Ideal S4x6144 .f32) (w : FVec Ideal S1024x3864 .f32)
    (h p : Fin 32) (n : Fin 16) (z : Fin 1024) :
    result x ada w (ix4 h p n z) = Cert.Proj.value (fun k => x (ix3 ⟨z.val / 256, by omega⟩ ⟨z.val % 256 * 32 + p.val, by omega⟩ k))
      (fun k => ada (ix2 ⟨z.val / 256, by omega⟩ ⟨1024 + k.val, by omega⟩)) (fun k => ada (ix2 ⟨z.val / 256, by omega⟩ ⟨k.val, by omega⟩))
      (fun k => w (ix2 k ⟨h.val * 16 + n.val, by omega⟩)) := by
  unfold Cert.Proj.value
  pointwise [result]

end Cert.Reference3Ideal.Proj

namespace Cert.Kernel3Ideal.Proj

open Cert.Kernel3Ideal Cert.Kernel3Ideal.Gen
open Idealize.ShloMosaic Idealize.ShloMosaic.TcCoe Idealize.ShloMosaic.Tactic Idealize.SL.Sem

theorem pay1_apply (x : Vec Ideal S1x1x256x1024 .f32) (sc sh : Vec Ideal S1x1x1024 .f32) (w : Vec Ideal S512x1024 .bf16)
    (h : Fin 32) (n : Fin 16) (r : Fin 256) :
    k0_pay1 (F := Ideal) x sc sh w (ix4 h 0 n r) = Cert.Proj.value (fun k => x (ix4 0 0 r k)) (fun k => sc (ix3 0 0 k)) (fun k => sh (ix3 0 0 k))
      (fun k => w (ix2 ⟨h.val * 16 + n.val, by omega⟩ k)) := by
  unfold Cert.Proj.value
  pointwise [k0_pay1]
  exact Finset.sum_congr rfl fun k _ => mul_comm _ _

/-- The sequence cut into steps, at batch `b`, step `p` and row `r`. -/
theorem steps_apply (x : FVec Ideal S4x8192x1024 .f32) (b : Fin 4) (p : Fin 32) (r : Fin 256) (k : Fin 1024) :
    transpose S4x32x256x1024 [0, 2, 1, 3] (shapeCast S4x256x32x1024 x shapeCasts_S4x8192x1024_S4x256x32x1024) transposes_S4x256x32x1024_S4x32x256x1024_0_2_1_3 (ix4 b p r k)
      = x (ix3 b ⟨r.val * 32 + p.val, by omega⟩ k) := by
  pointwise

variable (m : (ℓ : Loc nD τ sig) → Buf (Elt Ideal) ℓ)

/-- The four arrays the windows read, as the host lines make them. -/
theorem V_v16 (c : Dev nD) : V m c main_v16 = transpose S4x32x256x1024 [0, 2, 1, 3]
    (shapeCast S4x256x32x1024 (m ((c : Thread nD τ).loc main_arg0)) shapeCasts_S4x8192x1024_S4x256x32x1024) transposes_S4x256x32x1024_S4x32x256x1024_0_2_1_3 := by
  unfold_abbrev_sides
  after_results
  rfl

theorem V_v7 (c : Dev nD) : V m c main_v7 = shapeCast S4x1x1024 (extractStridedSlice S4x1024 ![0, 1024] (m ((c : Thread nD τ).loc main_arg1)) slices_S4x6144_S4x1024_0_1024)
    shapeCasts_S4x1024_S4x1x1024 := by
  unfold_abbrev_sides
  after_results
  rfl

theorem V_v6 (c : Dev nD) : V m c main_v6 = shapeCast S4x1x1024 (extractStridedSlice S4x1024 ![0, 0] (m ((c : Thread nD τ).loc main_arg1)) slices_S4x6144_S4x1024_0_0)
    shapeCasts_S4x1024_S4x1x1024 := by
  unfold_abbrev_sides
  after_results
  rfl

theorem V_v14 (c : Dev nD) : V m c main_v14 = truncf (F := Ideal) .bf16 (transpose S512x1024 [1, 0]
    (extractStridedSlice S1024x512 ![0, 0] (m ((c : Thread nD τ).loc main_arg2)) slices_S1024x3864_S1024x512_0_0) transposes_S1024x512_S512x1024_1_0) bitsLt_bf16_f32 := by
  unfold_abbrev_sides
  after_results

/-- Where the windows point at a grid point: batch `t / 32`, step `t % 32`. -/
theorem index0 : ∀ t : Fin grid0.N, cc0_transform_0 (grid0.coords t) = ![t.val / 32, t.val % 32, 0, 0] := by decide +kernel
theorem index1 : ∀ t : Fin grid0.N, cc0_transform_1 (grid0.coords t) = ![t.val / 32, 0, 0] := by decide +kernel
theorem index2 : ∀ t : Fin grid0.N, cc0_transform_2 (grid0.coords t) = ![t.val / 32, 0, 0] := by decide +kernel
theorem index3 : ∀ t : Fin grid0.N, cc0_transform_3 (grid0.coords t) = ![0, 0] := by decide +kernel
theorem index4 : ∀ t : Fin grid0.N, cc0_transform_4 (grid0.coords t) = ![0, t.val % 32, 0, t.val / 32] := by decide +kernel

theorem lt (t : Fin cfg0.N) : t.val < 128 := t.isLt

theorem emb0 (t : Fin cfg0.N) (r : Fin 256) (k : Fin 1024) :
    ((cfg0.win 0).blk t).view.emb (ix4 0 0 r k) = (ix4 ⟨t.val / 32, by have := lt t; omega⟩ ⟨t.val % 32, by omega⟩ r k : S4x32x256x1024.Idx) := by
  refine funext fun a => Fin.ext ?_
  refine ((cfg0.win 0).rect_emb_val t (ix4 0 0 r k) a).trans ?_
  refine (congrArg (fun v : Fin 4 → Nat => v a * S1x1x256x1024.size a + (ix4 0 0 r k : S1x1x256x1024.Idx) a) (index0 t)).trans ?_
  match a with
  | ⟨0, _⟩ => show t.val / 32 * 1 + 0 = t.val / 32; omega
  | ⟨1, _⟩ => show t.val % 32 * 1 + 0 = t.val % 32; omega
  | ⟨2, _⟩ => show 0 * 256 + r.val = r.val; omega
  | ⟨3, _⟩ => show 0 * 1024 + k.val = k.val; omega

theorem emb1 (t : Fin cfg0.N) (k : Fin 1024) :
    ((cfg0.win 1).blk t).view.emb (ix3 0 0 k) = (ix3 ⟨t.val / 32, by have := lt t; omega⟩ 0 k : S4x1x1024.Idx) := by
  refine funext fun a => Fin.ext ?_
  refine ((cfg0.win 1).rect_emb_val t (ix3 0 0 k) a).trans ?_
  refine (congrArg (fun v : Fin 3 → Nat => v a * S1x1x1024.size a + (ix3 0 0 k : S1x1x1024.Idx) a) (index1 t)).trans ?_
  match a with
  | ⟨0, _⟩ => show t.val / 32 * 1 + 0 = t.val / 32; omega
  | ⟨1, _⟩ => rfl
  | ⟨2, _⟩ => show 0 * 1024 + k.val = k.val; omega

theorem emb2 (t : Fin cfg0.N) (k : Fin 1024) :
    ((cfg0.win 2).blk t).view.emb (ix3 0 0 k) = (ix3 ⟨t.val / 32, by have := lt t; omega⟩ 0 k : S4x1x1024.Idx) := by
  refine funext fun a => Fin.ext ?_
  refine ((cfg0.win 2).rect_emb_val t (ix3 0 0 k) a).trans ?_
  refine (congrArg (fun v : Fin 3 → Nat => v a * S1x1x1024.size a + (ix3 0 0 k : S1x1x1024.Idx) a) (index2 t)).trans ?_
  match a with
  | ⟨0, _⟩ => show t.val / 32 * 1 + 0 = t.val / 32; omega
  | ⟨1, _⟩ => rfl
  | ⟨2, _⟩ => show 0 * 1024 + k.val = k.val; omega

theorem emb3 (t : Fin cfg0.N) (o : Fin 512) (k : Fin 1024) :
    ((cfg0.win 3).blk t).view.emb (ix2 o k) = (ix2 o k : S512x1024.Idx) := by
  refine funext fun a => Fin.ext ?_
  refine ((cfg0.win 3).rect_emb_val t (ix2 o k) a).trans ?_
  refine (congrArg (fun v : Fin 2 → Nat => v a * S512x1024.size a + (ix2 o k : S512x1024.Idx) a) (index3 t)).trans ?_
  match a with
  | ⟨0, _⟩ => show 0 * 512 + o.val = o.val; omega
  | ⟨1, _⟩ => show 0 * 1024 + k.val = k.val; omega

theorem emb4 (t : Fin cfg0.N) (h : Fin 32) (n : Fin 16) (r : Fin 256) :
    ((cfg0.win 4).blk t).view.emb (ix4 h 0 n r) = (ix4 h ⟨t.val % 32, by omega⟩ n ⟨t.val / 32 * 256 + r.val, by have := lt t; omega⟩ : S32x32x16x1024.Idx) := by
  refine funext fun a => Fin.ext ?_
  refine ((cfg0.win 4).rect_emb_val t (ix4 h 0 n r) a).trans ?_
  refine (congrArg (fun v : Fin 4 → Nat => v a * S32x1x16x256.size a + (ix4 h 0 n r : S32x1x16x256.Idx) a) (index4 t)).trans ?_
  match a with
  | ⟨0, _⟩ => show 0 * 32 + h.val = h.val; omega
  | ⟨1, _⟩ => show t.val % 32 * 1 + 0 = t.val % 32; omega
  | ⟨2, _⟩ => show 0 * 16 + n.val = n.val; omega
  | ⟨3, _⟩ => rfl

theorem iblk0_apply (c : Dev nD) (t : Fin cfg0.N) (r : Fin 256) (k : Fin 1024) : iblk m c 0 t (ix4 0 0 r k)
    = m ((c : Thread nD τ).loc main_arg0) (ix3 ⟨t.val / 32, by have := lt t; omega⟩ ⟨r.val * 32 + t.val % 32, by omega⟩ k) := by
  refine (congrFun (V_v16 m c : V m c (Pipeline.arrRef spec0 0) = _) _).trans ?_
  refine (congrArg _ (emb0 t r k)).trans ?_
  exact steps_apply _ _ _ _ _

theorem iblk1_apply (c : Dev nD) (t : Fin cfg0.N) (k : Fin 1024) : iblk m c 1 t (ix3 0 0 k)
    = m ((c : Thread nD τ).loc main_arg1) (ix2 ⟨t.val / 32, by have := lt t; omega⟩ ⟨1024 + k.val, by omega⟩) := by
  refine (congrFun (V_v7 m c : V m c (Pipeline.arrRef spec0 1) = _) _).trans ?_
  refine (congrArg _ (emb1 t k)).trans ?_
  pointwise

theorem iblk2_apply (c : Dev nD) (t : Fin cfg0.N) (k : Fin 1024) : iblk m c 2 t (ix3 0 0 k)
    = m ((c : Thread nD τ).loc main_arg1) (ix2 ⟨t.val / 32, by have := lt t; omega⟩ ⟨k.val, by omega⟩) := by
  refine (congrFun (V_v6 m c : V m c (Pipeline.arrRef spec0 2) = _) _).trans ?_
  refine (congrArg _ (emb2 t k)).trans ?_
  pointwise

theorem iblk3_apply (c : Dev nD) (t : Fin cfg0.N) (o : Fin 512) (k : Fin 1024) : iblk m c 3 t (ix2 o k)
    = m ((c : Thread nD τ).loc main_arg2) (ix2 k ⟨o.val, by omega⟩) := by
  refine (congrFun (V_v14 m c : V m c (Pipeline.arrRef spec0 3) = _) _).trans ?_
  refine (congrArg _ (emb3 t o k)).trans ?_
  pointwise

/-- What the reference computes from this kernel's arguments. -/
abbrev resultOf (c : Dev nD) : FVec Ideal S32x32x16x1024 .f32 :=
  Cert.Reference3Ideal.Proj.result (F := Ideal) (m ((c : Thread nD τ).loc main_arg0)) (m ((c : Thread nD τ).loc main_arg1)) (m ((c : Thread nD τ).loc main_arg2))

/-- What grid point `t` stores is its block of the reference's result. -/
theorem stored (c : Dev nD) (t : Fin cfg0.N) (h : Fin 32) (n : Fin 16) (r : Fin 256) :
    k0_pay1 (F := Ideal) (iblk m c 0 t) (iblk m c 1 t) (iblk m c 2 t) (iblk m c 3 t) (ix4 h 0 n r)
      = resultOf m c (ix4 h ⟨t.val % 32, by omega⟩ n ⟨t.val / 32 * 256 + r.val, by have := lt t; omega⟩) := by
  refine (pay1_apply _ _ _ _ h n r).trans ?_
  refine Eq.trans ?_ (Cert.Reference3Ideal.Proj.result_apply _ _ _ _ _ _ _).symm
  have e : (⟨t.val / 32, by have := lt t; omega⟩ : Fin 4) = ⟨(t.val / 32 * 256 + r.val) / 256, by have := lt t; omega⟩ := Fin.ext (by show t.val / 32 = (t.val / 32 * 256 + r.val) / 256; omega)
  have e' : (⟨r.val * 32 + t.val % 32, by omega⟩ : Fin 8192) = ⟨(t.val / 32 * 256 + r.val) % 256 * 32 + t.val % 32, by omega⟩ :=
    Fin.ext (by show r.val * 32 + t.val % 32 = (t.val / 32 * 256 + r.val) % 256 * 32 + t.val % 32; omega)
  have h0 := fun k => iblk0_apply m c t r k
  have h1 := fun k => iblk1_apply m c t k
  have h2 := fun k => iblk2_apply m c t k
  have h3 := fun k => iblk3_apply m c t ⟨h.val * 16 + n.val, by omega⟩ k
  rw [e] at h0 h1 h2
  rw [e'] at h0
  rw [funext h0, funext h1, funext h2, funext h3]

/-- The result array after the last grid point is the reference's result. -/
theorem final (c : Dev nD) : (dats m 0 c).arrAt 4 cfg0.N = resultOf m c := by
  refine (dats m 0 c).arrAt_eq_of_covers 4 _ (by decide +kernel) fun t _ y => ?_
  rw [after0_4]
  revert y
  intro (y : S32x1x16x256.Idx)
  have hy : y = (ix4 (y 0) 0 (y 2) (y 3) : S32x1x16x256.Idx) := funext fun a => match a with
    | ⟨0, _⟩ => rfl
    | ⟨1, _⟩ => Subsingleton.elim (α := Fin 1) _ _
    | ⟨2, _⟩ => rfl
    | ⟨3, _⟩ => rfl
  rw [hy]
  refine Eq.trans ?_ (congrArg (resultOf m c) (emb4 t (y 0) (y 2) (y 3))).symm
  refine Eq.trans ?_ (stored m c t (y 0) (y 2) (y 3))
  have hz4 : (![0, 0, 0, 0] : Fin 4 → Nat) = fun _ => 0 := funext fun a => by fin_cases a <;> rfl
  have hz3 : (![0, 0, 0] : Fin 3 → Nat) = fun _ => 0 := funext fun a => by fin_cases a <;> rfl
  have hz2 : (![0, 0] : Fin 2 → Nat) = fun _ => 0 := funext fun a => by fin_cases a <;> rfl
  unfold out0_4
  rw [View.canon_unit_zero hz4, View.ld_unit_zero hz4, View.ld_unit_zero hz3, View.ld_unit_zero hz3, View.ld_unit_zero hz2]
  rfl

end Cert.Kernel3Ideal.Proj

end
-- ==== Proof.Compress.Reference.lean ====
/- The compression of keys and values: what the reference computes, element by element. -/
module

public import proofs.«01_k».proof.Proof.Gen.Reference5Ideal.Run
public import Idealize.ShloMosaic.Lib.Pointwise
public import Idealize.ShloMosaic.Lib.Tactic

@[expose] public section

set_option maxRecDepth 16384

noncomputable section

namespace Cert.Compress

open Idealize.ShloMosaic

/-- One hidden value before its activation: a block of 32 tokens of 64 channels, the block's own 16 and the next 16 (after the
    last the first), plus the position's table, times a column of the first weights. -/
def hidden (k : Fin 8192 → Fin 64 → EReal) (pos : Fin 32 → Fin 64 → EReal) (w : Fin 2048 → EReal) (n : Fin 512) : EReal :=
  ∑ j : Fin 2048, (k ⟨(n.val + j.val / 1024) % 512 * 16 + j.val % 1024 / 64, by omega⟩ ⟨j.val % 64, by omega⟩ + pos ⟨j.val / 64, by omega⟩ ⟨j.val % 64, by omega⟩) * w j

/-- The factor of the activation: half of one plus a hyperbolic tangent. -/
def factor (z : EReal) : EReal :=
  (Scalar.ofBits (F := Ideal) .f32 0x3F000000#32 : EReal) * ((Scalar.ofBits (F := Ideal) .f32 0x3F800000#32 : EReal)
    + Ideal.tanh ((Scalar.ofBits (F := Ideal) .f32 0x3F4C422A#32 : EReal) * (z + (Scalar.ofBits (F := Ideal) .f32 0x3D372713#32 : EReal) * (z * (z * z)))))

/-- One compressed value: the activated hidden values times a column of the second weights. -/
def value (k : Fin 8192 → Fin 64 → EReal) (pos : Fin 32 → Fin 64 → EReal) (w1 : Fin 2048 → Fin 128 → EReal) (w2 : Fin 128 → EReal) (n : Fin 512) : EReal :=
  ∑ h : Fin 128, (hidden k pos (fun j => w1 j h) n * factor (hidden k pos (fun j => w1 j h) n)) * w2 h

end Cert.Compress

namespace Cert.Reference5Ideal.Compress

open Cert.Reference5Ideal Cert.Reference5Ideal.Gen Idealize.ShloMosaic Idealize.ShloMosaic.TcCoe

section
variable {F : FTy → Type} [FloatOps F]

/-- The tokens of a head in groups of 16. -/
def steps (k : FVec F S4x2x8192x64 .bf16) : FVec F S4x2x512x16x64 .f32 :=
  shapeCast S4x2x512x16x64 (extf .f32 k bitsLt_bf16_f32) shapeCasts_S4x2x8192x64_S4x2x512x16x64

/-- The groups one further on, the first after the last. -/
def following (s : FVec F S4x2x512x16x64 .f32) : FVec F S4x2x512x16x64 .f32 :=
  concatenate S4x2x512x16x64 2 [⟨S4x2x511x16x64, extractStridedSlice S4x2x511x16x64 ![0, 0, 1, 0, 0] s slices_S4x2x512x16x64_S4x2x511x16x64_0_0_1_0_0⟩,
    ⟨S4x2x1x16x64, extractStridedSlice S4x2x1x16x64 ![0, 0, 0, 0, 0] s slices_S4x2x512x16x64_S4x2x1x16x64_0_0_0_0_0⟩] concatenates_S4x2x511x16x64_S4x2x1x16x64_S4x2x512x16x64_d2

/-- Overlapping blocks of 32 tokens, with the position's table added, a row each. -/
def blocks (k : FVec F S4x2x8192x64 .bf16) (pos : FVec F S32x64 .f32) : FVec F S4x2x512x2048 .f32 :=
  shapeCast S4x2x512x2048 (addf (concatenate S4x2x512x32x64 3 [⟨S4x2x512x16x64, steps k⟩, ⟨S4x2x512x16x64, following (steps k)⟩]
      concatenates_S4x2x512x16x64_S4x2x512x16x64_S4x2x512x32x64_d3)
    (broadcastInDim S4x2x512x32x64 ![0, 1, 2, 3, 4] bcast_S1x1x1x32x64_S4x2x512x32x64_0_1_2_3_4 (broadcastInDim S1x1x1x32x64 ![3, 4] bcast_S32x64_S1x1x1x32x64_3_4 pos)))
    shapeCasts_S4x2x512x32x64_S4x2x512x2048

/-- The rows times the first weights. -/
def product (k : FVec F S4x2x8192x64 .bf16) (pos : FVec F S32x64 .f32) (w1 : FVec F S2048x128 .f32) : FVec F S4x2x512x128 .f32 :=
  Host.dotGeneral dot_S4x2x512x2048_S2048x128_S4x2x512x128_3_0_012_1_n_n none (blocks k pos) w1

/-- The activation. -/
def gelu (v : FVec F S4x2x512x128 .f32) : FVec F S4x2x512x128 .f32 :=
  mulf v (mulf (broadcastInDim S4x2x512x128 ![] bcast_S_S4x2x512x128 (constant S_ .f32 0x3F000000#32))
    (addf (broadcastInDim S4x2x512x128 ![] bcast_S_S4x2x512x128 (constant S_ .f32 0x3F800000#32))
      (Host.tanh (mulf (broadcastInDim S4x2x512x128 ![] bcast_S_S4x2x512x128 (constant S_ .f32 0x3F4C422A#32))
        (addf v (mulf (broadcastInDim S4x2x512x128 ![] bcast_S_S4x2x512x128 (constant S_ .f32 0x3D372713#32)) (mulf (mulf v v) v)))))))

/-- The activated rows times the second weights. -/
def compressed (v : FVec F S4x2x512x128 .f32) (w2 : FVec F S128x64 .f32) : FVec F S4x2x512x64 .f32 :=
  Host.dotGeneral dot_S4x2x512x128_S128x64_S4x2x512x64_3_0_012_1_n_n none (gelu v) w2

/-- The keys, and the values. -/
def keys (x : FVec F S2x4x2x8192x64 .bf16) : FVec F S4x2x8192x64 .bf16 :=
  shapeCast S4x2x8192x64 (extractStridedSlice S1x4x2x8192x64 ![0, 0, 0, 0, 0] x slices_S2x4x2x8192x64_S1x4x2x8192x64_0_0_0_0_0) shapeCasts_S1x4x2x8192x64_S4x2x8192x64
def values (x : FVec F S2x4x2x8192x64 .bf16) : FVec F S4x2x8192x64 .bf16 :=
  shapeCast S4x2x8192x64 (extractStridedSlice S1x4x2x8192x64 ![1, 0, 0, 0, 0] x slices_S2x4x2x8192x64_S1x4x2x8192x64_1_0_0_0_0) shapeCasts_S1x4x2x8192x64_S4x2x8192x64

/-- The compressed keys, then the compressed values. -/
def result (x : FVec F S2x4x2x8192x64 .bf16) (pk : FVec F S32x64 .f32) (w1k : FVec F S2048x128 .f32) (w2k : FVec F S128x64 .f32)
    (pv : FVec F S32x64 .f32) (w1v : FVec F S2048x128 .f32) (w2v : FVec F S128x64 .f32) : FVec F S2x4x2x512x64 .bf16 :=
  truncf .bf16 (concatenate S2x4x2x512x64 0
    [⟨S1x4x2x512x64, broadcastInDim S1x4x2x512x64 ![1, 2, 3, 4] bcast_S4x2x512x64_S1x4x2x512x64_1_2_3_4 (compressed (product (keys x) pk w1k) w2k)⟩,
     ⟨S1x4x2x512x64, broadcastInDim S1x4x2x512x64 ![1, 2, 3, 4] bcast_S4x2x512x64_S1x4x2x512x64_1_2_3_4 (compressed (product (values x) pv w1v) w2v)⟩]
    concatenates_S1x4x2x512x64_S1x4x2x512x64_S2x4x2x512x64_d0) bitsLt_bf16_f32

end

/-- The reference's result is `result` of its arguments. -/
theorem res_eq {F : FTy → Type} [FloatOps F] (m : (ℓ : Loc nD τ sig) → Buf (Elt F) ℓ) (c : Dev nD) : Cert.Reference5Ideal.Value.res_main_v57 m c
    = result (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) := rfl

theorem steps_apply (k : FVec Ideal S4x2x8192x64 .bf16) (b : Fin 4) (g : Fin 2) (n : Fin 512) (r : Fin 16) (e : Fin 64) :
    steps k (ix5 b g n r e) = k (ix4 b g ⟨n.val * 16 + r.val, by omega⟩ e) := by
  pointwise [steps]

theorem following_apply (s : FVec Ideal S4x2x512x16x64 .f32) (b : Fin 4) (g : Fin 2) (n : Fin 512) (r : Fin 16) (e : Fin 64) :
    following s (ix5 b g n r e) = s (ix5 b g ⟨(n.val + 1) % 512, by omega⟩ r e) := by
  pointwise [following]
  by_cases h : n.val < 511
  · rw [dif_pos h]
    exact congrArg (fun n => s (ix5 b g n r e)) (Fin.ext (by show 1 + n.val = (n.val + 1) % 512; omega))
  · rw [dif_neg h]
    exact congrArg (fun n => s (ix5 b g n r e)) (Fin.ext (by show n.val - 511 = (n.val + 1) % 512; omega))

theorem blocks_apply (k : FVec Ideal S4x2x8192x64 .bf16) (pos : FVec Ideal S32x64 .f32) (b : Fin 4) (g : Fin 2) (n : Fin 512) (j : Fin 2048) :
    blocks k pos (ix4 b g n j) = k (ix4 b g ⟨(n.val + j.val / 1024) % 512 * 16 + j.val % 1024 / 64, by omega⟩ ⟨j.val % 64, by omega⟩)
      + pos (ix2 ⟨j.val / 64, by omega⟩ ⟨j.val % 64, by omega⟩) := by
  pointwise [blocks]
  refine congrArg (· + _) ?_
  by_cases hj : j.val / 64 < 16
  · rw [dif_pos hj]
    refine (steps_apply k b g _ _ _).trans ?_
    exact congrArg (fun s => k (ix4 b g s _)) (Fin.ext (by show n.val * 16 + j.val / 64 = (n.val + j.val / 1024) % 512 * 16 + j.val % 1024 / 64; omega))
  · rw [dif_neg hj]
    refine (following_apply _ b g _ _ _).trans ((steps_apply k b g _ _ _).trans ?_)
    exact congrArg (fun s => k (ix4 b g s _)) (Fin.ext (by
      show (n.val + 1) % 512 * 16 + (j.val / 64 - 16) = (n.val + j.val / 1024) % 512 * 16 + j.val % 1024 / 64
      omega))

theorem gelu_apply (v : FVec Ideal S4x2x512x128 .f32) (b : Fin 4) (g : Fin 2) (n : Fin 512) (h : Fin 128) :
    gelu v (ix4 b g n h) = v (ix4 b g n h) * Cert.Compress.factor (v (ix4 b g n h)) := by
  unfold Cert.Compress.factor
  pointwise [gelu]
  rw [mul_assoc (v (ix4 b g n h)) (v (ix4 b g n h)) (v (ix4 b g n h))]

theorem product_apply (k : FVec Ideal S4x2x8192x64 .bf16) (pos : FVec Ideal S32x64 .f32) (w1 : FVec Ideal S2048x128 .f32) (b : Fin 4) (g : Fin 2) (n : Fin 512) (h : Fin 128) :
    product k pos w1 (ix4 b g n h) = Cert.Compress.hidden (fun s e => k (ix4 b g s e)) (fun r e => pos (ix2 r e)) (fun j => w1 (ix2 j h)) n := by
  unfold Cert.Compress.hidden
  pointwise [product]
  exact Finset.sum_congr rfl fun j _ => congrArg (· * _) (blocks_apply _ _ _ _ _ _)

theorem compressed_apply (v : FVec Ideal S4x2x512x128 .f32) (w2 : FVec Ideal S128x64 .f32) (b : Fin 4) (g : Fin 2) (n : Fin 512) (e : Fin 64) :
    compressed v w2 (ix4 b g n e) = ∑ h : Fin 128, (v (ix4 b g n h) * Cert.Compress.factor (v (ix4 b g n h))) * w2 (ix2 h e) := by
  pointwise [compressed]
  exact Finset.sum_congr rfl fun j _ => congrArg (· * _) (gelu_apply _ _ _ _ _)

theorem result_keys (x : FVec Ideal S2x4x2x8192x64 .bf16) (pk : FVec Ideal S32x64 .f32) (w1k : FVec Ideal S2048x128 .f32) (w2k : FVec Ideal S128x64 .f32)
    (pv : FVec Ideal S32x64 .f32) (w1v : FVec Ideal S2048x128 .f32) (w2v : FVec Ideal S128x64 .f32) (b : Fin 4) (g : Fin 2) (n : Fin 512) (e : Fin 64) :
    result x pk w1k w2k pv w1v w2v (ix5 0 b g n e)
      = Cert.Compress.value (fun s e => x (ix5 0 b g s e)) (fun r e => pk (ix2 r e)) (fun j h => w1k (ix2 j h)) (fun h => w2k (ix2 h e)) n := by
  pointwise [result]
  refine (compressed_apply _ _ _ _ _ _).trans ?_
  have hk : (fun s e => keys x (ix4 b g s e)) = fun s e => x (ix5 0 b g s e) := funext fun s => funext fun e => by pointwise [keys]
  refine Finset.sum_congr rfl fun h _ => ?_
  rw [product_apply, hk]

theorem result_values (x : FVec Ideal S2x4x2x8192x64 .bf16) (pk : FVec Ideal S32x64 .f32) (w1k : FVec Ideal S2048x128 .f32) (w2k : FVec Ideal S128x64 .f32)
    (pv : FVec Ideal S32x64 .f32) (w1v : FVec Ideal S2048x128 .f32) (w2v : FVec Ideal S128x64 .f32) (b : Fin 4) (g : Fin 2) (n : Fin 512) (e : Fin 64) :
    result x pk w1k w2k pv w1v w2v (ix5 1 b g n e)
      = Cert.Compress.value (fun s e => x (ix5 1 b g s e)) (fun r e => pv (ix2 r e)) (fun j h => w1v (ix2 j h)) (fun h => w2v (ix2 h e)) n := by
  pointwise [result]
  refine (compressed_apply _ _ _ _ _ _).trans ?_
  have hk : (fun s e => values x (ix4 b g s e)) = fun s e => x (ix5 1 b g s e) := funext fun s => funext fun e => by pointwise [values]
  refine Finset.sum_congr rfl fun h _ => ?_
  rw [product_apply, hk]

end Cert.Reference5Ideal.Compress

end
-- ==== Proof.Compress.Value.lean ====
/- The compression of keys and values: what the kernel leaves in its result array, and that the reference computes the same. -/
module

public import proofs.«01_k».proof.Proof.Gen.Kernel5Ideal.Value
public import proofs.«01_k».proof.Proof.Compress.Reference
public import Idealize.ShloMosaic.Lib.Pipeline.ValueKit
public import Idealize.ShloMosaic.Lib.Pipeline.Covers
public import Idealize.ShloMosaic.Lib.StableHlo.Run
public import Idealize.ShloMosaic.Lib.Pointwise
public import Idealize.ShloMosaic.Lib.Tactic

@[expose] public section

set_option maxRecDepth 16384

noncomputable section

namespace Cert.Kernel5Ideal.Compress

open Cert.Kernel5Ideal Cert.Kernel5Ideal.Gen
open Idealize.ShloMosaic Idealize.ShloMosaic.TcCoe Idealize.ShloMosaic.Tactic Idealize.SL.Sem

/-! The body's values at an element. -/

theorem pay2_apply (x : Vec Ideal S1x1x1x512x1024 .bf16) (p : Vec Ideal S1x1x1024 .f32) (w : Vec Ideal S1x1024x128 .bf16)
    (p' : Vec Ideal S1x1x1024 .f32) (w' : Vec Ideal S1x1024x128 .bf16) (n : Fin 512) (h : Fin 128) :
    k0_pay2 (F := Ideal) x p w p' w' (ix2 n h)
      = (∑ j : Fin 1024, (x (ix5 0 0 0 n j) + p (ix3 0 0 j)) * w (ix3 0 j h))
        + ∑ j : Fin 1024, (x (ix5 0 0 0 ⟨(n.val + 1) % 512, by omega⟩ j) + p' (ix3 0 0 j)) * w' (ix3 0 j h) := by
  pointwise [k0_pay2]
  have e : (⟨(n.val + 512 - 511) % 512, by omega⟩ : Fin 512) = ⟨(n.val + 1) % 512, by omega⟩ := Fin.ext (by show (n.val + 512 - 511) % 512 = (n.val + 1) % 512; omega)
  rw [e]

theorem pay3_apply (x : Vec Ideal S1x1x1x512x1024 .bf16) (p : Vec Ideal S1x1x1024 .f32) (w : Vec Ideal S1x1024x128 .bf16)
    (p' : Vec Ideal S1x1x1024 .f32) (w' : Vec Ideal S1x1024x128 .bf16) (n : Fin 512) (h : Fin 128) :
    k0_pay3 (F := Ideal) x p w p' w' (ix2 n h) = Cert.Compress.factor (k0_pay2 (F := Ideal) x p w p' w' (ix2 n h)) := by
  unfold Cert.Compress.factor
  generalize hv : k0_pay2 (F := Ideal) x p w p' w' = v
  unfold k0_pay3
  rw [hv]
  pointwise

theorem pay1_apply (v f : FVec Ideal S512x128 .f32) (w : Vec Ideal S1x128x64 .bf16) (n : Fin 512) (e : Fin 64) :
    k0_pay1 (F := Ideal) v f w (ix5 0 0 0 n e) = ∑ h : Fin 128, (v (ix2 n h) * f (ix2 n h)) * w (ix3 0 h e) := by
  pointwise [k0_pay1]

/-- A sum over 2048 is the sums over its halves. -/
theorem halves (f : Fin 2048 → EReal) : ∑ j, f j = (∑ j : Fin 1024, f ⟨j.val, by omega⟩) + ∑ j : Fin 1024, f ⟨1024 + j.val, by omega⟩ :=
  Fin.sum_univ_add (a := 1024) (b := 1024) f

/-! The host's arrays at an element. -/

/-- The keys' table for 0, else the values'. -/
def pick {α : Type} (a : Fin 2) (u v : α) : α := if a = 0 then u else v

theorem groups_apply (x : FVec Ideal S2x4x2x8192x64 .bf16) (a : Fin 2) (b : Fin 4) (g : Fin 2) (n : Fin 512) (j : Fin 1024) :
    shapeCast S2x4x2x512x1024 x shapeCasts_S2x4x2x8192x64_S2x4x2x512x1024 (ix5 a b g n j)
      = x (ix5 a b g ⟨n.val * 16 + j.val / 64, by omega⟩ ⟨j.val % 64, by omega⟩) := by
  pointwise

theorem positions_apply (u v : FVec Ideal S32x64 .f32) (a : Fin 2) (r : Fin 2) (j : Fin 1024) :
    shapeCast S2x2x1024 (concatenate S2x32x64 0 [⟨S1x32x64, broadcastInDim S1x32x64 ![1, 2] bcast_S32x64_S1x32x64_1_2 u⟩,
      ⟨S1x32x64, broadcastInDim S1x32x64 ![1, 2] bcast_S32x64_S1x32x64_1_2 v⟩] concatenates_S1x32x64_S1x32x64_S2x32x64_d0) shapeCasts_S2x32x64_S2x2x1024 (ix3 a r j)
      = pick a u v (ix2 ⟨(r.val * 1024 + j.val) / 64, by omega⟩ ⟨j.val % 64, by omega⟩) := by
  have e : (⟨r.val * 16 + j.val / 64, by omega⟩ : Fin 32) = ⟨(r.val * 1024 + j.val) / 64, by omega⟩ := Fin.ext (by show r.val * 16 + j.val / 64 = (r.val * 1024 + j.val) / 64; omega)
  match a with
  | ⟨0, _⟩ => show _ = u _; pointwise; rw [e]
  | ⟨1, _⟩ => show _ = v _; pointwise; rw [e]

theorem first_apply (u v : FVec Ideal S2048x128 .f32) (a : Fin 2) (j : Fin 2048) (h : Fin 128) :
    truncf (F := Ideal) .bf16 (concatenate S2x2048x128 0 [⟨S1x2048x128, broadcastInDim S1x2048x128 ![1, 2] bcast_S2048x128_S1x2048x128_1_2 u⟩,
      ⟨S1x2048x128, broadcastInDim S1x2048x128 ![1, 2] bcast_S2048x128_S1x2048x128_1_2 v⟩] concatenates_S1x2048x128_S1x2048x128_S2x2048x128_d0) bitsLt_bf16_f32 (ix3 a j h)
      = pick a u v (ix2 j h) := by
  match a with
  | ⟨0, _⟩ => show _ = u _; pointwise
  | ⟨1, _⟩ => show _ = v _; pointwise

theorem second_apply (u v : FVec Ideal S128x64 .f32) (a : Fin 2) (h : Fin 128) (e : Fin 64) :
    truncf (F := Ideal) .bf16 (concatenate S2x128x64 0 [⟨S1x128x64, broadcastInDim S1x128x64 ![1, 2] bcast_S128x64_S1x128x64_1_2 u⟩,
      ⟨S1x128x64, broadcastInDim S1x128x64 ![1, 2] bcast_S128x64_S1x128x64_1_2 v⟩] concatenates_S1x128x64_S1x128x64_S2x128x64_d0) bitsLt_bf16_f32 (ix3 a h e)
      = pick a u v (ix2 h e) := by
  match a with
  | ⟨0, _⟩ => show _ = u _; pointwise
  | ⟨1, _⟩ => show _ = v _; pointwise

variable (m : (ℓ : Loc nD τ sig) → Buf (Elt Ideal) ℓ)

/-! The arrays the host lines make. -/

theorem V_v0 (c : Dev nD) : V m c main_v0 = shapeCast S2x4x2x512x1024 (m ((c : Thread nD τ).loc main_arg0)) shapeCasts_S2x4x2x8192x64_S2x4x2x512x1024 := by
  unfold_abbrev_sides
  after_results
  rfl

theorem V_v4 (c : Dev nD) : V m c main_v4 = shapeCast S2x2x1024 (concatenate S2x32x64 0
    [⟨S1x32x64, broadcastInDim S1x32x64 ![1, 2] bcast_S32x64_S1x32x64_1_2 (m ((c : Thread nD τ).loc main_arg1))⟩,
     ⟨S1x32x64, broadcastInDim S1x32x64 ![1, 2] bcast_S32x64_S1x32x64_1_2 (m ((c : Thread nD τ).loc main_arg4))⟩] concatenates_S1x32x64_S1x32x64_S2x32x64_d0)
    shapeCasts_S2x32x64_S2x2x1024 := by
  unfold_abbrev_sides
  after_results
  rfl

theorem V_v8 (c : Dev nD) : V m c main_v8 = truncf (F := Ideal) .bf16 (concatenate S2x2048x128 0
    [⟨S1x2048x128, broadcastInDim S1x2048x128 ![1, 2] bcast_S2048x128_S1x2048x128_1_2 (m ((c : Thread nD τ).loc main_arg2))⟩,
     ⟨S1x2048x128, broadcastInDim S1x2048x128 ![1, 2] bcast_S2048x128_S1x2048x128_1_2 (m ((c : Thread nD τ).loc main_arg5))⟩] concatenates_S1x2048x128_S1x2048x128_S2x2048x128_d0)
    bitsLt_bf16_f32 := by
  unfold_abbrev_sides
  after_results

theorem V_v12 (c : Dev nD) : V m c main_v12 = truncf (F := Ideal) .bf16 (concatenate S2x128x64 0
    [⟨S1x128x64, broadcastInDim S1x128x64 ![1, 2] bcast_S128x64_S1x128x64_1_2 (m ((c : Thread nD τ).loc main_arg3))⟩,
     ⟨S1x128x64, broadcastInDim S1x128x64 ![1, 2] bcast_S128x64_S1x128x64_1_2 (m ((c : Thread nD τ).loc main_arg6))⟩] concatenates_S1x128x64_S1x128x64_S2x128x64_d0)
    bitsLt_bf16_f32 := by
  unfold_abbrev_sides
  after_results

/-! Where the windows point at a grid point: keys or values `t / 8`, batch `t / 2 % 4`, head `t % 2`. -/

theorem index0 : ∀ t : Fin grid0.N, cc0_transform_0 (grid0.coords t) = ![t.val / 8, t.val / 2 % 4, t.val % 2, 0, 0] := by decide +kernel
theorem index1 : ∀ t : Fin grid0.N, cc0_transform_1 (grid0.coords t) = ![t.val / 8, 0, 0] := by decide +kernel
theorem index2 : ∀ t : Fin grid0.N, cc0_transform_2 (grid0.coords t) = ![t.val / 8, 0, 0] := by decide +kernel
theorem index3 : ∀ t : Fin grid0.N, cc0_transform_3 (grid0.coords t) = ![t.val / 8, 0, 0] := by decide +kernel
theorem index4 : ∀ t : Fin grid0.N, cc0_transform_4 (grid0.coords t) = ![t.val / 8, t.val / 2 % 4, t.val % 2, 0, 0] := by decide +kernel

theorem lt (t : Fin cfg0.N) : t.val < 16 := t.isLt

theorem emb0 (t : Fin cfg0.N) (n : Fin 512) (j : Fin 1024) : ((cfg0.win 0).blk t).view.emb (ix5 0 0 0 n j)
    = (ix5 ⟨t.val / 8, by have := lt t; omega⟩ ⟨t.val / 2 % 4, by omega⟩ ⟨t.val % 2, by omega⟩ n j : S2x4x2x512x1024.Idx) := by
  refine funext fun a => Fin.ext ?_
  refine ((cfg0.win 0).rect_emb_val t (ix5 0 0 0 n j) a).trans ?_
  refine (congrArg (fun v : Fin 5 → Nat => v a * S1x1x1x512x1024.size a + (ix5 0 0 0 n j : S1x1x1x512x1024.Idx) a) (index0 t)).trans ?_
  match a with
  | ⟨0, _⟩ => show t.val / 8 * 1 + 0 = t.val / 8; omega
  | ⟨1, _⟩ => show t.val / 2 % 4 * 1 + 0 = t.val / 2 % 4; omega
  | ⟨2, _⟩ => show t.val % 2 * 1 + 0 = t.val % 2; omega
  | ⟨3, _⟩ => show 0 * 512 + n.val = n.val; omega
  | ⟨4, _⟩ => show 0 * 1024 + j.val = j.val; omega

theorem emb1 (t : Fin cfg0.N) (r : Fin 2) (j : Fin 1024) :
    ((cfg0.win 1).blk t).view.emb (ix3 0 r j) = (ix3 ⟨t.val / 8, by have := lt t; omega⟩ r j : S2x2x1024.Idx) := by
  refine funext fun a => Fin.ext ?_
  refine ((cfg0.win 1).rect_emb_val t (ix3 0 r j) a).trans ?_
  refine (congrArg (fun v : Fin 3 → Nat => v a * S1x2x1024.size a + (ix3 0 r j : S1x2x1024.Idx) a) (index1 t)).trans ?_
  match a with
  | ⟨0, _⟩ => show t.val / 8 * 1 + 0 = t.val / 8; omega
  | ⟨1, _⟩ => show 0 * 2 + r.val = r.val; omega
  | ⟨2, _⟩ => show 0 * 1024 + j.val = j.val; omega

theorem emb2 (t : Fin cfg0.N) (j : Fin 2048) (h : Fin 128) :
    ((cfg0.win 2).blk t).view.emb (ix3 0 j h) = (ix3 ⟨t.val / 8, by have := lt t; omega⟩ j h : S2x2048x128.Idx) := by
  refine funext fun a => Fin.ext ?_
  refine ((cfg0.win 2).rect_emb_val t (ix3 0 j h) a).trans ?_
  refine (congrArg (fun v : Fin 3 → Nat => v a * S1x2048x128.size a + (ix3 0 j h : S1x2048x128.Idx) a) (index2 t)).trans ?_
  match a with
  | ⟨0, _⟩ => show t.val / 8 * 1 + 0 = t.val / 8; omega
  | ⟨1, _⟩ => show 0 * 2048 + j.val = j.val; omega
  | ⟨2, _⟩ => show 0 * 128 + h.val = h.val; omega

theorem emb3 (t : Fin cfg0.N) (h : Fin 128) (e : Fin 64) :
    ((cfg0.win 3).blk t).view.emb (ix3 0 h e) = (ix3 ⟨t.val / 8, by have := lt t; omega⟩ h e : S2x128x64.Idx) := by
  refine funext fun a => Fin.ext ?_
  refine ((cfg0.win 3).rect_emb_val t (ix3 0 h e) a).trans ?_
  refine (congrArg (fun v : Fin 3 → Nat => v a * S1x128x64.size a + (ix3 0 h e : S1x128x64.Idx) a) (index3 t)).trans ?_
  match a with
  | ⟨0, _⟩ => show t.val / 8 * 1 + 0 = t.val / 8; omega
  | ⟨1, _⟩ => show 0 * 128 + h.val = h.val; omega
  | ⟨2, _⟩ => show 0 * 64 + e.val = e.val; omega

theorem emb4 (t : Fin cfg0.N) (n : Fin 512) (e : Fin 64) : ((cfg0.win 4).blk t).view.emb (ix5 0 0 0 n e)
    = (ix5 ⟨t.val / 8, by have := lt t; omega⟩ ⟨t.val / 2 % 4, by omega⟩ ⟨t.val % 2, by omega⟩ n e : S2x4x2x512x64.Idx) := by
  refine funext fun a => Fin.ext ?_
  refine ((cfg0.win 4).rect_emb_val t (ix5 0 0 0 n e) a).trans ?_
  refine (congrArg (fun v : Fin 5 → Nat => v a * S1x1x1x512x64.size a + (ix5 0 0 0 n e : S1x1x1x512x64.Idx) a) (index4 t)).trans ?_
  match a with
  | ⟨0, _⟩ => show t.val / 8 * 1 + 0 = t.val / 8; omega
  | ⟨1, _⟩ => show t.val / 2 % 4 * 1 + 0 = t.val / 2 % 4; omega
  | ⟨2, _⟩ => show t.val % 2 * 1 + 0 = t.val % 2; omega
  | ⟨3, _⟩ => show 0 * 512 + n.val = n.val; omega
  | ⟨4, _⟩ => show 0 * 64 + e.val = e.val; omega

/-! The blocks, read at an element of the argument each comes from. -/

/-- The half that a grid point works on: keys or values. -/
def side (t : Fin cfg0.N) : Fin 2 := ⟨t.val / 8, by have := lt t; omega⟩

theorem iblk0_apply (c : Dev nD) (t : Fin cfg0.N) (n : Fin 512) (j : Fin 1024) : iblk m c 0 t (ix5 0 0 0 n j)
    = m ((c : Thread nD τ).loc main_arg0) (ix5 (side t) ⟨t.val / 2 % 4, by omega⟩ ⟨t.val % 2, by omega⟩ ⟨n.val * 16 + j.val / 64, by omega⟩ ⟨j.val % 64, by omega⟩) := by
  refine (congrFun (V_v0 m c : V m c (Pipeline.arrRef spec0 0) = _) _).trans ?_
  refine (congrArg _ (emb0 t n j)).trans ?_
  exact groups_apply _ _ _ _ _ _

theorem iblk1_apply (c : Dev nD) (t : Fin cfg0.N) (r : Fin 2) (j : Fin 1024) : iblk m c 1 t (ix3 0 r j)
    = (pick (side t) (m ((c : Thread nD τ).loc main_arg1)) (m ((c : Thread nD τ).loc main_arg4)) : FVec Ideal S32x64 .f32)
      (ix2 ⟨(r.val * 1024 + j.val) / 64, by omega⟩ ⟨j.val % 64, by omega⟩) := by
  refine (congrFun (V_v4 m c : V m c (Pipeline.arrRef spec0 1) = _) _).trans ?_
  refine (congrArg _ (emb1 t r j)).trans ?_
  exact positions_apply _ _ _ _ _

theorem iblk2_apply (c : Dev nD) (t : Fin cfg0.N) (j : Fin 2048) (h : Fin 128) : iblk m c 2 t (ix3 0 j h)
    = (pick (side t) (m ((c : Thread nD τ).loc main_arg2)) (m ((c : Thread nD τ).loc main_arg5)) : FVec Ideal S2048x128 .f32) (ix2 j h) := by
  refine (congrFun (V_v8 m c : V m c (Pipeline.arrRef spec0 2) = _) _).trans ?_
  refine (congrArg _ (emb2 t j h)).trans ?_
  exact first_apply _ _ _ _ _

theorem iblk3_apply (c : Dev nD) (t : Fin cfg0.N) (h : Fin 128) (e : Fin 64) : iblk m c 3 t (ix3 0 h e)
    = (pick (side t) (m ((c : Thread nD τ).loc main_arg3)) (m ((c : Thread nD τ).loc main_arg6)) : FVec Ideal S128x64 .f32) (ix2 h e) := by
  refine (congrFun (V_v12 m c : V m c (Pipeline.arrRef spec0 3) = _) _).trans ?_
  refine (congrArg _ (emb3 t h e)).trans ?_
  exact second_apply _ _ _ _ _

/-- What the reference computes from this kernel's arguments. -/
abbrev resultOf (c : Dev nD) : FVec Ideal S2x4x2x512x64 .bf16 :=
  Cert.Reference5Ideal.Compress.result (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- The reference's result for keys and values alike. -/
theorem resultOf_apply (c : Dev nD) (a : Fin 2) (b : Fin 4) (g : Fin 2) (n : Fin 512) (e : Fin 64) : resultOf m c (ix5 a b g n e)
    = Cert.Compress.value (fun s e => m ((c : Thread nD τ).loc main_arg0) (ix5 a b g s e))
      (fun r e => (pick a (m ((c : Thread nD τ).loc main_arg1)) (m ((c : Thread nD τ).loc main_arg4)) : FVec Ideal S32x64 .f32) (ix2 r e))
      (fun j h => (pick a (m ((c : Thread nD τ).loc main_arg2)) (m ((c : Thread nD τ).loc main_arg5)) : FVec Ideal S2048x128 .f32) (ix2 j h))
      (fun h => (pick a (m ((c : Thread nD τ).loc main_arg3)) (m ((c : Thread nD τ).loc main_arg6)) : FVec Ideal S128x64 .f32) (ix2 h e)) n := by
  match a with
  | ⟨0, _⟩ => exact Cert.Reference5Ideal.Compress.result_keys _ _ _ _ _ _ _ b g n e
  | ⟨1, _⟩ => exact Cert.Reference5Ideal.Compress.result_values _ _ _ _ _ _ _ b g n e

/-- The block's own groups and the following ones, each with their half of the position's table and of the weights, make up the
    product over the 2048 channels of a block of 32 tokens. -/
theorem hidden_eq (k : Fin 8192 → Fin 64 → EReal) (pos : Fin 32 → Fin 64 → EReal) (w : Fin 2048 → EReal) (n : Fin 512) :
    (∑ j : Fin 1024, (k ⟨n.val * 16 + j.val / 64, by omega⟩ ⟨j.val % 64, by omega⟩ + pos ⟨(0 * 1024 + j.val) / 64, by omega⟩ ⟨j.val % 64, by omega⟩) * w ⟨j.val, by omega⟩)
      + ∑ j : Fin 1024, (k ⟨(n.val + 1) % 512 * 16 + j.val / 64, by omega⟩ ⟨j.val % 64, by omega⟩ + pos ⟨(1 * 1024 + j.val) / 64, by omega⟩ ⟨j.val % 64, by omega⟩) * w ⟨1024 + j.val, by omega⟩
      = Cert.Compress.hidden k pos w n := by
  unfold Cert.Compress.hidden
  refine Eq.trans ?_ (halves _).symm
  refine congr (congrArg _ (Finset.sum_congr rfl fun j _ => ?_)) (Finset.sum_congr rfl fun j _ => ?_)
  · refine congrArg (· * _) (congr (congrArg _ (congr (congrArg k (Fin.ext ?_)) (Fin.ext ?_))) (congr (congrArg pos (Fin.ext ?_)) (Fin.ext ?_)))
    · show n.val * 16 + j.val / 64 = (n.val + j.val / 1024) % 512 * 16 + j.val % 1024 / 64; omega
    · show j.val % 64 = j.val % 64; rfl
    · show (0 * 1024 + j.val) / 64 = j.val / 64; omega
    · show j.val % 64 = j.val % 64; rfl
  · refine congrArg (· * _) (congr (congrArg _ (congr (congrArg k (Fin.ext ?_)) (Fin.ext ?_))) (congr (congrArg pos (Fin.ext ?_)) (Fin.ext ?_)))
    · show (n.val + 1) % 512 * 16 + j.val / 64 = (n.val + (1024 + j.val) / 1024) % 512 * 16 + (1024 + j.val) % 1024 / 64; omega
    · show j.val % 64 = (1024 + j.val) % 64; omega
    · show (1 * 1024 + j.val) / 64 = (1024 + j.val) / 64; omega
    · show j.val % 64 = (1024 + j.val) % 64; omega

/-- The halves of the position's table and of the first weights, as the body loads them. -/
abbrev row0 (x : Vec Ideal S1x2x1024 .f32) : Vec Ideal S1x1x1024 .f32 := View.ld x r0_1
abbrev row1 (x : Vec Ideal S1x2x1024 .f32) : Vec Ideal S1x1x1024 .f32 := View.ld x r0_3
abbrev half0 (x : Vec Ideal S1x2048x128 .bf16) : Vec Ideal S1x1024x128 .bf16 := View.ld x r0_2
abbrev half1 (x : Vec Ideal S1x2048x128 .bf16) : Vec Ideal S1x1024x128 .bf16 := View.ld x r0_4

theorem row0_apply (x : Vec Ideal S1x2x1024 .f32) (j : Fin 1024) : row0 x (ix3 0 0 j) = x (ix3 0 0 j) :=
  congrArg x (funext fun a => Fin.ext (match a with
    | ⟨0, _⟩ => rfl
    | ⟨1, _⟩ => rfl
    | ⟨2, _⟩ => by show 0 + 1 * j.val = j.val; omega))

theorem row1_apply (x : Vec Ideal S1x2x1024 .f32) (j : Fin 1024) : row1 x (ix3 0 0 j) = x (ix3 0 1 j) :=
  congrArg x (funext fun a => Fin.ext (match a with
    | ⟨0, _⟩ => rfl
    | ⟨1, _⟩ => rfl
    | ⟨2, _⟩ => by show 0 + 1 * j.val = j.val; omega))

theorem half0_apply (x : Vec Ideal S1x2048x128 .bf16) (j : Fin 1024) (h : Fin 128) : half0 x (ix3 0 j h) = x (ix3 0 ⟨j.val, by omega⟩ h) :=
  congrArg x (funext fun a => Fin.ext (match a with
    | ⟨0, _⟩ => rfl
    | ⟨1, _⟩ => by show 0 + 1 * j.val = j.val; omega
    | ⟨2, _⟩ => by show 0 + 1 * h.val = h.val; omega))

theorem half1_apply (x : Vec Ideal S1x2048x128 .bf16) (j : Fin 1024) (h : Fin 128) : half1 x (ix3 0 j h) = x (ix3 0 ⟨1024 + j.val, by omega⟩ h) :=
  congrArg x (funext fun a => Fin.ext (match a with
    | ⟨0, _⟩ => rfl
    | ⟨1, _⟩ => by show 1024 + 1 * j.val = 1024 + j.val; omega
    | ⟨2, _⟩ => by show 0 + 1 * h.val = h.val; omega))

/-- A hidden value of a grid point. -/
theorem hidden_apply (c : Dev nD) (t : Fin cfg0.N) (n : Fin 512) (h : Fin 128) :
    k0_pay2 (F := Ideal) (iblk m c 0 t) (row0 (iblk m c 1 t)) (half0 (iblk m c 2 t)) (row1 (iblk m c 1 t)) (half1 (iblk m c 2 t)) (ix2 n h)
      = Cert.Compress.hidden (fun s e => m ((c : Thread nD τ).loc main_arg0) (ix5 (side t) ⟨t.val / 2 % 4, by omega⟩ ⟨t.val % 2, by omega⟩ s e))
        (fun r e => (pick (side t) (m ((c : Thread nD τ).loc main_arg1)) (m ((c : Thread nD τ).loc main_arg4)) : FVec Ideal S32x64 .f32) (ix2 r e))
        (fun j => (pick (side t) (m ((c : Thread nD τ).loc main_arg2)) (m ((c : Thread nD τ).loc main_arg5)) : FVec Ideal S2048x128 .f32) (ix2 j h)) n := by
  refine (pay2_apply _ _ _ _ _ n h).trans ?_
  refine Eq.trans ?_ (hidden_eq _ _ _ n)
  refine congr (congrArg _ (Finset.sum_congr rfl fun j _ => ?_)) (Finset.sum_congr rfl fun j _ => ?_)
  · exact congr (congrArg _ (congr (congrArg _ (iblk0_apply m c t n j)) ((row0_apply _ j).trans (iblk1_apply m c t 0 j)))) ((half0_apply _ j h).trans (iblk2_apply m c t _ h))
  · exact congr (congrArg _ (congr (congrArg _ (iblk0_apply m c t _ j)) ((row1_apply _ j).trans (iblk1_apply m c t 1 j)))) ((half1_apply _ j h).trans (iblk2_apply m c t _ h))

/-- What grid point `t` stores is its block of the reference's result. -/
theorem stored (c : Dev nD) (t : Fin cfg0.N) (n : Fin 512) (e : Fin 64) :
    k0_pay1 (F := Ideal) (k0_pay2 (iblk m c 0 t) (row0 (iblk m c 1 t)) (half0 (iblk m c 2 t)) (row1 (iblk m c 1 t)) (half1 (iblk m c 2 t)))
      (k0_pay3 (iblk m c 0 t) (row0 (iblk m c 1 t)) (half0 (iblk m c 2 t)) (row1 (iblk m c 1 t)) (half1 (iblk m c 2 t))) (iblk m c 3 t) (ix5 0 0 0 n e)
      = resultOf m c (ix5 (side t) ⟨t.val / 2 % 4, by omega⟩ ⟨t.val % 2, by omega⟩ n e) := by
  refine (pay1_apply _ _ _ n e).trans ?_
  refine Eq.trans ?_ (resultOf_apply m c _ _ _ n e).symm
  unfold Cert.Compress.value
  refine Finset.sum_congr rfl fun h _ => ?_
  rw [pay3_apply, hidden_apply, iblk3_apply]

/-- The result array after the last grid point is the reference's result. -/
theorem final (c : Dev nD) : (dats m 0 c).arrAt 4 cfg0.N = resultOf m c := by
  refine (dats m 0 c).arrAt_eq_of_covers 4 _ (by decide +kernel) fun t _ y => ?_
  rw [after0_4]
  revert y
  intro (y : S1x1x1x512x64.Idx)
  have hy : y = (ix5 0 0 0 (y 3) (y 4) : S1x1x1x512x64.Idx) := funext fun a => match a with
    | ⟨0, _⟩ => Subsingleton.elim (α := Fin 1) _ _
    | ⟨1, _⟩ => Subsingleton.elim (α := Fin 1) _ _
    | ⟨2, _⟩ => Subsingleton.elim (α := Fin 1) _ _
    | ⟨3, _⟩ => rfl
    | ⟨4, _⟩ => rfl
  rw [hy]
  refine Eq.trans ?_ (congrArg (resultOf m c) (emb4 t (y 3) (y 4))).symm
  refine Eq.trans ?_ (stored m c t (y 3) (y 4))
  have hz5 : (![0, 0, 0, 0, 0] : Fin 5 → Nat) = fun _ => 0 := funext fun a => by fin_cases a <;> rfl
  have hz3 : (![0, 0, 0] : Fin 3 → Nat) = fun _ => 0 := funext fun a => by fin_cases a <;> rfl
  unfold out0_4
  rw [View.canon_unit_zero hz5, View.ld_unit_zero hz5, View.ld_unit_zero (S := S1x128x64) hz3]
  rfl

end Cert.Kernel5Ideal.Compress

end
-- ==== Proof.Rank.Reference.lean ====
/- The positions of the tokens among their experts' rows: what the reference computes, element by element. -/
module

public import proofs.«01_k».proof.Proof.Gen.Reference6Ideal.Run
public import Idealize.ShloMosaic.Lib.Routing.OpsOne
public import Idealize.ShloMosaic.Lib.Pointwise
public import Idealize.ShloMosaic.Lib.Tactic

@[expose] public section

set_option maxRecDepth 16384

noncomputable section

namespace Cert.Rank

open Idealize.ShloMosaic Idealize.ShloMosaic.Routing

/-- Whether a token goes to an expert, as a number: one if the expert's weight is positive, else zero. -/
def mark (x : EReal) : EReal := Scalar.select (FloatOps.cmpf (F := Ideal) (φ := .f32) .ogt x (Scalar.ofBits (F := Ideal) .f32 0x00000000#32))
  (Scalar.ofBits (F := Ideal) .f32 0x3F800000#32 : EReal) (Scalar.ofBits (F := Ideal) .f32 0x00000000#32)

/-- Whether token `i` goes to the expert whose weights are `w`. -/
def term (w : Fin 32768 → EReal) (i : Nat) : EReal := if h : i < 32768 then mark (w ⟨i, h⟩) else 0

/-- How many of the first `n` tokens go to the expert whose weights are `w`. -/
def count (w : Fin 32768 → EReal) (n : Nat) : EReal := ∑ i ∈ Finset.range n, term w i

/-- The next `b` tokens add their own. -/
theorem count_add (w : Fin 32768 → EReal) (a b : Nat) : count w (a + b) = count w a + ∑ r : Fin b, term w (a + r.val) := by
  unfold count
  rw [Finset.sum_range_add, Fin.sum_univ_eq_sum_range (fun r => term w (a + r)) b]

/-- A block's sum with zeros from row `r` on adds the block's first `r` tokens. -/
theorem count_part (w : Fin 32768 → EReal) (a b r : Nat) (hr : r ≤ b) :
    count w (a + r) = count w a + ∑ k : Fin b, if k.val < r then term w (a + k.val) else 0 := by
  obtain ⟨d, rfl⟩ := Nat.exists_eq_add_of_le hr
  rw [Fin.sum_univ_eq_sum_range (fun k => if k < r then term w (a + k) else 0) (r + d), Finset.sum_range_add]
  unfold count
  rw [Finset.sum_range_add]
  refine congrArg _ ((add_zero _).symm.trans (congr (congrArg _ (Finset.sum_congr rfl fun k hk => ?_)) (Finset.sum_eq_zero fun k _ => ?_).symm))
  · exact (if_pos (Finset.mem_range.mp hk)).symm
  · exact if_neg (by omega)

/-- A left fold that adds is the start plus the sum. -/
theorem foldl_add (n : Nat) (g : Fin n → EReal) (v : EReal) : (List.finRange n).foldl (fun r k => r + g k) v = v + ∑ k, g k := by
  rw [Fin.sum_univ_def]
  generalize List.finRange n = l
  induction l generalizing v with
  | nil => exact (add_zero v).symm
  | cons a l ih => rw [List.foldl_cons, ih, List.map_cons, List.sum_cons, add_assoc]

/-- A window that ends at `j`, read past the zeros before the first row, sums the rows up to `j`. -/
theorem window_sum (f : Nat → EReal) (a j : Nat) (hj : j ≤ a) :
    (∑ n ∈ Finset.range (a + 1), if a ≤ j + n then f (j + n - a) else 0) = ∑ i ∈ Finset.range (j + 1), f i := by
  have e : a + 1 = (a - j) + (j + 1) := by omega
  rw [e, Finset.sum_range_add, Finset.sum_eq_zero, zero_add]
  · refine Finset.sum_congr rfl fun n hn => ?_
    rw [if_pos (by omega), show j + (a - j + n) - a = n by omega]
  · intro n hn
    rw [Finset.mem_range] at hn
    rw [if_neg (by omega)]

/-- A running sum down the rows, at row `j` of column `c`. -/
theorem running {R a C : Nat} (hR : a + 1 = R) (x : FVec Ideal (shape2 R C) .f32) (init : FVec Ideal shape0 .f32) (hinit : init ix0 = (0 : EReal))
    (h : (shape2 R C).ReduceWindows (![R, 1] : Fin 2 → Nat) ![1, 1] ![a, 0] ![0, 0] (shape2 R C)) (hu : 0 < shape0.numel) (j : Fin R) (c : Fin C) :
    (Host.reduceWindowAdd ![R, 1] ![1, 1] ![a, 0] ![0, 0] x init h hu (ix2 j c) : EReal)
      = ∑ i ∈ Finset.range (j.val + 1), if h : i < R then (x (ix2 ⟨i, h⟩ c) : EReal) else 0 := by
  subst hR
  have hv : (init (Shape.Idx.first hu) : EReal) = 0 := (congrArg init (funext fun a => a.elim0)).trans hinit
  have hj := j.isLt
  have hc := c.isLt
  refine Eq.trans ?_ (window_sum (fun i => if h : i < a + 1 then (x (ix2 ⟨i, h⟩ c) : EReal) else 0) a j.val (by omega))
  unfold Host.reduceWindowAdd
  change Ideal.hostReduceWindowAdd _ _ _ _ h x (init (Shape.Idx.first hu)) _ = _
  unfold Ideal.hostReduceWindowAdd Host.reduceWindow
  refine (foldl_add _ _ _).trans ?_
  rw [hv, zero_add]
  rw [← Fin.sum_univ_eq_sum_range (fun n => if a ≤ j.val + n then (if h : j.val + n - a < a + 1 then (x (ix2 ⟨j.val + n - a, h⟩ c) : EReal) else 0) else 0) (a + 1)]
  refine Fintype.sum_equiv (finCongr (numel_col (a + 1))) _ _ fun n => ?_
  have hw0 : ((shape2 (a + 1) 1).rowMajor.symm n 0).val = n.val := by rw [symm_col]; rfl
  have hw1 : ((shape2 (a + 1) 1).rowMajor.symm n 1).val = 0 := by rw [symm_col]; rfl
  have hn : n.val < a + 1 := (n.cast (numel_col _)).isLt
  show _ = if a ≤ j.val + n.val then (if h : j.val + n.val - a < a + 1 then (x (ix2 ⟨j.val + n.val - a, h⟩ c) : EReal) else 0) else 0
  dsimp only
  split
  · next hin =>
    have h0 := hin 0
    change a ≤ j.val * 1 + ((shape2 (a + 1) 1).rowMajor.symm n 0).val ∧ _ at h0
    rw [hw0] at h0
    rw [if_pos (by omega), dif_pos (by omega)]
    refine congrArg x (funext fun b => Fin.ext ?_)
    match b with
    | ⟨0, _⟩ =>
      show j.val * 1 + ((shape2 (a + 1) 1).rowMajor.symm n 0).val - a = j.val + n.val - a
      rw [hw0, Nat.mul_one]
    | ⟨1, _⟩ =>
      show c.val * 1 + ((shape2 (a + 1) 1).rowMajor.symm n 1).val - 0 = c.val
      rw [hw1]
      omega
  · next hin =>
    rw [if_neg fun hle => hin fun b => by
      match b with
      | ⟨0, _⟩ =>
        show a ≤ j.val * 1 + ((shape2 (a + 1) 1).rowMajor.symm n 0).val ∧ j.val * 1 + ((shape2 (a + 1) 1).rowMajor.symm n 0).val - a < a + 1
        rw [hw0]
        omega
      | ⟨1, _⟩ =>
        show 0 ≤ c.val * 1 + ((shape2 (a + 1) 1).rowMajor.symm n 1).val ∧ c.val * 1 + ((shape2 (a + 1) 1).rowMajor.symm n 1).val - 0 < C
        rw [hw1]
        omega]

end Cert.Rank

namespace Cert.Reference6Ideal.Rank

open Cert.Reference6Ideal Cert.Reference6Ideal.Gen Idealize.ShloMosaic Idealize.ShloMosaic.TcCoe

section
variable {F : FTy → Type} [FloatOps F]

/-- One where a token goes to an expert, zero elsewhere. -/
def chosen (e : FVec F S32768x128 .f32) : FVec F S32768x128 .f32 :=
  select (cmpf .ogt e (broadcastInDim S32768x128 ![] bcast_S_S32768x128 (constant S_ .f32 0x00000000#32)))
    (broadcastInDim S32768x128 ![] bcast_S_S32768x128 (constant S_ .f32 0x3F800000#32))
    (broadcastInDim S32768x128 ![] bcast_S_S32768x128 (constant S_ .f32 0x00000000#32))

/-- The tokens of each expert up to and with each token. -/
def upto (e : FVec F S32768x128 .f32) : FVec F S32768x128 .f32 :=
  Host.reduceWindowAdd ![32768, 1] ![1, 1] ![32767, 0] ![0, 0] (id (chosen e)) (broadcastInDim S_ ![] bcast_S_S_ (constant S_ .f32 0x00000000#32))
    reduceWindows_S32768x128_S32768x128_w32768s1p32767_0_w1s1p0_0 h_S_

/-- The tokens of each expert before each token. -/
def before (e : FVec F S32768x128 .f32) : FVec F S32768x128 .f32 :=
  concatenate S32768x128 0 [⟨S1x128, broadcastInDim S1x128 ![] bcast_S_S1x128 (constant S_ .f32 0x00000000#32)⟩,
    ⟨S32767x128, extractStridedSlice S32767x128 ![0, 0] (upto e) slices_S32768x128_S32767x128_0_0⟩] concatenates_S1x128_S32767x128_S32768x128_d0

/-- The tokens of each expert. -/
def total (e : FVec F S32768x128 .f32) : FVec F S1x128 .f32 := extractStridedSlice S1x128 ![32767, 0] (upto e) slices_S32768x128_S1x128_32767_0

end

theorem chosen_apply (e : FVec Ideal S32768x128 .f32) (j : Fin 32768) (c : Fin 128) : chosen e (ix2 j c) = Cert.Rank.mark (e (ix2 j c)) := by
  unfold Cert.Rank.mark
  pointwise [chosen]

theorem upto_apply (e : FVec Ideal S32768x128 .f32) (j : Fin 32768) (c : Fin 128) :
    upto e (ix2 j c) = Cert.Rank.count (fun i => e (ix2 i c)) (j.val + 1) := by
  refine (Cert.Rank.running (R := 32768) (a := 32767) (C := 128) rfl (chosen e) _ ?_ _ _ j c).trans ?_
  · exact Ideal.ofBits_zero_f32
  · unfold Cert.Rank.count Cert.Rank.term
    exact Finset.sum_congr rfl fun i _ => dite_congr rfl (fun h => chosen_apply e ⟨i, h⟩ c) fun _ => rfl

theorem total_apply (e : FVec Ideal S32768x128 .f32) (c : Fin 128) : total e (ix2 0 c) = Cert.Rank.count (fun i => e (ix2 i c)) 32768 := by
  refine Eq.trans ?_ (upto_apply e ⟨32767, by omega⟩ c)
  pointwise [total]

theorem before_apply (e : FVec Ideal S32768x128 .f32) (j : Fin 32768) (c : Fin 128) :
    before e (ix2 j c) = Cert.Rank.count (fun i => e (ix2 i c)) j.val := by
  generalize hu : upto e = u
  unfold before
  rw [hu]
  pointwise
  subst hu
  by_cases h : j.val < 1
  · rw [dif_pos h, show j.val = 0 by omega]
    exact (Finset.sum_range_zero _).symm
  · rw [dif_neg h, upto_apply]
    exact congrArg _ (show j.val - 1 + 1 = j.val by omega)

end Cert.Reference6Ideal.Rank

end
-- ==== Proof.Rank.Value.lean ====
/- The positions of the tokens among their experts' rows: what the kernel leaves in its two result arrays, and that the reference
   computes the same. -/
module

public import proofs.«01_k».proof.Proof.Gen.Kernel6Ideal.Value
public import proofs.«01_k».proof.Proof.Rank.Reference
public import Idealize.ShloMosaic.Lib.Pipeline.ValueKit
public import Idealize.ShloMosaic.Lib.Pointwise
public import Idealize.ShloMosaic.Lib.Tactic

@[expose] public section

set_option maxRecDepth 16384

noncomputable section

namespace Cert.Kernel6Ideal.Rank

open Cert.Kernel6Ideal Cert.Kernel6Ideal.Gen
open Idealize.ShloMosaic Idealize.ShloMosaic.TcCoe Idealize.ShloMosaic.Tactic Idealize.SL.Sem
open Cert.Rank (mark term count count_add count_part)

/-! The body's values at an element. -/

theorem pay1_apply (c : Fin 128) : k0_pay1 (F := Ideal) (ix2 0 c) = (0 : EReal) := by
  refine Eq.trans ?_ Ideal.ofBits_zero_f32
  pointwise [k0_pay1]

theorem pay2_apply (x : Vec Ideal S512x128 .f32) (r : Fin 512) (c : Fin 128) : k0_pay2 (F := Ideal) x (ix2 r c) = mark (x (ix2 r c)) := by
  unfold mark
  pointwise [k0_pay2]

theorem pay4_apply (x : Vec Ideal S512x128 .f32) (v : Vec Ideal S1x128 .f32) (c : Fin 128) :
    k0_pay4 (F := Ideal) x v (ix2 0 c) = (v (ix2 0 c) + ∑ r : Fin 512, mark (x (ix2 r c)) : EReal) := by
  simp only [← pay2_apply]
  unfold k0_pay4
  generalize k0_pay2 (F := Ideal) x = y
  pointwise

theorem pay3_apply (x : Vec Ideal S512x128 .f32) (v : Vec Ideal S1x128 .f32) (r : Fin 512) (c : Fin 128) :
    k0_pay3 (F := Ideal) x v (ix2 r c) = (v (ix2 0 c) + ∑ k : Fin 512, if k.val < r.val then mark (x (ix2 k c)) else 0 : EReal) := by
  simp only [← pay2_apply]
  unfold k0_pay3
  generalize k0_pay2 (F := Ideal) x = y
  pointwise
  refine congrArg _ (Finset.sum_congr rfl fun k _ => ?_)
  exact if_congr (WordCmp.cmpi_slt_ofNat_eq_one_iff (by have := k.isLt; omega) (by have := r.isLt; omega)) rfl rfl

/-! What a grid point leaves: the block's positions, and the running counts in the second result and in the carry. -/

theorem hz2 : (![0, 0] : Fin 2 → Nat) = fun _ => 0 := by decide

section
variable (c : Dev nD) (i : grid0.Coords) (a1 : Memref sig .tc .vmem S512x128 .f32) (h1 : a1.IsWhole) (a2 : Memref sig .tc .vmem S512x128 .f32)
  (h2 : a2.IsWhole) (a3 : Memref sig .tc .vmem S1x128 .f32) (h3 : a3.IsWhole) (a4 : Memref sig .tc .vmem S1x128 .f32) (h4 : a4.IsWhole)
  (x : Vec Ideal S512x128 .f32) (s : Vec Ideal S1x128 .f32)

theorem out_A_1 (hc : cond0_0 i) : out0_A_1 c i a1 h1 a2 h2 a3 h3 a4 h4 hc x = k0_pay3 x (k0_pay1 (F := Ideal)) := by
  unfold out0_A_1
  rw [View.read_writes_eq_canon _ _ _ (cover0_A_1 c i a1 h1 a2 h2 a3 h3 a4 h4 hc x)]
  unfold kernelRun0_A
  dsimp only
  sl_unfold_words
  rw [View.canon_unit_zero hz2]
  simp only [View.readAt_eq_ld, h1.read_unread, View.ld_unit_zero (S := S512x128) hz2, View.readCov_unit_zero (S := S1x128) _ hz2]

theorem out_A_2 (hc : cond0_0 i) : out0_A_2 c i a1 h1 a2 h2 a3 h3 a4 h4 hc x = k0_pay4 x (k0_pay1 (F := Ideal)) := by
  unfold out0_A_2
  rw [View.read_writes_eq_canon _ _ _ (cover0_A_2 c i a1 h1 a2 h2 a3 h3 a4 h4 hc x)]
  unfold kernelRun0_A
  dsimp only
  sl_unfold_words
  rw [View.canon_unit_zero hz2]
  simp only [View.readAt_eq_ld, h1.read_unread, View.ld_unit_zero (S := S512x128) hz2, View.readCov_unit_zero (S := S1x128) _ hz2]
  exact View.readCov_cons_toLoadRect _ _ _ _

theorem sout_A (hc : cond0_0 i) : sout0_A_0 c i a1 h1 a2 h2 a3 h3 a4 h4 hc x = k0_pay4 x (k0_pay1 (F := Ideal)) := by
  unfold sout0_A_0
  rw [View.read_writes_eq_canon _ _ _ (scover0_A_0 c i a1 h1 a2 h2 a3 h3 a4 h4 hc x)]
  unfold kernelRun0_A
  dsimp only
  sl_unfold_words
  rw [View.canon_cons_unit_zero (S := S1x128) hz2]
  simp only [View.readAt_eq_ld, h1.read_unread, View.ld_unit_zero (S := S512x128) hz2, View.readCov_unit_zero (S := S1x128) _ hz2]

theorem out_B_1 (hc : ¬cond0_0 i) : out0_B_1 c i a1 h1 a2 h2 a3 h3 a4 h4 hc x s = k0_pay3 x s := by
  unfold out0_B_1
  rw [View.read_writes_eq_canon _ _ _ (cover0_B_1 c i a1 h1 a2 h2 a3 h3 a4 h4 hc x s)]
  unfold kernelRun0_B
  dsimp only
  sl_unfold_words
  rw [View.canon_unit_zero hz2]
  simp only [View.readAt_eq_ld, h1.read_unread, h4.read_unread, View.ld_unit_zero (S := S512x128) hz2, View.ld_unit_zero (S := S1x128) hz2]

theorem out_B_2 (hc : ¬cond0_0 i) : out0_B_2 c i a1 h1 a2 h2 a3 h3 a4 h4 hc x s = k0_pay4 x s := by
  unfold out0_B_2
  rw [View.read_writes_eq_canon _ _ _ (cover0_B_2 c i a1 h1 a2 h2 a3 h3 a4 h4 hc x s)]
  unfold kernelRun0_B
  dsimp only
  sl_unfold_words
  rw [View.canon_unit_zero hz2]
  simp only [View.readAt_eq_ld, h1.read_unread, h4.read_unread, View.ld_unit_zero (S := S512x128) hz2, View.ld_unit_zero (S := S1x128) hz2,
    View.readCov_unit_zero (S := S1x128) _ hz2]

theorem sout_B (hc : ¬cond0_0 i) : sout0_B_0 c i a1 h1 a2 h2 a3 h3 a4 h4 hc x s = k0_pay4 x s := by
  unfold sout0_B_0
  rw [View.read_writes_eq_canon _ _ _ (scover0_B_0 c i a1 h1 a2 h2 a3 h3 a4 h4 hc x s)]
  unfold kernelRun0_B
  dsimp only
  sl_unfold_words
  rw [View.canon_unit_zero hz2]
  simp only [View.readAt_eq_ld, h1.read_unread, h4.read_unread, View.ld_unit_zero (S := S512x128) hz2, View.ld_unit_zero (S := S1x128) hz2]

end

/-! The rows of a grid point's block. -/

theorem index0 : ∀ t : Fin grid0.N, cc0_transform_0 (grid0.coords t) = ![t.val, 0] := by decide +kernel

theorem lt (t : Fin cfg0.N) : t.val < 64 := t.isLt

theorem emb0 (t : Fin cfg0.N) (r : Fin 512) (e : Fin 128) :
    ((cfg0.win 0).blk t).view.emb (ix2 r e) = (ix2 ⟨t.val * 512 + r.val, by have := lt t; omega⟩ e : S32768x128.Idx) := by
  refine funext fun a => Fin.ext ?_
  refine ((cfg0.win 0).rect_emb_val t (ix2 r e) a).trans ?_
  refine (congrArg (fun v : Fin 2 → Nat => v a * S512x128.size a + (ix2 r e : S512x128.Idx) a) (index0 t)).trans ?_
  match a with
  | ⟨0, _⟩ => rfl
  | ⟨1, _⟩ => show 0 * 128 + e.val = e.val; omega

variable (m : (ℓ : Loc nD τ sig) → Buf (Elt Ideal) ℓ)

theorem iblk_apply (c : Dev nD) (t : Fin cfg0.N) (r : Fin 512) (e : Fin 128) :
    iblk m c 0 t (ix2 r e) = m ((c : Thread nD τ).loc main_arg0) (ix2 ⟨t.val * 512 + r.val, by have := lt t; omega⟩ e) :=
  congrArg (m ((c : Thread nD τ).loc main_arg0)) (emb0 t r e)

/-- An expert's column of the argument. -/
def column (c : Dev nD) (e : Fin 128) : Fin 32768 → EReal := fun i => m ((c : Thread nD τ).loc main_arg0) (ix2 i e)

theorem mark_iblk (c : Dev nD) (t : Fin cfg0.N) (r : Fin 512) (e : Fin 128) :
    mark (iblk m c 0 t (ix2 r e)) = term (column m c e) (t.val * 512 + r.val) := by
  unfold term
  rw [dif_pos (by have := lt t; omega)]
  exact congrArg mark (iblk_apply m c t r e)

theorem block_sum (c : Dev nD) (t : Fin cfg0.N) (e : Fin 128) :
    count (column m c e) (t.val * 512) + ∑ r : Fin 512, mark (iblk m c 0 t (ix2 r e)) = count (column m c e) ((t.val + 1) * 512) := by
  rw [Finset.sum_congr rfl fun r _ => mark_iblk m c t r e, Nat.succ_mul]
  exact (count_add _ _ _).symm

theorem part_sum (c : Dev nD) (t : Fin cfg0.N) (r : Fin 512) (e : Fin 128) :
    count (column m c e) (t.val * 512) + (∑ k : Fin 512, if k.val < r.val then mark (iblk m c 0 t (ix2 k e)) else 0)
      = count (column m c e) (t.val * 512 + r.val) := by
  rw [Finset.sum_congr rfl fun k _ => if_congr Iff.rfl (mark_iblk m c t k e) rfl]
  exact (count_part _ _ _ _ r.isLt.le).symm

/-! After a point the block holds the positions of its tokens, the second result and the carry the tokens so far. -/

theorem count_zero (c : Dev nD) (e : Fin 128) : count (column m c e) 0 = 0 := Finset.sum_range_zero _

theorem step_A (c : Dev nD) (t : Fin cfg0.N) (h0 : t.val % 64 = 0) : outsAt0 m c t.val t.isLt
    = (k0_pay3 (iblk m c 0 t) (k0_pay1 (F := Ideal)), k0_pay4 (iblk m c 0 t) (k0_pay1 (F := Ideal)), k0_pay4 (iblk m c 0 t) (k0_pay1 (F := Ideal))) := by
  rw [outsAt0_A m c t h0, out_A_1, out_A_2, sout_A]

theorem step_B (c : Dev nD) (n : ℕ) (hn : n + 1 < cfg0.N) : outsAt0 m c (n + 1) hn
    = (k0_pay3 (iblk m c 0 ⟨n + 1, hn⟩) (outsAt0 m c n (Nat.lt_of_succ_lt hn)).2.2, k0_pay4 (iblk m c 0 ⟨n + 1, hn⟩) (outsAt0 m c n (Nat.lt_of_succ_lt hn)).2.2,
      k0_pay4 (iblk m c 0 ⟨n + 1, hn⟩) (outsAt0 m c n (Nat.lt_of_succ_lt hn)).2.2) := by
  have h0 : ¬(⟨n + 1, hn⟩ : Fin cfg0.N).val % 64 = 0 := by have := lt ⟨n + 1, hn⟩; dsimp only at *; omega
  rw [outsAt0_B m c ⟨n + 1, hn⟩ h0, out_B_1, out_B_2, sout_B]
  rfl

theorem first (c : Dev nD) (hn : 0 < cfg0.N) : outsAt0 m c 0 hn
    = (k0_pay3 (iblk m c 0 ⟨0, hn⟩) (k0_pay1 (F := Ideal)), k0_pay4 (iblk m c 0 ⟨0, hn⟩) (k0_pay1 (F := Ideal)), k0_pay4 (iblk m c 0 ⟨0, hn⟩) (k0_pay1 (F := Ideal))) :=
  step_A m c ⟨0, hn⟩ rfl

theorem carried (c : Dev nD) : ∀ (n : ℕ) (hn : n < cfg0.N) (e : Fin 128), (outsAt0 m c n hn).2.2 (ix2 0 e) = count (column m c e) ((n + 1) * 512)
  | 0, hn, e => by
    rw [first]
    dsimp only
    rw [pay4_apply, pay1_apply, ← count_zero m c e]
    exact (congrArg (fun k => count (column m c e) k + _) (Nat.zero_mul 512).symm).trans (block_sum m c ⟨0, hn⟩ e)
  | n + 1, hn, e => by
    rw [step_B]
    dsimp only
    rw [pay4_apply, carried c n (Nat.lt_of_succ_lt hn) e]
    exact block_sum m c ⟨n + 1, hn⟩ e

theorem counted (c : Dev nD) (n : ℕ) (hn : n < cfg0.N) (e : Fin 128) : (outsAt0 m c n hn).2.1 (ix2 0 e) = count (column m c e) ((n + 1) * 512) := by
  refine Eq.trans ?_ (carried m c n hn e)
  cases n with
  | zero => rw [first]
  | succ n => rw [step_B]

theorem placed (c : Dev nD) (n : ℕ) (hn : n < cfg0.N) (r : Fin 512) (e : Fin 128) :
    (outsAt0 m c n hn).1 (ix2 r e) = count (column m c e) (n * 512 + r.val) := by
  cases n with
  | zero =>
    rw [first]
    dsimp only
    rw [pay3_apply, pay1_apply, ← count_zero m c e]
    exact (congrArg (fun k => count (column m c e) k + _) (Nat.zero_mul 512).symm).trans (part_sum m c ⟨0, hn⟩ r e)
  | succ n =>
    rw [step_B]
    dsimp only
    rw [pay3_apply, carried m c n (Nat.lt_of_succ_lt hn) e]
    exact part_sum m c ⟨n + 1, hn⟩ r e

/-! The results are the reference's. -/

theorem positions_eq (c : Dev nD) : Value.G1 m c = Cert.Reference6Ideal.Rank.before (F := Ideal) (m ((c : Thread nD τ).loc main_arg0)) := by
  funext i
  have h0 : (i 0).val < 32768 := (i 0).isLt
  have h1 : (i 1).val < 128 := (i 1).isLt
  have hp : Value.pt1Of i = (i 0).val / 512 := by
    show 1 * ((i 0).val / 512 - 0) + 1 * ((i 1).val / 128 - 0) = _
    omega
  have hN : Value.pt1Of i < cfg0.N := lt_of_lt_of_eq (by rw [hp]; omega) N_0.symm
  have hl : Value.loc1Of i = ix2 ⟨(i 0).val % 512, by omega⟩ ⟨(i 1).val, h1⟩ := by
    funext a; apply Fin.ext
    match a with
    | ⟨0, _⟩ => rfl
    | ⟨1, _⟩ => show (i 1).val % 128 = (i 1).val; omega
  have hi : i = ix2 ⟨(i 0).val, h0⟩ ⟨(i 1).val, h1⟩ := by
    funext a
    match a with
    | ⟨0, _⟩ => rfl
    | ⟨1, _⟩ => rfl
  unfold Value.G1
  rw [dif_pos hN, ← Value.outsAt0_sweep m c _ hN, hl, placed]
  refine Eq.trans ?_ (congrArg _ hi).symm
  refine Eq.trans ?_ (Cert.Reference6Ideal.Rank.before_apply _ _ _).symm
  exact congrArg (count (column m c ⟨(i 1).val, h1⟩)) (show Value.pt1Of i * 512 + (i 0).val % 512 = (i 0).val by rw [hp]; omega)

theorem totals_eq (c : Dev nD) : Value.G2 m c = Cert.Reference6Ideal.Rank.total (F := Ideal) (m ((c : Thread nD τ).loc main_arg0)) := by
  rw [Value.G2_last, ← Value.outsAt0_sweep m c 63 (lt_of_lt_of_eq (by decide) N_0.symm)]
  funext i
  have h0 : (i 0).val < 1 := (i 0).isLt
  have h1 : (i 1).val < 128 := (i 1).isLt
  have hi : i = ix2 0 ⟨(i 1).val, h1⟩ := by
    funext a; apply Fin.ext
    match a with
    | ⟨0, _⟩ => show (i 0).val = 0; omega
    | ⟨1, _⟩ => rfl
  rw [hi]
  exact (counted m c 63 _ _).trans (Cert.Reference6Ideal.Rank.total_apply _ _).symm

end Cert.Kernel6Ideal.Rank

end
-- ==== Proof.Ada.Value.lean ====
/- The conditioning: what the kernel leaves in its result array, and that the reference computes the same. -/
module

public import proofs.«01_k».proof.Defs
public import proofs.«01_k».proof.Proof.Gen.Kernel7Ideal.Value
public import proofs.«01_k».proof.Proof.Gen.Reference7Ideal.Run
public import Idealize.ShloMosaic.Lib.Pipeline.ValueKit
public import Idealize.ShloMosaic.Lib.Pipeline.Covers
public import Idealize.ShloMosaic.Lib.StableHlo.Run
public import Idealize.ShloMosaic.Lib.Pointwise
public import Idealize.ShloMosaic.Lib.Tactic

@[expose] public section

set_option maxRecDepth 16384

noncomputable section

namespace Cert.Ada

open Idealize.ShloMosaic

/-- The shapes the precondition takes are as it states them. -/
theorem pre_facts : Cert.Pre_finite.Facts where
  bcast_S_S8x1024 := by decide
  bcast_S_S1024x6144 := by decide

/-- The activation of one conditioning value. -/
def act (x : EReal) : EReal := x * Ideal.logistic x

/-- One result: an activated row times a column of the weights, and the column's bias. -/
def value (x w : Fin 1024 → EReal) (b : EReal) : EReal := (∑ k, act (x k) * w k) + b

/-- The literal that the precondition compares with is infinity. -/
theorem infinity : Ideal.ofBits .f32 0x7F800000#32 = ⊤ := by simp [Ideal.ofBits, Ideal.ieee]

/-- A number whose magnitude is below infinity is a real. -/
theorem real_of_abs (x : EReal) (h : Ideal.cmp .olt (max x (-x)) ⊤ = 1#1) : ∃ r : ℝ, x = r := by
  induction x with
  | bot => exact absurd h (by simp [Ideal.cmp])
  | top => exact absurd h (by simp [Ideal.cmp])
  | coe r => exact ⟨r, rfl⟩

/-- The activation of a real is a real. -/
theorem act_real (r : ℝ) : ∃ s : ℝ, act r = s := ⟨r * (1 + Real.exp (-r))⁻¹, by unfold act; rw [Ideal.logistic_coe, ← EReal.coe_mul]⟩

theorem sub_self_real {x : EReal} (h : ∃ r : ℝ, x = r) : x - x = 0 := by
  obtain ⟨r, rfl⟩ := h
  rw [← EReal.coe_sub, sub_self, EReal.coe_zero]

/-- Of three products of high and low parts the two with a low part are zero, when what the parts are cut from is real. -/
theorem three (x w : Fin 1024 → EReal) (hx : ∀ k, ∃ r : ℝ, x k = r) (hw : ∀ k, ∃ r : ℝ, w k = r) :
    (∑ k, x k * w k) + ((∑ k, x k * (w k - w k)) + ∑ k, (x k - x k) * w k) = ∑ k, x k * w k := by
  have h1 : ∀ k, x k * (w k - w k) = 0 := fun k => by rw [sub_self_real (hw k), mul_zero]
  have h2 : ∀ k, (x k - x k) * w k = 0 := fun k => by rw [sub_self_real (hx k), zero_mul]
  rw [Finset.sum_congr rfl fun k _ => h1 k, Finset.sum_congr rfl fun k _ => h2 k, Finset.sum_const_zero, add_zero, add_zero]

end Cert.Ada

namespace Cert.Reference7Ideal.Ada

open Cert.Reference7Ideal Cert.Reference7Ideal.Gen Idealize.ShloMosaic Idealize.ShloMosaic.TcCoe

/-- The reference's result from its three arguments. -/
def result {F : FTy → Type} [FloatOps F] (x : FVec F S8x1024 .f32) (w : FVec F S1024x6144 .f32) (b : FVec F S6144 .f32) : FVec F S8x6144 .f32 :=
  addf (Host.dotGeneral dot_S8x1024_S1024x6144_S8x6144_1_0_0_1_n_n none
    (mulf x (Host.divf (broadcastInDim S8x1024 ![] bcast_S_S8x1024 (constant S_ .f32 0x3F800000#32))
      (addf (broadcastInDim S8x1024 ![] bcast_S_S8x1024 (constant S_ .f32 0x3F800000#32)) (Host.exp (Host.negf x))))) w)
    (broadcastInDim S8x6144 ![0, 1] bcast_S1x6144_S8x6144_0_1 (broadcastInDim S1x6144 ![1] bcast_S6144_S1x6144_1 b))

theorem result_apply (x : FVec Ideal S8x1024 .f32) (w : FVec Ideal S1024x6144 .f32) (b : FVec Ideal S6144 .f32) (i : Fin 8) (j : Fin 6144) :
    result x w b (ix2 i j) = Cert.Ada.value (fun k => x (ix2 i k)) (fun k => w (ix2 k j)) (b (ix1 j)) := by
  unfold Cert.Ada.value Cert.Ada.act Ideal.logistic
  pointwise [result]

end Cert.Reference7Ideal.Ada

namespace Cert.Kernel7Ideal.Ada

open Cert.Kernel7Ideal Cert.Kernel7Ideal.Gen
open Idealize.ShloMosaic Idealize.ShloMosaic.TcCoe Idealize.ShloMosaic.Tactic Idealize.SL.Sem

theorem pay1_apply (x : Vec Ideal S8x1024 .f32) (w : Vec Ideal S1024x1024 .f32) (b : Vec Ideal S1x1024 .f32) (i : Fin 8) (j : Fin 1024)
    (hx : ∀ k, ∃ r : ℝ, (x (ix2 i k) : EReal) = r) (hw : ∀ k, ∃ r : ℝ, (w (ix2 k j) : EReal) = r) :
    k0_pay1 (F := Ideal) x w b (ix2 i j) = Cert.Ada.value (fun k => x (ix2 i k)) (fun k => w (ix2 k j)) (b (ix2 0 j)) := by
  have ha : ∀ k, ∃ r : ℝ, Cert.Ada.act (x (ix2 i k)) = r := fun k => by
    obtain ⟨r, hr⟩ := hx k
    rw [hr]
    exact Cert.Ada.act_real r
  unfold Cert.Ada.value
  rw [← Cert.Ada.three (fun k => Cert.Ada.act (x (ix2 i k))) (fun k => w (ix2 k j)) ha hw]
  unfold Cert.Ada.act
  pointwise [k0_pay1]

variable (m : (ℓ : Loc nD τ sig) → Buf (Elt Ideal) ℓ)

/-- The biases as one row, as the host line makes them. -/
theorem V_v0 (c : Dev nD) : V m c main_v0 = shapeCast S1x6144 (m ((c : Thread nD τ).loc main_arg2)) shapeCasts_S6144_S1x6144 := by
  unfold_abbrev_sides
  after_results
  rfl

theorem row_apply (b : FVec Ideal S6144 .f32) (j : Fin 6144) : shapeCast S1x6144 b shapeCasts_S6144_S1x6144 (ix2 0 j) = b (ix1 j) := by
  pointwise

theorem index0 : ∀ t : Fin grid0.N, cc0_transform_0 (grid0.coords t) = ![0, 0] := by decide +kernel
theorem index1 : ∀ t : Fin grid0.N, cc0_transform_1 (grid0.coords t) = ![0, t.val] := by decide +kernel
theorem index2 : ∀ t : Fin grid0.N, cc0_transform_2 (grid0.coords t) = ![0, t.val] := by decide +kernel
theorem index3 : ∀ t : Fin grid0.N, cc0_transform_3 (grid0.coords t) = ![0, t.val] := by decide +kernel

theorem lt (t : Fin cfg0.N) : t.val < 6 := t.isLt

/-- The column of the weights that grid point `t` reads as its column `j`. -/
abbrev col (t : Fin cfg0.N) (j : Fin 1024) : Fin 6144 := ⟨t.val * 1024 + j.val, by have := lt t; omega⟩

theorem emb0 (t : Fin cfg0.N) (i : Fin 8) (k : Fin 1024) : ((cfg0.win 0).blk t).view.emb (ix2 i k) = (ix2 i k : S8x1024.Idx) := by
  refine funext fun a => Fin.ext ?_
  refine ((cfg0.win 0).rect_emb_val t (ix2 i k) a).trans ?_
  refine (congrArg (fun v : Fin 2 → Nat => v a * S8x1024.size a + (ix2 i k : S8x1024.Idx) a) (index0 t)).trans ?_
  match a with
  | ⟨0, _⟩ => show 0 * 8 + i.val = i.val; omega
  | ⟨1, _⟩ => show 0 * 1024 + k.val = k.val; omega

theorem emb1 (t : Fin cfg0.N) (k j : Fin 1024) : ((cfg0.win 1).blk t).view.emb (ix2 k j) = (ix2 k (col t j) : S1024x6144.Idx) := by
  refine funext fun a => Fin.ext ?_
  refine ((cfg0.win 1).rect_emb_val t (ix2 k j) a).trans ?_
  refine (congrArg (fun v : Fin 2 → Nat => v a * S1024x1024.size a + (ix2 k j : S1024x1024.Idx) a) (index1 t)).trans ?_
  match a with
  | ⟨0, _⟩ => show 0 * 1024 + k.val = k.val; omega
  | ⟨1, _⟩ => rfl

theorem emb2 (t : Fin cfg0.N) (j : Fin 1024) : ((cfg0.win 2).blk t).view.emb (ix2 0 j) = (ix2 0 (col t j) : S1x6144.Idx) := by
  refine funext fun a => Fin.ext ?_
  refine ((cfg0.win 2).rect_emb_val t (ix2 0 j) a).trans ?_
  refine (congrArg (fun v : Fin 2 → Nat => v a * S1x1024.size a + (ix2 0 j : S1x1024.Idx) a) (index2 t)).trans ?_
  match a with
  | ⟨0, _⟩ => rfl
  | ⟨1, _⟩ => rfl

theorem emb3 (t : Fin cfg0.N) (i : Fin 8) (j : Fin 1024) : ((cfg0.win 3).blk t).view.emb (ix2 i j) = (ix2 i (col t j) : S8x6144.Idx) := by
  refine funext fun a => Fin.ext ?_
  refine ((cfg0.win 3).rect_emb_val t (ix2 i j) a).trans ?_
  refine (congrArg (fun v : Fin 2 → Nat => v a * S8x1024.size a + (ix2 i j : S8x1024.Idx) a) (index3 t)).trans ?_
  match a with
  | ⟨0, _⟩ => show 0 * 8 + i.val = i.val; omega
  | ⟨1, _⟩ => rfl

theorem iblk0_apply (c : Dev nD) (t : Fin cfg0.N) (i : Fin 8) (k : Fin 1024) : iblk m c 0 t (ix2 i k) = m ((c : Thread nD τ).loc main_arg0) (ix2 i k) :=
  (congrFun (V_main_arg0 m c : V m c (Pipeline.arrRef spec0 0) = _) _).trans (congrArg _ (emb0 t i k))

theorem iblk1_apply (c : Dev nD) (t : Fin cfg0.N) (k j : Fin 1024) : iblk m c 1 t (ix2 k j) = m ((c : Thread nD τ).loc main_arg1) (ix2 k (col t j)) :=
  (congrFun (V_main_arg1 m c : V m c (Pipeline.arrRef spec0 1) = _) _).trans (congrArg _ (emb1 t k j))

theorem iblk2_apply (c : Dev nD) (t : Fin cfg0.N) (j : Fin 1024) : iblk m c 2 t (ix2 0 j) = m ((c : Thread nD τ).loc main_arg2) (ix1 (col t j)) := by
  refine (congrFun (V_v0 m c : V m c (Pipeline.arrRef spec0 2) = _) _).trans ?_
  exact (congrArg _ (emb2 t j)).trans (row_apply _ _)

section
variable (hm : Cert.Pre_Kernel7Ideal_finite (hPre_finite := Cert.Ada.pre_facts) m)
include hm

/-- Under the precondition every conditioning value is a real. -/
theorem real0 (c : Dev nD) (i : Fin 8) (k : Fin 1024) : ∃ r : ℝ, @Eq EReal (m ((c : Thread nD τ).loc main_arg0) (ix2 i k)) (r : EReal) := by
  refine Cert.Ada.real_of_abs _ ?_
  refine Eq.trans ?_ (congrFun (hm c).1 (ix2 i k))
  pointwise [Cert.Pre_finite.fn]
  rw [Cert.Ada.infinity]
  rfl

/-- And so is every weight. -/
theorem real1 (c : Dev nD) (k : Fin 1024) (j : Fin 6144) : ∃ r : ℝ, @Eq EReal (m ((c : Thread nD τ).loc main_arg1) (ix2 k j)) (r : EReal) := by
  refine Cert.Ada.real_of_abs _ ?_
  refine Eq.trans ?_ (congrFun (hm c).2 (ix2 k j))
  pointwise [Cert.Pre_finite.fn]
  rw [Cert.Ada.infinity]
  rfl

end

/-- What the reference computes from this kernel's arguments. -/
abbrev resultOf (c : Dev nD) : FVec Ideal S8x6144 .f32 :=
  Cert.Reference7Ideal.Ada.result (F := Ideal) (m ((c : Thread nD τ).loc main_arg0)) (m ((c : Thread nD τ).loc main_arg1)) (m ((c : Thread nD τ).loc main_arg2))

/-- What grid point `t` stores is its block of the reference's result. -/
theorem stored (hm : Cert.Pre_Kernel7Ideal_finite (hPre_finite := Cert.Ada.pre_facts) m) (c : Dev nD) (t : Fin cfg0.N) (i : Fin 8) (j : Fin 1024) :
    k0_pay1 (F := Ideal) (iblk m c 0 t) (iblk m c 1 t) (iblk m c 2 t) (ix2 i j) = resultOf m c (ix2 i (col t j)) := by
  have h0 := fun k => iblk0_apply m c t i k
  have h1 := fun k => iblk1_apply m c t k j
  refine (pay1_apply _ _ _ i j (fun k => ?_) (fun k => ?_)).trans ?_
  · obtain ⟨r, hr⟩ := real0 m hm c i k
    exact ⟨r, (h0 k).trans hr⟩
  · obtain ⟨r, hr⟩ := real1 m hm c k (col t j)
    exact ⟨r, (h1 k).trans hr⟩
  · refine Eq.trans ?_ (Cert.Reference7Ideal.Ada.result_apply _ _ _ _ _).symm
    rw [funext h0, funext h1, iblk2_apply m c t j]

/-- The result array after the last grid point is the reference's result. -/
theorem final (hm : Cert.Pre_Kernel7Ideal_finite (hPre_finite := Cert.Ada.pre_facts) m) (c : Dev nD) : (dats m 0 c).arrAt 3 cfg0.N = resultOf m c := by
  refine (dats m 0 c).arrAt_eq_of_covers 3 _ (by decide +kernel) fun t _ y => ?_
  rw [after0_3]
  revert y
  intro (y : S8x1024.Idx)
  have hy : y = (ix2 (y 0) (y 1) : S8x1024.Idx) := funext fun a => match a with
    | ⟨0, _⟩ => rfl
    | ⟨1, _⟩ => rfl
  rw [hy]
  refine Eq.trans ?_ (congrArg (resultOf m c) (emb3 t (y 0) (y 1))).symm
  refine Eq.trans ?_ (stored m hm c t (y 0) (y 1))
  have hz2 : (![0, 0] : Fin 2 → Nat) = fun _ => 0 := funext fun a => by fin_cases a <;> rfl
  unfold out0_3
  rw [View.canon_unit_zero hz2, View.ld_unit_zero hz2, View.ld_unit_zero hz2, View.ld_unit_zero hz2]
  rfl

end Cert.Kernel7Ideal.Ada

end
-- ==== Proof.Gates.Columns.lean ====
/- The columns of the input weights in the order the kernel takes them. -/
module

public import proofs.«01_k».proof.Proof.Gen.Kernel4Ideal.Value
public import Idealize.ShloMosaic.Lib.Pointwise

@[expose] public section

set_option maxRecDepth 16384

noncomputable section

namespace Cert.Gates

open Idealize.ShloMosaic

variable {α : Type}

/-- The dimension numbers that take one column per index. -/
abbrev columnDims (A N T : Nat) (wf : GatherDims.WF ⟨2, ![A, N]⟩ ⟨2, ![T, 1]⟩ ⟨2, ![A, T]⟩ [0] [1] [] [1] [] 1 ![A, 1]) :
    GatherDims ⟨2, ![A, N]⟩ ⟨2, ![T, 1]⟩ ⟨2, ![A, T]⟩ where
  offsetDims := [0]
  collapsedSliceDims := [1]
  operandBatchingDims := []
  startIndicesBatchingDims := []
  startIndexMap := [1]
  indexVectorDim := 1
  sliceSizes := ![A, 1]
  wf := wf

/-- The column taken for index `t` is the array's at the start index there, kept inside the array. -/
theorem take_column {A N T : Nat} (wf : GatherDims.WF ⟨2, ![A, N]⟩ ⟨2, ![T, 1]⟩ ⟨2, ![A, T]⟩ [0] [1] [] [1] [] 1 ![A, 1])
    (x : (⟨2, ![A, N]⟩ : Shape).Idx → α) (idx : IVec ⟨2, ![T, 1]⟩ 32) (a : Fin A) (t : Fin T) (e : Fin N)
    (he : min (idx (ix2 t 0)).toInt.toNat (N - 1) = e.val) :
    Host.gather (columnDims A N T wf) x idx (ix2 a t) = x (ix2 a e) := by
  unfold Host.gather
  refine congrArg x (funext fun k => Fin.ext ?_)
  show (columnDims A N T wf).start (ix2 a t) idx k + (columnDims A N T wf).batchCoord (ix2 a t) k
    + (columnDims A N T wf).offCoord (ix2 a t) k = _
  rw [GatherDims.batchCoord_eq_zero _ _ _ List.not_mem_nil]
  have hk : k = (0 : Fin 2) ∨ k = (1 : Fin 2) := by
    match k with
    | ⟨0, _⟩ => exact .inl rfl
    | ⟨1, _⟩ => exact .inr rfl
  rcases hk with rfl | rfl
  · unfold GatherDims.start
    rw [dif_neg (by simp)]
    show 0 + 0 + a.val = a.val
    omega
  · rw [GatherDims.offCoord_eq_zero _ _ _ (fun h => ((GatherDims.mem_sKept _ _).mp h).1 (List.mem_singleton.mpr rfl))]
    unfold GatherDims.start
    rw [dif_pos (show (1 : Fin 2) ∈ (columnDims A N T wf).startIndexMap from List.mem_singleton.mpr rfl)]
    refine Eq.trans (congrArg (fun i => min (idx i).toInt.toNat (N - 1)) (?_ : _ = ix2 t 0)) he
    funext c; refine Fin.ext ?_
    match c with
    | ⟨0, _⟩ => rfl
    | ⟨1, _⟩ => rfl

end Cert.Gates

namespace Cert.Kernel4Ideal.Gates

open Cert.Kernel4Ideal Cert.Kernel4Ideal.Gen Idealize.ShloMosaic

/-- From column 1408 the table holds the gates' columns in order, and marks none of them negative. -/
theorem table_gates : ∀ j : Fin 2048, lit0 ⟨1408 + j.val, by omega⟩ = BitVec.ofNat 32 (1816 + j.val) ∧ lit1 ⟨1408 + j.val, by omega⟩ = 0#1 := by
  decide +kernel

/-- The queries' columns come first. -/
theorem table_q : ∀ j : Fin 512, lit0 ⟨j.val, by omega⟩ = BitVec.ofNat 32 (512 + j.val) ∧ lit1 ⟨j.val, by omega⟩ = 0#1 := by
  decide +kernel

/-- Then, a pair of parts at a time, a head's columns of the one beside those of the other: what is to be compressed. -/
theorem table_c : ∀ (g : Fin 2) (e : Fin 64),
    (lit0 ⟨512 + g.val * 128 + e.val, by omega⟩ = BitVec.ofNat 32 (1024 + g.val * 64 + e.val) ∧ lit1 ⟨512 + g.val * 128 + e.val, by omega⟩ = 0#1)
    ∧ (lit0 ⟨576 + g.val * 128 + e.val, by omega⟩ = BitVec.ofNat 32 (1152 + g.val * 64 + e.val) ∧ lit1 ⟨576 + g.val * 128 + e.val, by omega⟩ = 0#1) := by
  decide +kernel

/-- The keys of the selected branch and of the window. -/
theorem table_k : ∀ (g : Fin 2) (e : Fin 64),
    (lit0 ⟨768 + g.val * 128 + e.val, by omega⟩ = BitVec.ofNat 32 (1280 + g.val * 64 + e.val) ∧ lit1 ⟨768 + g.val * 128 + e.val, by omega⟩ = 0#1)
    ∧ (lit0 ⟨832 + g.val * 128 + e.val, by omega⟩ = BitVec.ofNat 32 (1536 + g.val * 64 + e.val) ∧ lit1 ⟨832 + g.val * 128 + e.val, by omega⟩ = 0#1) := by
  decide +kernel

/-- Their values. -/
theorem table_v : ∀ (g : Fin 2) (e : Fin 64),
    (lit0 ⟨1024 + g.val * 128 + e.val, by omega⟩ = BitVec.ofNat 32 (1408 + g.val * 64 + e.val) ∧ lit1 ⟨1024 + g.val * 128 + e.val, by omega⟩ = 0#1)
    ∧ (lit0 ⟨1088 + g.val * 128 + e.val, by omega⟩ = BitVec.ofNat 32 (1664 + g.val * 64 + e.val) ∧ lit1 ⟨1088 + g.val * 128 + e.val, by omega⟩ = 0#1) := by
  decide +kernel

/-- The branches' gates, a branch at a time. -/
theorem table_b : ∀ (g : Fin 2) (e : Fin 12), lit0 ⟨1280 + g.val * 16 + e.val, by omega⟩ = BitVec.ofNat 32 (1792 + ((g.val * 4 + e.val % 4) * 3 + e.val / 4))
    ∧ lit1 ⟨1280 + g.val * 16 + e.val, by omega⟩ = 0#1 := by
  decide +kernel

/-- Behind them, the column of zeros. -/
theorem table_z : ∀ (g : Fin 2) (e : Fin 4), lit0 ⟨1280 + g.val * 16 + (12 + e.val), by omega⟩ = 0xFFFFFFFF#32
    ∧ lit1 ⟨1280 + g.val * 16 + (12 + e.val), by omega⟩ = 1#1 := by
  decide +kernel

/-- The start indices: the table, a negative entry taken from the end. -/
def starts : IVec S3456x1 32 :=
  broadcastInDim S3456x1 ![0] bcast_S3456_S3456x1_0 (select (fun i => lit1 (S3456.rowMajor i))
    (addi (fun i => lit0 (S3456.rowMajor i)) (broadcastInDim S3456 ![] bcast_S_S3456 (constantI S_ 32 3865#32))) (fun i => lit0 (S3456.rowMajor i)))

theorem starts_apply (t : Fin 3456) (h : lit1 t = 0#1) : starts (ix2 t 0) = lit0 t := by
  have e : S3456.rowMajor (ix1 t) = t := by
    refine Fin.ext ?_
    rw [Shape.rowMajor_val_one]
    rfl
  pointwise [starts]
  rw [e, h]
  rfl

/-- The weights with a column of zeros behind, their columns taken by the table. -/
def taken (w : FVec Ideal S1024x3864 .f32) : FVec Ideal S1024x3456 .bf16 :=
  truncf .bf16 (Host.gather gather_S1024x3865_S3456x1_S1024x3456_0_1_n_n_1_1_10241
    (concatenate S1024x3865 1 [⟨S1024x3864, w⟩, ⟨S1024x1, broadcastInDim S1024x1 ![] bcast_S_S1024x1 (constant S_ .f32 0x00000000#32)⟩]
      concatenates_S1024x3864_S1024x1_S1024x3865_d1) starts) bitsLt_bf16_f32

theorem truncf_apply (v : FVec Ideal S1024x3456 .f32) (i : S1024x3456.Idx) : truncf (F := Ideal) .bf16 v bitsLt_bf16_f32 i = v i := rfl

theorem dims_eq : gather_S1024x3865_S3456x1_S1024x3456_0_1_n_n_1_1_10241
    = Cert.Gates.columnDims 1024 3865 3456 gather_S1024x3865_S3456x1_S1024x3456_0_1_n_n_1_1_10241_wf := rfl

theorem taken_apply (w : FVec Ideal S1024x3864 .f32) (k : Fin 1024) (t : Fin 3456) (n : Fin 3864) (h0 : lit0 t = BitVec.ofNat 32 n.val) (h1 : lit1 t = 0#1) :
    taken w (ix2 k t) = w (ix2 k n) := by
  have e : min (starts (ix2 t 0)).toInt.toNat (3865 - 1) = n.val := by
    rw [starts_apply t h1, h0, BitVec.toInt_eq_toNat_of_lt (by rw [BitVec.toNat_ofNat]; omega), BitVec.toNat_ofNat]
    omega
  unfold taken
  rw [truncf_apply, dims_eq, Cert.Gates.take_column _ _ _ k t ⟨n.val, by omega⟩ e]
  pointwise

theorem starts_marked (t : Fin 3456) (h : lit1 t = 1#1) : starts (ix2 t 0) = lit0 t + 3865#32 := by
  have e : S3456.rowMajor (ix1 t) = t := by
    refine Fin.ext ?_
    rw [Shape.rowMajor_val_one]
    rfl
  pointwise [starts]
  rw [e, h]
  rfl

/-- A column taken from behind the weights is of zeros. -/
theorem taken_zero (w : FVec Ideal S1024x3864 .f32) (k : Fin 1024) (t : Fin 3456) (h0 : lit0 t = 0xFFFFFFFF#32) (h1 : lit1 t = 1#1) :
    taken w (ix2 k t) = 0 := by
  have e : min (starts (ix2 t 0)).toInt.toNat (3865 - 1) = 3864 := by
    rw [starts_marked t h1, h0]
    decide
  unfold taken
  rw [truncf_apply, dims_eq, Cert.Gates.take_column _ _ _ k t ⟨3864, by omega⟩ e]
  pointwise

end Cert.Kernel4Ideal.Gates

end
-- ==== Proof.Gates.Blocks.lean ====
/- The blocks the input projection's windows place before a grid point, read at an element of the argument each comes from. -/
module

public import proofs.«01_k».proof.Proof.Gates.Columns
public import Idealize.ShloMosaic.Lib.Pipeline.ValueKit
public import Idealize.ShloMosaic.Lib.StableHlo.Run
public import Idealize.ShloMosaic.Lib.Tactic

@[expose] public section

set_option maxRecDepth 16384

noncomputable section

namespace Cert.Kernel4Ideal.Gates

open Cert.Kernel4Ideal Cert.Kernel4Ideal.Gen
open Idealize.ShloMosaic Idealize.ShloMosaic.TcCoe Idealize.ShloMosaic.Tactic Idealize.SL.Sem

variable (m : (ℓ : Loc nD τ sig) → Buf (Elt Ideal) ℓ)

theorem lt (t : Fin cfg0.N) : t.val < 64 := t.isLt

/-! The arrays the host lines make. -/

theorem V_v12 (c : Dev nD) : V m c main_v12 = shapeCast S32768x1024 (m ((c : Thread nD τ).loc main_arg0)) shapeCasts_S4x8192x1024_S32768x1024 := by
  unfold_abbrev_sides
  after_results
  rfl

theorem V_v7 (c : Dev nD) : V m c main_v7 = shapeCast S4x1x1024 (extractStridedSlice S4x1024 ![0, 1024] (m ((c : Thread nD τ).loc main_arg1)) slices_S4x6144_S4x1024_0_1024) shapeCasts_S4x1024_S4x1x1024 := by
  unfold_abbrev_sides
  after_results
  rfl

theorem V_v6 (c : Dev nD) : V m c main_v6 = shapeCast S4x1x1024 (extractStridedSlice S4x1024 ![0, 0] (m ((c : Thread nD τ).loc main_arg1)) slices_S4x6144_S4x1024_0_0) shapeCasts_S4x1024_S4x1x1024 := by
  unfold_abbrev_sides
  after_results
  rfl

theorem V_v20 (c : Dev nD) : V m c main_v20 = taken (m ((c : Thread nD τ).loc main_arg2)) := by
  unfold taken starts
  unfold_abbrev_sides
  after_results
  rfl

/-! Where the windows point at grid point `t`: its 512 rows, and the batch `t / 16` they lie in. -/

theorem index0 : ∀ t : Fin grid0.N, cc0_transform_0 (grid0.coords t) = ![t.val, 0] := by decide +kernel
theorem index1 : ∀ t : Fin grid0.N, cc0_transform_1 (grid0.coords t) = ![t.val / 16, 0, 0] := by decide +kernel
theorem index2 : ∀ t : Fin grid0.N, cc0_transform_2 (grid0.coords t) = ![t.val / 16, 0, 0] := by decide +kernel
theorem index3 : ∀ t : Fin grid0.N, cc0_transform_3 (grid0.coords t) = ![0, 0] := by decide +kernel
theorem index12 : ∀ t : Fin grid0.N, cc0_transform_14 (grid0.coords t) = ![t.val, 0] := by decide +kernel

theorem emb0 (t : Fin cfg0.N) (r : Fin 512) (k : Fin 1024) (R : Fin 32768) (hR : R.val = t.val * 512 + r.val) :
    ((cfg0.win 0).blk t).view.emb (ix2 r k) = (ix2 R k : S32768x1024.Idx) := by
  refine funext fun a => Fin.ext ?_
  refine ((cfg0.win 0).rect_emb_val t (ix2 r k) a).trans ?_
  refine (congrArg (fun v : Fin 2 → Nat => v a * S512x1024.size a + (ix2 r k : S512x1024.Idx) a) (index0 t)).trans ?_
  match a with
  | ⟨0, _⟩ => exact hR.symm
  | ⟨1, _⟩ => show 0 * 1024 + k.val = k.val; omega

theorem emb1 (t : Fin cfg0.N) (k : Fin 1024) (b : Fin 4) (hb : b.val = t.val / 16) :
    ((cfg0.win 1).blk t).view.emb (ix3 0 0 k) = (ix3 b 0 k : S4x1x1024.Idx) := by
  refine funext fun a => Fin.ext ?_
  refine ((cfg0.win 1).rect_emb_val t (ix3 0 0 k) a).trans ?_
  refine (congrArg (fun v : Fin 3 → Nat => v a * S1x1x1024.size a + (ix3 0 0 k : S1x1x1024.Idx) a) (index1 t)).trans ?_
  match a with
  | ⟨0, _⟩ => show t.val / 16 * 1 + 0 = b.val; omega
  | ⟨1, _⟩ => rfl
  | ⟨2, _⟩ => show 0 * 1024 + k.val = k.val; omega

theorem emb2 (t : Fin cfg0.N) (k : Fin 1024) (b : Fin 4) (hb : b.val = t.val / 16) :
    ((cfg0.win 2).blk t).view.emb (ix3 0 0 k) = (ix3 b 0 k : S4x1x1024.Idx) := by
  refine funext fun a => Fin.ext ?_
  refine ((cfg0.win 2).rect_emb_val t (ix3 0 0 k) a).trans ?_
  refine (congrArg (fun v : Fin 3 → Nat => v a * S1x1x1024.size a + (ix3 0 0 k : S1x1x1024.Idx) a) (index2 t)).trans ?_
  match a with
  | ⟨0, _⟩ => show t.val / 16 * 1 + 0 = b.val; omega
  | ⟨1, _⟩ => rfl
  | ⟨2, _⟩ => show 0 * 1024 + k.val = k.val; omega

theorem emb3 (t : Fin cfg0.N) (k : Fin 1024) (n : Fin 3456) :
    ((cfg0.win 3).blk t).view.emb (ix2 k n) = (ix2 k n : S1024x3456.Idx) := by
  refine funext fun a => Fin.ext ?_
  refine ((cfg0.win 3).rect_emb_val t (ix2 k n) a).trans ?_
  refine (congrArg (fun v : Fin 2 → Nat => v a * S1024x3456.size a + (ix2 k n : S1024x3456.Idx) a) (index3 t)).trans ?_
  match a with
  | ⟨0, _⟩ => show 0 * 1024 + k.val = k.val; omega
  | ⟨1, _⟩ => show 0 * 3456 + n.val = n.val; omega

theorem emb12 (t : Fin cfg0.N) (r : Fin 512) (j : Fin 2048) (R : Fin 32768) (hR : R.val = t.val * 512 + r.val) :
    ((cfg0.win 12).blk t).view.emb (ix2 r j) = (ix2 R j : S32768x2048.Idx) := by
  refine funext fun a => Fin.ext ?_
  refine ((cfg0.win 12).rect_emb_val t (ix2 r j) a).trans ?_
  refine (congrArg (fun v : Fin 2 → Nat => v a * S512x2048.size a + (ix2 r j : S512x2048.Idx) a) (index12 t)).trans ?_
  match a with
  | ⟨0, _⟩ => exact hR.symm
  | ⟨1, _⟩ => show 0 * 2048 + j.val = j.val; omega

/-- The sequence as rows. -/
theorem input_apply (x : FVec Ideal S4x8192x1024 .f32) (R : Fin 32768) (k : Fin 1024) :
    shapeCast S32768x1024 x shapeCasts_S4x8192x1024_S32768x1024 (ix2 R k) = x (ix3 ⟨R.val / 8192, by omega⟩ ⟨R.val % 8192, by omega⟩ k) := by
  pointwise

theorem iblk0_apply (c : Dev nD) (t : Fin cfg0.N) (r : Fin 512) (k : Fin 1024) (R : Fin 32768) (hR : R.val = t.val * 512 + r.val) :
    iblk m c 0 t (ix2 r k) = m ((c : Thread nD τ).loc main_arg0) (ix3 ⟨R.val / 8192, by omega⟩ ⟨R.val % 8192, by omega⟩ k) := by
  refine (congrFun (V_v12 m c : V m c (Pipeline.arrRef spec0 0) = _) _).trans ?_
  refine (congrArg _ (emb0 t r k R hR)).trans ?_
  exact input_apply _ R k

theorem iblk1_apply (c : Dev nD) (t : Fin cfg0.N) (k : Fin 1024) (b : Fin 4) (hb : b.val = t.val / 16) :
    iblk m c 1 t (ix3 0 0 k) = m ((c : Thread nD τ).loc main_arg1) (ix2 b ⟨1024 + k.val, by omega⟩) := by
  refine (congrFun (V_v7 m c : V m c (Pipeline.arrRef spec0 1) = _) _).trans ?_
  refine (congrArg _ (emb1 t k b hb)).trans ?_
  pointwise

theorem iblk2_apply (c : Dev nD) (t : Fin cfg0.N) (k : Fin 1024) (b : Fin 4) (hb : b.val = t.val / 16) :
    iblk m c 2 t (ix3 0 0 k) = m ((c : Thread nD τ).loc main_arg1) (ix2 b ⟨k.val, by omega⟩) := by
  refine (congrFun (V_v6 m c : V m c (Pipeline.arrRef spec0 2) = _) _).trans ?_
  refine (congrArg _ (emb2 t k b hb)).trans ?_
  pointwise

theorem iblk3_apply (c : Dev nD) (t : Fin cfg0.N) (k : Fin 1024) (s : Fin 3456) (n : Fin 3864) (h0 : lit0 s = BitVec.ofNat 32 n.val) (h1 : lit1 s = 0#1) :
    iblk m c 3 t (ix2 k s) = m ((c : Thread nD τ).loc main_arg2) (ix2 k n) := by
  refine (congrFun (V_v20 m c : V m c (Pipeline.arrRef spec0 3) = _) _).trans ?_
  refine (congrArg _ (emb3 t k s)).trans ?_
  exact taken_apply _ k s n h0 h1

end Cert.Kernel4Ideal.Gates

end
-- ==== Proof.Gates.Reference.lean ====
/- What the reference of the input projection computes, element by element. -/
module

public import proofs.«01_k».proof.Proof.Gen.Reference4Ideal.Run
public import Idealize.ShloMosaic.Lib.Pointwise
public import Idealize.ShloMosaic.Lib.Tactic

@[expose] public section

set_option maxRecDepth 16384

noncomputable section

namespace Cert.Gates

open Idealize.ShloMosaic

/-- One projected value: a row of the sequence, scaled and shifted, times a column of the weights. -/
def value (x sc sh w : Fin 1024 → EReal) : EReal := ∑ k, (x k * (1 + sc k) + sh k) * w k

end Cert.Gates

namespace Cert.Reference4Ideal.Gates

open Cert.Reference4Ideal Cert.Reference4Ideal.Gen Idealize.ShloMosaic Idealize.ShloMosaic.TcCoe

section

variable {F : FTy → Type} [FloatOps F]

/-- The modulated rows through the input weights, all 3864 columns. -/
def projected (x : FVec F S4x8192x1024 .f32) (ada : FVec F S4x6144 .f32) (w : FVec F S1024x3864 .f32) : FVec F S4x8192x3864 .f32 :=
  Host.dotGeneral dot_S4x8192x1024_S1024x3864_S4x8192x3864_2_0_01_1_n_n none
    (addf (mulf x (broadcastInDim S4x8192x1024 ![0, 1, 2] bcast_S4x1x1024_S4x8192x1024_0_1_2
        (addf (broadcastInDim S4x1x1024 ![] bcast_S_S4x1x1024 (constant S_ .f32 0x3F800000#32))
          (extractStridedSlice S4x1x1024 ![0, 0, 1024] (broadcastInDim S4x1x6144 ![0, 2] bcast_S4x6144_S4x1x6144_0_2 ada) slices_S4x1x6144_S4x1x1024_0_0_1024))))
      (broadcastInDim S4x8192x1024 ![0, 1, 2] bcast_S4x1x1024_S4x8192x1024_0_1_2
        (extractStridedSlice S4x1x1024 ![0, 0, 0] (broadcastInDim S4x1x6144 ![0, 2] bcast_S4x6144_S4x1x6144_0_2 ada) slices_S4x1x6144_S4x1x1024_0_0_0))) w

/-- 128 columns from column `n`, as two heads of 64. -/
def heads (n : Nat) (hn : S4x8192x3864.Slices ![0, 0, n] S4x8192x128) (d : FVec F S4x8192x3864 .f32) : FVec F S4x2x8192x64 .f32 :=
  transpose S4x2x8192x64 [0, 2, 1, 3] (shapeCast S4x8192x2x64 (extractStridedSlice S4x8192x128 ![0, 0, n] d hn) shapeCasts_S4x8192x128_S4x8192x2x64)
    transposes_S4x8192x2x64_S4x2x8192x64_0_2_1_3

/-- The queries, scaled, a column per token of a block and head, and below them the constant rows. -/
def queries (d : FVec F S4x8192x3864 .f32) (qc : FVec F S2x64x512 .bf16) : FVec F S4x2x64x128x512 .bf16 :=
  concatenate S4x2x64x128x512 3
    [⟨S4x2x64x64x512, truncf .bf16 (shapeCast S4x2x64x64x512 (transpose S4x2x64x64x4x128 [0, 3, 1, 5, 4, 2]
        (shapeCast S4x64x128x2x4x64 (mulf (extractStridedSlice S4x8192x512 ![0, 0, 512] d slices_S4x8192x3864_S4x8192x512_0_0_512)
          (broadcastInDim S4x8192x512 ![] bcast_S_S4x8192x512 (constant S_ .f32 0x3E38AA3B#32))) shapeCasts_S4x8192x512_S4x64x128x2x4x64)
        transposes_S4x64x128x2x4x64_S4x2x64x64x4x128_0_3_1_5_4_2) shapeCasts_S4x2x64x64x4x128_S4x2x64x64x512) bitsLt_bf16_f32⟩,
     ⟨S4x2x64x64x512, broadcastInDim S4x2x64x64x512 ![0, 1, 2, 3, 4] bcast_S1x2x1x64x512_S4x2x64x64x512_0_1_2_3_4
        (broadcastInDim S1x2x1x64x512 ![1, 3, 4] bcast_S2x64x512_S1x2x1x64x512_1_3_4 qc)⟩]
    concatenates_S4x2x64x64x512_S4x2x64x64x512_S4x2x64x128x512_d3

/-- The branches' gates before their logistic, a row per branch and head, and four rows of zeros below. -/
def branchRows (d : FVec F S4x8192x3864 .f32) : FVec F S4x2x64x16x128 .f32 :=
  concatenate S4x2x64x16x128 3
    [⟨S4x2x64x12x128, shapeCast S4x2x64x12x128 (transpose S4x2x64x3x4x128 [0, 3, 1, 5, 4, 2]
        (shapeCast S4x64x128x2x4x3 (extractStridedSlice S4x8192x24 ![0, 0, 1792] d slices_S4x8192x3864_S4x8192x24_0_0_1792) shapeCasts_S4x8192x24_S4x64x128x2x4x3)
        transposes_S4x64x128x2x4x3_S4x2x64x3x4x128_0_3_1_5_4_2) shapeCasts_S4x2x64x3x4x128_S4x2x64x12x128⟩,
     ⟨S4x2x64x4x128, broadcastInDim S4x2x64x4x128 ![] bcast_S_S4x2x64x4x128 (constant S_ .f32 0x00000000#32)⟩]
    concatenates_S4x2x64x12x128_S4x2x64x4x128_S4x2x64x16x128_d3

/-- The branches' gates. -/
def branches (d : FVec F S4x8192x3864 .f32) : FVec F S4x2x64x16x128 .f32 :=
  Host.divf (broadcastInDim S4x2x64x16x128 ![] bcast_S_S4x2x64x16x128 (constant S_ .f32 0x3F800000#32))
    (addf (broadcastInDim S4x2x64x16x128 ![] bcast_S_S4x2x64x16x128 (constant S_ .f32 0x3F800000#32)) (Host.exp (Host.negf (branchRows d))))

/-- The keys and the values to compress. -/
def compressed (d : FVec F S4x8192x3864 .f32) : FVec F S2x4x2x8192x64 .bf16 :=
  truncf .bf16 (concatenate S2x4x2x8192x64 0
    [⟨S1x4x2x8192x64, broadcastInDim S1x4x2x8192x64 ![1, 2, 3, 4] bcast_S4x2x8192x64_S1x4x2x8192x64_1_2_3_4 (heads 1024 slices_S4x8192x3864_S4x8192x128_0_0_1024 d)⟩,
     ⟨S1x4x2x8192x64, broadcastInDim S1x4x2x8192x64 ![1, 2, 3, 4] bcast_S4x2x8192x64_S1x4x2x8192x64_1_2_3_4 (heads 1152 slices_S4x8192x3864_S4x8192x128_0_0_1152 d)⟩]
    concatenates_S1x4x2x8192x64_S1x4x2x8192x64_S2x4x2x8192x64_d0) bitsLt_bf16_f32

/-- The block of 64 that a key lies in, as a row with a one. -/
def blocks : FVec F S4x2x8192x128 .f32 :=
  broadcastInDim S4x2x8192x128 ![0, 1, 2, 3] bcast_S1x1x8192x128_S4x2x8192x128_0_1_2_3 (broadcastInDim S1x1x8192x128 ![2, 3] bcast_S8192x128_S1x1x8192x128_2_3
    (shapeCast S8192x128 (broadcastInDim S128x64x128 ![0, 1, 2] bcast_S128x1x128_S128x64x128_0_1_2 (broadcastInDim S128x1x128 ![0, 2] bcast_S128x128_S128x1x128_0_2
      (select (cmpi .eq (broadcastInDim S128x128 ![0, 1] bcast_S128x1_S128x128_0_1 (broadcastInDim S128x1 ![0] bcast_S128_S128x1_0 (iotaInDim S128 32 0)))
          (broadcastInDim S128x128 ![0, 1] bcast_S1x128_S128x128_0_1 (broadcastInDim S1x128 ![1] bcast_S128_S1x128_1 (iotaInDim S128 32 0))))
        (broadcastInDim S128x128 ![] bcast_S_S128x128 (constant S_ .f32 0x3F800000#32)) (broadcastInDim S128x128 ![] bcast_S_S128x128 (constant S_ .f32 0x00000000#32)))))
      shapeCasts_S128x64x128_S8192x128))

/-- The selected branch's keys: the block a key lies in, the key, two ones, zeros. -/
def selectedRows (d : FVec F S4x8192x3864 .f32) : FVec F S4x2x8192x256 .bf16 :=
  truncf .bf16 (concatenate S4x2x8192x256 3
    [⟨S4x2x8192x128, blocks⟩, ⟨S4x2x8192x64, heads 1280 slices_S4x8192x3864_S4x8192x128_0_0_1280 d⟩,
     ⟨S4x2x8192x2, broadcastInDim S4x2x8192x2 ![] bcast_S_S4x2x8192x2 (constant S_ .f32 0x3F800000#32)⟩,
     ⟨S4x2x8192x62, broadcastInDim S4x2x8192x62 ![] bcast_S_S4x2x8192x62 (constant S_ .f32 0x00000000#32)⟩]
    concatenates_S4x2x8192x128_S4x2x8192x64_S4x2x8192x2_S4x2x8192x62_S4x2x8192x256_d3) bitsLt_bf16_f32

/-- With rows of zeros behind. -/
def selected (d : FVec F S4x8192x3864 .f32) : FVec F S4x2x9216x256 .bf16 :=
  concatenate S4x2x9216x256 2 [⟨S4x2x8192x256, selectedRows d⟩, ⟨S4x2x1024x256, broadcastInDim S4x2x1024x256 ![] bcast_S_S4x2x1024x256 (constant S_ .bf16 0x0000#16)⟩]
    concatenates_S4x2x8192x256_S4x2x1024x256_S4x2x9216x256_d2

/-- Values by tiles of 128 tokens, a column per token, and below them a row of ones and 15 of zeros. -/
def columns (v : FVec F S4x2x8192x64 .f32) : FVec F S4x2x64x80x128 .bf16 :=
  truncf .bf16 (concatenate S4x2x64x80x128 3
    [⟨S4x2x64x64x128, transpose S4x2x64x64x128 [0, 1, 2, 4, 3] (shapeCast S4x2x64x128x64 v shapeCasts_S4x2x8192x64_S4x2x64x128x64)
        transposes_S4x2x64x128x64_S4x2x64x64x128_0_1_2_4_3⟩,
     ⟨S4x2x64x1x128, broadcastInDim S4x2x64x1x128 ![] bcast_S_S4x2x64x1x128 (constant S_ .f32 0x3F800000#32)⟩,
     ⟨S4x2x64x15x128, broadcastInDim S4x2x64x15x128 ![] bcast_S_S4x2x64x15x128 (constant S_ .f32 0x00000000#32)⟩]
    concatenates_S4x2x64x64x128_S4x2x64x1x128_S4x2x64x15x128_S4x2x64x80x128_d3) bitsLt_bf16_f32

/-- The selected branch's values, with tiles of zeros behind. -/
def selectedValues (d : FVec F S4x8192x3864 .f32) : FVec F S4x2x72x80x128 .bf16 :=
  concatenate S4x2x72x80x128 2 [⟨S4x2x64x80x128, columns (heads 1408 slices_S4x8192x3864_S4x8192x128_0_0_1408 d)⟩,
      ⟨S4x2x8x80x128, broadcastInDim S4x2x8x80x128 ![] bcast_S_S4x2x8x80x128 (constant S_ .bf16 0x0000#16)⟩]
    concatenates_S4x2x64x80x128_S4x2x8x80x128_S4x2x72x80x128_d2

/-- The window's keys, with zeros beside them. -/
def window (d : FVec F S4x8192x3864 .f32) : FVec F S4x2x8192x128 .bf16 :=
  truncf .bf16 (concatenate S4x2x8192x128 3 [⟨S4x2x8192x64, heads 1536 slices_S4x8192x3864_S4x8192x128_0_0_1536 d⟩,
      ⟨S4x2x8192x64, broadcastInDim S4x2x8192x64 ![] bcast_S_S4x2x8192x64 (constant S_ .f32 0x00000000#32)⟩]
    concatenates_S4x2x8192x64_S4x2x8192x64_S4x2x8192x128_d3) bitsLt_bf16_f32

/-- The window's values. -/
def windowValues (d : FVec F S4x8192x3864 .f32) : FVec F S4x2x64x80x128 .bf16 :=
  columns (heads 1664 slices_S4x8192x3864_S4x8192x128_0_0_1664 d)

/-- The logistic of 1024 columns. -/
def sigmoid (v : FVec F S4x8192x1024 .f32) : FVec F S4x8192x1024 .f32 :=
  Host.divf (broadcastInDim S4x8192x1024 ![] bcast_S_S4x8192x1024 (constant S_ .f32 0x3F800000#32))
    (addf (broadcastInDim S4x8192x1024 ![] bcast_S_S4x8192x1024 (constant S_ .f32 0x3F800000#32)) (Host.exp (Host.negf v)))

/-- The merge's gates: the scan's 1024, then the attention's. -/
def gates (d : FVec F S4x8192x3864 .f32) : FVec F S32768x2048 .f32 :=
  shapeCast S32768x2048 (concatenate S4x8192x2048 2
    [⟨S4x8192x1024, sigmoid (extractStridedSlice S4x8192x1024 ![0, 0, 1816] d slices_S4x8192x3864_S4x8192x1024_0_0_1816)⟩,
     ⟨S4x8192x1024, sigmoid (extractStridedSlice S4x8192x1024 ![0, 0, 2840] d slices_S4x8192x3864_S4x8192x1024_0_0_2840)⟩]
    concatenates_S4x8192x1024_S4x8192x1024_S4x8192x2048_d2) shapeCasts_S4x8192x2048_S32768x2048

end

theorem projected_apply (x : FVec Ideal S4x8192x1024 .f32) (ada : FVec Ideal S4x6144 .f32) (w : FVec Ideal S1024x3864 .f32) (b : Fin 4) (s : Fin 8192) (n : Fin 3864) :
    projected x ada w (ix3 b s n) = Cert.Gates.value (fun k => x (ix3 b s k)) (fun k => ada (ix2 b ⟨1024 + k.val, by omega⟩)) (fun k => ada (ix2 b ⟨k.val, by omega⟩))
      (fun k => w (ix2 k n)) := by
  unfold Cert.Gates.value
  pointwise [projected]

theorem sigmoid_apply (v : FVec Ideal S4x8192x1024 .f32) (b : Fin 4) (s : Fin 8192) (j : Fin 1024) :
    sigmoid v (ix3 b s j) = Ideal.logistic (v (ix3 b s j)) := by
  pointwise [sigmoid]
  rfl

/-- The gates lie side by side in the projection, from column 1816. -/
theorem gates_apply (d : FVec Ideal S4x8192x3864 .f32) (R : Fin 32768) (j : Fin 2048) :
    gates d (ix2 R j) = Ideal.logistic (d (ix3 ⟨R.val / 8192, by omega⟩ ⟨R.val % 8192, by omega⟩ ⟨1816 + j.val, by omega⟩)) := by
  pointwise [gates]
  by_cases h : j.val < 1024
  · rw [dif_pos h]
    refine (sigmoid_apply _ _ _ _).trans ?_
    pointwise
  · rw [dif_neg h]
    refine (sigmoid_apply _ _ _ _).trans ?_
    pointwise
    exact congrArg (fun n => Ideal.logistic (d (ix3 _ _ n))) (Fin.ext (by show 2840 + (j.val - 1024) = 1816 + j.val; omega))

theorem heads_apply (n : Nat) (hn : S4x8192x3864.Slices ![0, 0, n] S4x8192x128) (h : n + 128 ≤ 3864) (d : FVec Ideal S4x8192x3864 .f32)
    (b : Fin 4) (g : Fin 2) (s : Fin 8192) (e : Fin 64) : heads n hn d (ix4 b g s e) = d (ix3 b s ⟨n + (g.val * 64 + e.val), by omega⟩) := by
  pointwise [heads]

theorem queries_apply (d : FVec Ideal S4x8192x3864 .f32) (qc : FVec Ideal S2x64x512 .bf16) (b : Fin 4) (g : Fin 2) (i : Fin 64) (e : Fin 128) (f : Fin 512) :
    queries d qc (ix5 b g i e f) = if h : e.val < 64
      then d (ix3 b ⟨i.val * 128 + f.val % 128, by omega⟩ ⟨512 + (g.val * 256 + f.val / 128 * 64 + e.val), by omega⟩) * Ideal.ofBits .f32 0x3E38AA3B#32
      else qc (ix3 g ⟨e.val - 64, by omega⟩ f) := by
  pointwise [queries]

theorem branchRows_apply (d : FVec Ideal S4x8192x3864 .f32) (b : Fin 4) (g : Fin 2) (i : Fin 64) (e : Fin 16) (f : Fin 128) :
    branchRows d (ix5 b g i e f) = if h : e.val < 12
      then d (ix3 b ⟨i.val * 128 + f.val, by omega⟩ ⟨1792 + ((g.val * 4 + e.val % 4) * 3 + e.val / 4), by omega⟩) else 0 := by
  pointwise [branchRows]
  by_cases h : e.val < 12
  · rw [dif_pos h, dif_pos h]
    exact congrArg (fun n => d (ix3 b ⟨i.val * 128 + f.val, by omega⟩ n)) (Fin.ext (by show 1792 + (g.val * 12 + e.val % 4 * 3 + e.val / 4) = 1792 + ((g.val * 4 + e.val % 4) * 3 + e.val / 4); omega))
  · rw [dif_neg h, dif_neg h]

theorem branches_apply (d : FVec Ideal S4x8192x3864 .f32) (b : Fin 4) (g : Fin 2) (i : Fin 64) (e : Fin 16) (f : Fin 128) :
    branches d (ix5 b g i e f) = Ideal.logistic (branchRows d (ix5 b g i e f)) := by
  pointwise [branches]
  rfl

theorem compressed_apply (d : FVec Ideal S4x8192x3864 .f32) (p : Fin 2) (b : Fin 4) (g : Fin 2) (s : Fin 8192) (e : Fin 64) :
    compressed d (ix5 p b g s e) = d (ix3 b s ⟨1024 + (p.val * 128 + g.val * 64 + e.val), by omega⟩) := by
  pointwise [compressed]
  by_cases h : p.val < 1
  · rw [dif_pos h, heads_apply _ _ (by decide)]
    exact congrArg (fun n => d (ix3 b s n)) (Fin.ext (by show 1024 + (g.val * 64 + e.val) = 1024 + (p.val * 128 + g.val * 64 + e.val); omega))
  · rw [dif_neg h, heads_apply _ _ (by decide)]
    exact congrArg (fun n => d (ix3 b s n)) (Fin.ext (by show 1152 + (g.val * 64 + e.val) = 1024 + (p.val * 128 + g.val * 64 + e.val); omega))

theorem blocks_apply (b : Fin 4) (g : Fin 2) (s : Fin 8192) (e : Fin 128) :
    (blocks : FVec Ideal S4x2x8192x128 .f32) (ix4 b g s e) = if s.val / 64 = e.val then 1 else 0 := by
  pointwise [blocks]
  by_cases h : s.val / 64 = e.val
  · rw [if_pos h, h]
    simp [Scalar.select, IntOp.cmpi]
  · have h' : BitVec.ofNat 32 (s.val / 64) ≠ BitVec.ofNat 32 e.val := fun hh => h (by
      have := congrArg BitVec.toNat hh
      simp only [BitVec.toNat_ofNat] at this
      omega)
    rw [if_neg h]
    simp only [Scalar.select, IntOp.cmpi, beq_eq_false_iff_ne.mpr h']
    rfl

theorem selectedRows_apply (d : FVec Ideal S4x8192x3864 .f32) (b : Fin 4) (g : Fin 2) (s : Fin 8192) (e : Fin 256) :
    selectedRows d (ix4 b g s e) = if h : e.val < 128 then (if s.val / 64 = e.val then 1 else 0)
      else if h : e.val < 192 then d (ix3 b s ⟨1280 + (g.val * 64 + (e.val - 128)), by omega⟩) else if e.val < 194 then 1 else 0 := by
  pointwise [selectedRows]
  by_cases h : e.val < 128
  · rw [dif_pos h, dif_pos h, blocks_apply]
  · rw [dif_neg h, dif_neg h]
    by_cases h2 : e.val < 192
    · rw [dif_pos (show e.val - 128 < 64 by omega), dif_pos h2, heads_apply _ _ (by decide)]
    · rw [dif_neg (show ¬ e.val - 128 < 64 by omega), dif_neg h2]
      by_cases h3 : e.val < 194
      · rw [dif_pos (show e.val - 128 - 64 < 2 by omega), if_pos h3]
      · rw [dif_neg (show ¬ e.val - 128 - 64 < 2 by omega), if_neg h3]

theorem selected_apply (d : FVec Ideal S4x8192x3864 .f32) (b : Fin 4) (g : Fin 2) (s : Fin 9216) (e : Fin 256) :
    selected d (ix4 b g s e) = if h : s.val < 8192 then selectedRows d (ix4 b g ⟨s.val, h⟩ e) else 0 := by
  pointwise [selected]

theorem columns_apply (v : FVec Ideal S4x2x8192x64 .f32) (b : Fin 4) (g : Fin 2) (i : Fin 64) (e : Fin 80) (f : Fin 128) :
    columns v (ix5 b g i e f) = if h : e.val < 64 then v (ix4 b g ⟨i.val * 128 + f.val, by omega⟩ ⟨e.val, h⟩) else if e.val < 65 then 1 else 0 := by
  pointwise [columns]
  by_cases h : e.val < 64
  · rw [dif_pos h, dif_pos h]
  · rw [dif_neg h, dif_neg h]
    by_cases h3 : e.val < 65
    · rw [dif_pos (show e.val - 64 < 1 by omega), if_pos h3]
    · rw [dif_neg (show ¬ e.val - 64 < 1 by omega), if_neg h3]

theorem selectedValues_apply (d : FVec Ideal S4x8192x3864 .f32) (b : Fin 4) (g : Fin 2) (i : Fin 72) (e : Fin 80) (f : Fin 128) :
    selectedValues d (ix5 b g i e f) = if h : i.val < 64 then columns (heads 1408 slices_S4x8192x3864_S4x8192x128_0_0_1408 d) (ix5 b g ⟨i.val, h⟩ e f) else 0 := by
  pointwise [selectedValues]

theorem window_apply (d : FVec Ideal S4x8192x3864 .f32) (b : Fin 4) (g : Fin 2) (s : Fin 8192) (e : Fin 128) :
    window d (ix4 b g s e) = if h : e.val < 64 then d (ix3 b s ⟨1536 + (g.val * 64 + e.val), by omega⟩) else 0 := by
  pointwise [window]
  by_cases h : e.val < 64
  · rw [dif_pos h, dif_pos h, heads_apply _ _ (by decide)]
  · rw [dif_neg h, dif_neg h]

end Cert.Reference4Ideal.Gates

end
-- ==== Proof.Gates.Value.lean ====
/- The merge's gates: what the input projection leaves in that result array, and that the reference computes the same. -/
module

public import proofs.«01_k».proof.Proof.Gates.Blocks
public import proofs.«01_k».proof.Proof.Gates.Reference
public import Idealize.ShloMosaic.Lib.Pipeline.ReadBack
public import Idealize.ShloMosaic.Lib.Pipeline.Covers

@[expose] public section

set_option maxRecDepth 16384

noncomputable section

namespace Cert.Kernel4Ideal.Gates

open Cert.Kernel4Ideal Cert.Kernel4Ideal.Gen
open Idealize.ShloMosaic Idealize.ShloMosaic.TcCoe Idealize.ShloMosaic.Tactic Idealize.SL.Sem

theorem pay1_apply (x : Vec Ideal S512x1024 .f32) (sc sh : Vec Ideal S1x1x1024 .f32) (r : Fin 512) (k : Fin 1024) :
    k0_pay1 (F := Ideal) x sc sh (ix2 r k) = x (ix2 r k) * (1 + sc (ix3 0 0 k)) + sh (ix3 0 0 k) := by
  pointwise [k0_pay1]

theorem pay113_apply (h : FVec Ideal S512x1024 .bf16) (w : Vec Ideal S1024x1024 .bf16) (r : Fin 512) (j : Fin 1024) :
    k0_pay113 (F := Ideal) h w (ix2 r j) = Ideal.logistic (∑ k, h (ix2 r k) * w (ix2 k j)) := by
  pointwise [k0_pay113]

theorem pay114_apply (h : FVec Ideal S512x1024 .bf16) (w : Vec Ideal S1024x1024 .bf16) (r : Fin 512) (j : Fin 1024) :
    k0_pay114 (F := Ideal) h w (ix2 r j) = Ideal.logistic (∑ k, h (ix2 r k) * w (ix2 k j)) := by
  pointwise [k0_pay114]

/-- A load of a whole buffer holding `X` through a rectangle reads `X` there. -/
theorem readAt_unread {κ : Kind} {sp : Space} {s : Shape} {e : EltTy} {v : Memref sig κ sp s e} (h : v.IsWhole) (X : s.Idx → Elt Ideal e) (q : Rect s) :
    View.readAt (Elt Ideal) v.view q.toLoadRect (h.unread X) = View.ld X q :=
  congrArg (fun Y => View.ld Y q) (h.read_unread X)

variable (m : (ℓ : Loc nD τ sig) → Buf (Elt Ideal) ℓ)

/-- What the reference projects of this kernel's arguments. -/
abbrev projectedOf (c : Dev nD) : FVec Ideal Cert.Reference4Ideal.S4x8192x3864 .f32 :=
  Cert.Reference4Ideal.Gates.projected (F := Ideal) (m ((c : Thread nD τ).loc main_arg0)) (m ((c : Thread nD τ).loc main_arg1)) (m ((c : Thread nD τ).loc main_arg2))

/-- And the merge's gates it makes of that. -/
abbrev resultOf (c : Dev nD) : FVec Ideal S32768x2048 .f32 := Cert.Reference4Ideal.Gates.gates (projectedOf m c)

/-- A row of the block times a column of the weights is the reference's projected value. -/
theorem projected (c : Dev nD) (t : Fin cfg0.N) (r : Fin 512) (s : Fin 3456) (n : Fin 3864) (h0 : lit0 s = BitVec.ofNat 32 n.val) (h1 : lit1 s = 0#1)
    (R : Fin 32768) (hR : R.val = t.val * 512 + r.val) :
    ∑ k, k0_pay1 (F := Ideal) (iblk m c 0 t) (iblk m c 1 t) (iblk m c 2 t) (ix2 r k) * iblk m c 3 t (ix2 k s)
      = projectedOf m c (ix3 ⟨R.val / 8192, by omega⟩ ⟨R.val % 8192, by omega⟩ n) := by
  have hb : R.val / 8192 = t.val / 16 := by have := lt t; omega
  refine Eq.trans ?_ (Cert.Reference4Ideal.Gates.projected_apply _ _ _ _ _ _).symm
  unfold Cert.Gates.value
  refine Finset.sum_congr rfl fun k _ => ?_
  rw [pay1_apply, iblk0_apply m c t r k R hR, iblk1_apply m c t k ⟨R.val / 8192, by omega⟩ hb, iblk2_apply m c t k ⟨R.val / 8192, by omega⟩ hb,
    iblk3_apply m c t k s n h0 h1]

/-- What grid point `t` stores is its block of the reference's result. -/
theorem stored (c : Dev nD) (t : Fin cfg0.N) (r : Fin 512) (j : Fin 2048) (R : Fin 32768) (hR : R.val = t.val * 512 + r.val) :
    (outsAt0 m c t).2.2.2.2.2.2.2 (ix2 r j) = resultOf m c (ix2 R j) := by
  have hz3 : (![0, 0, 0] : Fin 3 → Nat) = fun _ => 0 := funext fun a => by fin_cases a <;> rfl
  have hz2 : (![0, 0] : Fin 2 → Nat) = fun _ => 0 := funext fun a => by fin_cases a <;> rfl
  refine Eq.trans ?_ (Cert.Reference4Ideal.Gates.gates_apply _ R j).symm
  refine Eq.trans ?_ (congrArg Ideal.logistic (projected m c t r ⟨1408 + j.val, by omega⟩ ⟨1816 + j.val, by omega⟩ (table_gates j).1 (table_gates j).2 R hR))
  dsimp only [outsAt0]
  unfold out0_A_12
  rw [View.read_writes_eq_canon _ _ _ (fun y => cover0_A_12 (y := y) ..)]
  refine View.canon_apply_of_pieces (Val := Elt Ideal) (S := S512x2048) (fun y => Ideal.logistic (∑ k, k0_pay1 (F := Ideal) (iblk m c 0 t) (iblk m c 1 t) (iblk m c 2 t) (ix2 (y 0) k)
    * (iblk m c 3 t : S1024x3456.Idx → EReal) (ix2 k ⟨1408 + (y 1).val, by have : (y 1).val < 2048 := (y 1).isLt; omega⟩))) _ ?_ (ix2 r j) (cover0_A_12 ..)
  unfold kernelRun0_A
  dsimp only
  sl_unfold_words
  simp only [readAt_unread]
  rw [View.ld_unit_zero hz2, View.ld_unit_zero hz3, View.ld_unit_zero hz3]
  generalize k0_pay1 (F := Ideal) (iblk m c 0 t) (iblk m c 1 t) (iblk m c 2 t) = h
  generalize iblk m c 3 t = w
  simp only [List.forall_mem_cons]
  refine ⟨?_, ?_, fun _ h => absurd h List.not_mem_nil⟩
  · intro (x : S512x1024.Idx)
    obtain ⟨r, j, rfl⟩ : ∃ (r : Fin 512) (j : Fin 1024), x = ix2 r j := ⟨x 0, x 1, eq_ix2 x⟩
    refine (pay114_apply h _ r j).trans (congrArg Ideal.logistic (Finset.sum_congr rfl fun k _ => congrArg₂ (· * ·) (congrArg h ?_) ?_))
    · exact funext fun a => Fin.ext (by match a with
        | ⟨0, _⟩ => show r.val = 0 + 1 * r.val; omega
        | ⟨1, _⟩ => rfl)
    · exact View.ld_unit_apply_of w _ _ _ _ _ fun a => by match a with
        | ⟨0, _⟩ => show k.val = 0 + k.val; omega
        | ⟨1, _⟩ => show 1408 + (1024 + 1 * j.val) = 2432 + j.val; omega
  · intro (x : S512x1024.Idx)
    obtain ⟨r, j, rfl⟩ : ∃ (r : Fin 512) (j : Fin 1024), x = ix2 r j := ⟨x 0, x 1, eq_ix2 x⟩
    refine (pay113_apply h _ r j).trans (congrArg Ideal.logistic (Finset.sum_congr rfl fun k _ => congrArg₂ (· * ·) (congrArg h ?_) ?_))
    · exact funext fun a => Fin.ext (by match a with
        | ⟨0, _⟩ => show r.val = 0 + 1 * r.val; omega
        | ⟨1, _⟩ => rfl)
    · exact View.ld_unit_apply_of w _ _ _ _ _ fun a => by match a with
        | ⟨0, _⟩ => show k.val = 0 + k.val; omega
        | ⟨1, _⟩ => show 1408 + (0 + 1 * j.val) = 1408 + j.val; omega

/-- The result array after the last grid point is the reference's result. -/
theorem final (c : Dev nD) : (dats m 0 c).arrAt 12 cfg0.N = resultOf m c := by
  refine (dats m 0 c).arrAt_eq_of_covers 12 _ (by decide +kernel) fun t _ y => ?_
  rw [after0_12]
  revert y
  intro (y : S512x2048.Idx)
  obtain ⟨r, j, rfl⟩ : ∃ (r : Fin 512) (j : Fin 2048), y = ix2 r j := ⟨y 0, y 1, eq_ix2 y⟩
  have hR : t.val * 512 + r.val < 32768 := by have := lt t; omega
  refine Eq.trans ?_ (congrArg (resultOf m c) (emb12 t r j ⟨t.val * 512 + r.val, hR⟩ rfl)).symm
  exact stored m c t r j ⟨t.val * 512 + r.val, hR⟩ rfl

end Cert.Kernel4Ideal.Gates

end
-- ==== Proof.Gates.Payloads.lean ====
/- What the input projection's stores hold, at an element. -/
module

public import proofs.«01_k».proof.Proof.Gates.Value

@[expose] public section

set_option maxRecDepth 16384

noncomputable section

namespace Cert.Kernel4Ideal.Gates

open Cert.Kernel4Ideal Cert.Kernel4Ideal.Gen
open Idealize.ShloMosaic Idealize.ShloMosaic.TcCoe Idealize.ShloMosaic.Tactic Idealize.SL.Sem

/-- A row of the normalised tokens times a column of the weights. -/
def prod (h : FVec Ideal S512x1024 .bf16) (w : Vec Ideal S1024x3456 .bf16) (r : Fin 512) (s : Fin 3456) : EReal :=
  ∑ k, h (ix2 r k) * w (ix2 k s)

/-- The same with a column of the part loaded from column `n`. -/
theorem prod_ld (h : FVec Ideal S512x1024 .bf16) (w : Vec Ideal S1024x3456 .bf16) (n L : Nat)
    (inb : ∀ a, (![0, n] : Fin 2 → Nat) a + (![1024, L] : Fin 2 → Nat) a ≤ S1024x3456.size a) (r : Fin 512) (j : Fin L) (s : Fin 3456) (hs : s.val = n + j.val) :
    ∑ k : Fin 1024, h (ix2 r k) * (View.ld w (Rect.unit ![0, n] ![1024, L] inb) : (⟨2, ![1024, L]⟩ : Shape).Idx → EReal) (ix2 k j) = prod h w r s := by
  refine Finset.sum_congr rfl fun k _ => congrArg (h (ix2 r k) * ·) ?_
  exact View.ld_unit_apply_of w _ _ _ _ _ fun a => by match a with
    | ⟨0, _⟩ => show k.val = 0 + k.val; omega
    | ⟨1, _⟩ => exact hs

theorem select_one {α : Type} (x y : α) : Scalar.select 1#1 x y = x := if_pos rfl
theorem select_zero {α : Type} (x y : α) : Scalar.select 0#1 x y = y := if_neg (by decide)

theorem below64 : ∀ e : Fin 128, IntOp.cmpi .slt (BitVec.ofNat 32 e.val) 64#32 = if e.val < 64 then 1#1 else 0#1 := by decide +kernel
theorem ones : ∀ e : Fin 128, IntOp.ori (IntOp.cmpi .eq (BitVec.ofNat 32 e.val) 64#32) (IntOp.cmpi .eq (BitVec.ofNat 32 e.val) 65#32)
    = if e.val = 64 ∨ e.val = 65 then 1#1 else 0#1 := by decide +kernel
theorem row0 : ∀ e : Fin 16, IntOp.cmpi .eq (BitVec.ofNat 32 e.val) 0#32 = if e.val = 0 then 1#1 else 0#1 := by decide +kernel

theorem pay36_apply (h : FVec Ideal S512x1024 .bf16) (v : Vec Ideal S1024x128 .bf16) (r : Fin 512) (e : Fin 64) :
    k0_pay36 (F := Ideal) h v (ix5 0 0 0 r e) = ∑ k, h (ix2 r k) * v (ix2 k ⟨e.val, by omega⟩) := by
  pointwise [k0_pay36, k0_pay35]

theorem pay37_apply (h : FVec Ideal S512x1024 .bf16) (v : Vec Ideal S1024x128 .bf16) (r : Fin 512) (e : Fin 64) :
    k0_pay37 (F := Ideal) h v (ix5 0 0 0 r e) = ∑ k, h (ix2 r k) * v (ix2 k ⟨64 + e.val, by omega⟩) := by
  pointwise [k0_pay37, k0_pay35]
  exact Finset.sum_congr rfl fun k _ => congrArg (fun n => h (ix2 r k) * v (ix2 k n)) (Fin.ext (by show (e.val + 128 - 64) % 128 = 64 + e.val; omega))

theorem pay41_apply (h : FVec Ideal S512x1024 .bf16) (v : Vec Ideal S1024x128 .bf16) (r : Fin 512) (e : Fin 128) :
    k0_pay41 (F := Ideal) (iota .tc S512x128 32 [1] iota_S512x128_d1_w32) (k0_pay38 h v) (ix4 0 0 r e)
      = if he : e.val < 64 then ∑ k, h (ix2 r k) * v (ix2 k ⟨64 + e.val, by omega⟩) else 0 := by
  pointwise [k0_pay41, k0_pay38]
  rw [below64]
  by_cases he : e.val < 64
  · rw [if_pos he, dif_pos he, select_one]
    exact Finset.sum_congr rfl fun k _ => congrArg (fun n => h (ix2 r k) * v (ix2 k n)) (Fin.ext (by show (e.val + 128 - 64) % 128 = 64 + e.val; omega))
  · rw [if_neg he, dif_neg he, select_zero]

theorem pay40_apply (h : FVec Ideal S512x1024 .bf16) (v : Vec Ideal S1024x128 .bf16) (r : Fin 512) (e : Fin 128) :
    k0_pay40 (F := Ideal) (iota .tc S512x128 32 [1] iota_S512x128_d1_w32) (k0_pay5 (iota .tc S512x128 32 [1] iota_S512x128_d1_w32)) (k0_pay38 h v) (ix4 0 0 r e)
      = if e.val < 64 then ∑ k, h (ix2 r k) * v (ix2 k e) else if e.val < 66 then 1 else 0 := by
  pointwise [k0_pay40, k0_pay38, k0_pay5]
  rw [below64, ones]
  by_cases he : e.val < 64
  · rw [if_pos he, if_pos he, select_one]
  · rw [if_neg he, if_neg he, select_zero]
    by_cases h1 : e.val = 64 ∨ e.val = 65
    · rw [if_pos h1, if_pos (show e.val < 66 by omega), select_one]
    · rw [if_neg h1, if_neg (show ¬ e.val < 66 by omega), select_zero]

/-- The block's row in its sequence, from the grid point. -/
def rowBits (t : Fin 64) : BitVec 32 :=
  Scalar.select (Scalar.andi
      (Scalar.xori (Scalar.cmpi .slt (Scalar.remsi (Scalar.muli (BitVec.ofNat 32 t.val) 512#32) 8192#32) 0#32) 0#1)
      (Scalar.cmpi .ne (Scalar.remsi (Scalar.muli (BitVec.ofNat 32 t.val) 512#32) 8192#32) 0#32))
    (Scalar.addi (Scalar.remsi (Scalar.muli (BitVec.ofNat 32 t.val) 512#32) 8192#32) 8192#32)
    (Scalar.remsi (Scalar.muli (BitVec.ofNat 32 t.val) 512#32) 8192#32)

theorem rowBits_eq : ∀ t : Fin 64, rowBits t = BitVec.ofNat 32 (t.val % 16 * 512) := by decide +kernel

/-- A row's block of 64, as the kernel divides. -/
theorem blockBits : ∀ v : Fin 8192, Scalar.select
    (IntOp.andi
      (IntOp.cmpi .ne (IntOp.subi (BitVec.setWidth 32 (IntOp.cmpi .sgt (BitVec.ofNat 32 v.val) 0#32)) (BitVec.setWidth 32 (IntOp.cmpi .slt (BitVec.ofNat 32 v.val) 0#32)))
        (Scalar.subi (Scalar.extui (Scalar.cmpi .sgt 64#32 0#32)) (Scalar.extui (Scalar.cmpi .slt 64#32 0#32))))
      (IntOp.cmpi .ne (IntOp.remsi .vector (BitVec.ofNat 32 v.val) 64#32) 0#32))
    (IntOp.subi (IntOp.divsi .vector (BitVec.ofNat 32 v.val) 64#32) 1#32)
    (IntOp.divsi .vector (BitVec.ofNat 32 v.val) 64#32) = BitVec.ofNat 32 (v.val / 64) := by decide +kernel

theorem pay4_apply (t : Fin 64) (r : Fin 512) (e : Fin 128) :
    k0_pay4 (F := Ideal) (iota .tc S512x128 32 [0] iota_S512x128_d0_w32) (iota .tc S512x128 32 [1] iota_S512x128_d1_w32) 8192#32
      (Scalar.remsi (Scalar.muli (BitVec.ofNat 32 t.val) 512#32) 8192#32)
      (Scalar.andi
        (Scalar.xori (Scalar.cmpi .slt (Scalar.remsi (Scalar.muli (BitVec.ofNat 32 t.val) 512#32) 8192#32) 0#32) 0#1)
        (Scalar.cmpi .ne (Scalar.remsi (Scalar.muli (BitVec.ofNat 32 t.val) 512#32) 8192#32) 0#32)) (ix2 r e)
      = if (t.val % 16 * 512 + r.val) / 64 = e.val then 1 else 0 := by
  unfold k0_pay4
  dsimp only
  have hb := rowBits_eq t
  unfold rowBits at hb
  rw [hb]
  pointwise
  have hv : IntOp.addi (BitVec.ofNat 32 (t.val % 16 * 512)) (BitVec.ofNat 32 r.val) = BitVec.ofNat 32 (t.val % 16 * 512 + r.val) := (BitVec.ofNat_add ..).symm
  have hB := blockBits ⟨t.val % 16 * 512 + r.val, by omega⟩
  dsimp only at hB
  rw [hv, hB]
  by_cases h : (t.val % 16 * 512 + r.val) / 64 = e.val
  · rw [if_pos h, h]
    simp [Scalar.select, IntOp.cmpi]
  · have h' : BitVec.ofNat 32 ((t.val % 16 * 512 + r.val) / 64) ≠ BitVec.ofNat 32 e.val := fun hh => h (by
      have := congrArg BitVec.toNat hh
      simp only [BitVec.toNat_ofNat] at this
      omega)
    rw [if_neg h]
    simp only [Scalar.select, IntOp.cmpi, beq_eq_false_iff_ne.mpr h']
    rfl

theorem pay42_apply (h : FVec Ideal S512x1024 .bf16) (v : Vec Ideal S1024x128 .bf16) (e : Fin 128) (r : Fin 512) :
    k0_pay42 (F := Ideal) h v (ix2 e r) = ∑ k, h (ix2 r k) * v (ix2 k e) := by
  pointwise [k0_pay42]

theorem pay7_apply (e : Fin 16) (f : Fin 128) :
    k0_pay7 (F := Ideal) k0_pay6 (FloatOps.ofBits .f32 1065353216#32) (FloatOps.ofBits .f32 0#32) (ix2 e f) = if e.val = 0 then 1 else 0 := by
  pointwise [k0_pay7, k0_pay6]
  rw [row0]
  by_cases he : e.val = 0
  · rw [if_pos he, if_pos he, select_one]
  · rw [if_neg he, if_neg he, select_zero]

theorem pay2_apply (x : Vec Ideal S512x1024 .f32) (sc sh : Vec Ideal S1x1x1024 .f32) (v : Vec Ideal S1024x512 .bf16) (e r : Fin 512) :
    k0_pay2 (F := Ideal) x sc sh v (ix2 e r) = (∑ k, k0_pay1 (F := Ideal) x sc sh (ix2 r k) * v (ix2 k e)) * Ideal.ofBits .f32 0x3E38AA3B#32 := by
  pointwise [k0_pay2]

theorem pay3_apply (x : Vec Ideal S512x1024 .f32) (sc sh : Vec Ideal S1x1x1024 .f32) (v : Vec Ideal S1024x128 .bf16) (e : Fin 128) (r : Fin 512) :
    k0_pay3 (F := Ideal) x sc sh v (ix2 e r) = Ideal.logistic (∑ k, k0_pay1 (F := Ideal) x sc sh (ix2 r k) * v (ix2 k e)) := by
  pointwise [k0_pay3]

/-- A tile of 64 rows and 128 columns. -/
theorem tile_apply (v : FVec Ideal S128x512 .bf16) (a b : Nat) (hs : S128x512.Slices ![a, b] S64x128)
    (ha : a + 64 ≤ 128) (hb : b + 128 ≤ 512) (e : Fin 64) (f : Fin 128) :
    shapeCast S1x1x1x64x128 (extractStridedSlice S64x128 ![a, b] v hs) shapeCasts_S64x128_S1x1x1x64x128 (ix5 0 0 0 e f) = v (ix2 ⟨a + e.val, by omega⟩ ⟨b + f.val, by omega⟩) := by
  pointwise

theorem tileQ_apply (v : FVec Ideal S512x512 .bf16) (a b : Nat) (hs : S512x512.Slices ![a, b] S64x128)
    (ha : a + 64 ≤ 512) (hb : b + 128 ≤ 512) (e : Fin 64) (f : Fin 128) :
    shapeCast S1x1x1x64x128 (extractStridedSlice S64x128 ![a, b] v hs) shapeCasts_S64x128_S1x1x1x64x128 (ix5 0 0 0 e f) = v (ix2 ⟨a + e.val, by omega⟩ ⟨b + f.val, by omega⟩) := by
  pointwise

theorem tile16_apply (v : FVec Ideal S128x512 .f32) (a b : Nat) (hs : S128x512.Slices ![a, b] S16x128)
    (ha : a + 16 ≤ 128) (hb : b + 128 ≤ 512) (e : Fin 16) (f : Fin 128) :
    shapeCast S1x1x1x16x128 (extractStridedSlice S16x128 ![a, b] v hs) shapeCasts_S16x128_S1x1x1x16x128 (ix5 0 0 0 e f) = v (ix2 ⟨a + e.val, by omega⟩ ⟨b + f.val, by omega⟩) := by
  pointwise

end Cert.Kernel4Ideal.Gates

end
-- ==== Proof.Gates.Places.lean ====
/- Where the input projection's result windows put a grid point's blocks. -/
module

public import proofs.«01_k».proof.Proof.Gates.Blocks

@[expose] public section

set_option maxRecDepth 16384

noncomputable section

namespace Cert.Kernel4Ideal.Gates

open Cert.Kernel4Ideal Cert.Kernel4Ideal.Gen
open Idealize.ShloMosaic Idealize.ShloMosaic.TcCoe Idealize.ShloMosaic.Tactic Idealize.SL.Sem

variable (m : (ℓ : Loc nD τ sig) → Buf (Elt Ideal) ℓ)

theorem index4 : ∀ t : Fin grid0.N, cc0_transform_4 (grid0.coords t) = ![0, 0, 0] := by decide +kernel

theorem emb4 (t : Fin cfg0.N) (g : Fin 2) (e : Fin 64) (f : Fin 512) :
    ((cfg0.win 4).blk t).view.emb (ix3 g e f) = (ix3 g e f : S2x64x512.Idx) := by
  refine funext fun a => Fin.ext ?_
  refine ((cfg0.win 4).rect_emb_val t (ix3 g e f) a).trans ?_
  refine (congrArg (fun v : Fin 3 → Nat => v a * S2x64x512.size a + (ix3 g e f : S2x64x512.Idx) a) (index4 t)).trans ?_
  match a with
  | ⟨0, _⟩ => show 0 * 2 + g.val = g.val; omega
  | ⟨1, _⟩ => show 0 * 64 + e.val = e.val; omega
  | ⟨2, _⟩ => show 0 * 512 + f.val = f.val; omega

theorem iblk4_apply (c : Dev nD) (t : Fin cfg0.N) (g : Fin 2) (e : Fin 64) (f : Fin 512) :
    iblk m c 4 t (ix3 g e f) = m ((c : Thread nD τ).loc main_arg3) (ix3 g e f) := by
  refine (congrFun (?_ : V m c (Pipeline.arrRef spec0 4) = m ((c : Thread nD τ).loc main_arg3)) _).trans (congrArg _ (emb4 t g e f))
  show V m c main_arg3 = _
  unfold_abbrev_sides
  after_results

theorem index5 : ∀ t : Fin grid0.N, cc0_transform_7 (grid0.coords t) = ![t.val / 16, 0, t.val % 16, 0, 0] := by decide +kernel

theorem emb5 (t : Fin cfg0.N) (g : Fin 2) (j : Fin 4) (e : Fin 128) (f : Fin 512) (b : Fin 4) (i : Fin 64) (hb : b.val = t.val / 16) (hi : i.val = t.val % 16 * 4 + j.val) :
    ((cfg0.win 5).blk t).view.emb (ix5 0 g j e f) = (ix5 b g i e f : S4x2x64x128x512.Idx) := by
  refine funext fun a => Fin.ext ?_
  refine ((cfg0.win 5).rect_emb_val t (ix5 0 g j e f) a).trans ?_
  refine (congrArg (fun v : Fin 5 → Nat => v a * S1x2x4x128x512.size a + (ix5 0 g j e f : S1x2x4x128x512.Idx) a) (index5 t)).trans ?_
  match a with
  | ⟨0, _⟩ => show t.val / 16 * 1 + 0 = b.val; omega
  | ⟨1, _⟩ => show 0 * 2 + g.val = g.val; omega
  | ⟨2, _⟩ => exact hi.symm
  | ⟨3, _⟩ => show 0 * 128 + e.val = e.val; omega
  | ⟨4, _⟩ => show 0 * 512 + f.val = f.val; omega

theorem index6 : ∀ t : Fin grid0.N, cc0_transform_8 (grid0.coords t) = ![t.val / 16, 0, t.val % 16, 0, 0] := by decide +kernel

theorem emb6 (t : Fin cfg0.N) (g : Fin 2) (j : Fin 4) (e : Fin 16) (f : Fin 128) (b : Fin 4) (i : Fin 64) (hb : b.val = t.val / 16) (hi : i.val = t.val % 16 * 4 + j.val) :
    ((cfg0.win 6).blk t).view.emb (ix5 0 g j e f) = (ix5 b g i e f : S4x2x64x16x128.Idx) := by
  refine funext fun a => Fin.ext ?_
  refine ((cfg0.win 6).rect_emb_val t (ix5 0 g j e f) a).trans ?_
  refine (congrArg (fun v : Fin 5 → Nat => v a * S1x2x4x16x128.size a + (ix5 0 g j e f : S1x2x4x16x128.Idx) a) (index6 t)).trans ?_
  match a with
  | ⟨0, _⟩ => show t.val / 16 * 1 + 0 = b.val; omega
  | ⟨1, _⟩ => show 0 * 2 + g.val = g.val; omega
  | ⟨2, _⟩ => exact hi.symm
  | ⟨3, _⟩ => show 0 * 16 + e.val = e.val; omega
  | ⟨4, _⟩ => show 0 * 128 + f.val = f.val; omega

theorem index9 : ∀ t : Fin grid0.N, cc0_transform_11 (grid0.coords t) = ![t.val / 16, 0, t.val % 16, 0, 0] := by decide +kernel

theorem emb9 (t : Fin cfg0.N) (g : Fin 2) (j : Fin 4) (e : Fin 80) (f : Fin 128) (b : Fin 4) (i : Fin 72) (hb : b.val = t.val / 16) (hi : i.val = t.val % 16 * 4 + j.val) :
    ((cfg0.win 9).blk t).view.emb (ix5 0 g j e f) = (ix5 b g i e f : S4x2x72x80x128.Idx) := by
  refine funext fun a => Fin.ext ?_
  refine ((cfg0.win 9).rect_emb_val t (ix5 0 g j e f) a).trans ?_
  refine (congrArg (fun v : Fin 5 → Nat => v a * S1x2x4x80x128.size a + (ix5 0 g j e f : S1x2x4x80x128.Idx) a) (index9 t)).trans ?_
  match a with
  | ⟨0, _⟩ => show t.val / 16 * 1 + 0 = b.val; omega
  | ⟨1, _⟩ => show 0 * 2 + g.val = g.val; omega
  | ⟨2, _⟩ => exact hi.symm
  | ⟨3, _⟩ => show 0 * 80 + e.val = e.val; omega
  | ⟨4, _⟩ => show 0 * 128 + f.val = f.val; omega

theorem index11 : ∀ t : Fin grid0.N, cc0_transform_13 (grid0.coords t) = ![t.val / 16, 0, t.val % 16, 0, 0] := by decide +kernel

theorem emb11 (t : Fin cfg0.N) (g : Fin 2) (j : Fin 4) (e : Fin 80) (f : Fin 128) (b : Fin 4) (i : Fin 64) (hb : b.val = t.val / 16) (hi : i.val = t.val % 16 * 4 + j.val) :
    ((cfg0.win 11).blk t).view.emb (ix5 0 g j e f) = (ix5 b g i e f : S4x2x64x80x128.Idx) := by
  refine funext fun a => Fin.ext ?_
  refine ((cfg0.win 11).rect_emb_val t (ix5 0 g j e f) a).trans ?_
  refine (congrArg (fun v : Fin 5 → Nat => v a * S1x2x4x80x128.size a + (ix5 0 g j e f : S1x2x4x80x128.Idx) a) (index11 t)).trans ?_
  match a with
  | ⟨0, _⟩ => show t.val / 16 * 1 + 0 = b.val; omega
  | ⟨1, _⟩ => show 0 * 2 + g.val = g.val; omega
  | ⟨2, _⟩ => exact hi.symm
  | ⟨3, _⟩ => show 0 * 80 + e.val = e.val; omega
  | ⟨4, _⟩ => show 0 * 128 + f.val = f.val; omega

theorem index7 : ∀ t : Fin grid0.N, cc0_transform_9 (grid0.coords t) = ![0, t.val / 16, 0, t.val % 16, 0] := by decide +kernel

theorem emb7 (t : Fin cfg0.N) (p : Fin 2) (g : Fin 2) (r : Fin 512) (e : Fin 64) (b : Fin 4) (s : Fin 8192) (hb : b.val = t.val / 16) (hs : s.val = t.val % 16 * 512 + r.val) :
    ((cfg0.win 7).blk t).view.emb (ix5 p 0 g r e) = (ix5 p b g s e : S2x4x2x8192x64.Idx) := by
  refine funext fun a => Fin.ext ?_
  refine ((cfg0.win 7).rect_emb_val t (ix5 p 0 g r e) a).trans ?_
  refine (congrArg (fun v : Fin 5 → Nat => v a * S2x1x2x512x64.size a + (ix5 p 0 g r e : S2x1x2x512x64.Idx) a) (index7 t)).trans ?_
  match a with
  | ⟨0, _⟩ => show 0 * 2 + p.val = p.val; omega
  | ⟨1, _⟩ => show t.val / 16 * 1 + 0 = b.val; omega
  | ⟨2, _⟩ => show 0 * 2 + g.val = g.val; omega
  | ⟨3, _⟩ => exact hs.symm
  | ⟨4, _⟩ => show 0 * 64 + e.val = e.val; omega

theorem index8 : ∀ t : Fin grid0.N, cc0_transform_10 (grid0.coords t) = ![t.val / 16, 0, t.val % 16, 0] := by decide +kernel

theorem emb8 (t : Fin cfg0.N) (g : Fin 2) (r : Fin 512) (e : Fin 256) (b : Fin 4) (s : Fin 9216) (hb : b.val = t.val / 16) (hs : s.val = t.val % 16 * 512 + r.val) :
    ((cfg0.win 8).blk t).view.emb (ix4 0 g r e) = (ix4 b g s e : S4x2x9216x256.Idx) := by
  refine funext fun a => Fin.ext ?_
  refine ((cfg0.win 8).rect_emb_val t (ix4 0 g r e) a).trans ?_
  refine (congrArg (fun v : Fin 4 → Nat => v a * S1x2x512x256.size a + (ix4 0 g r e : S1x2x512x256.Idx) a) (index8 t)).trans ?_
  match a with
  | ⟨0, _⟩ => show t.val / 16 * 1 + 0 = b.val; omega
  | ⟨1, _⟩ => show 0 * 2 + g.val = g.val; omega
  | ⟨2, _⟩ => exact hs.symm
  | ⟨3, _⟩ => show 0 * 256 + e.val = e.val; omega

theorem index10 : ∀ t : Fin grid0.N, cc0_transform_12 (grid0.coords t) = ![t.val / 16, 0, t.val % 16, 0] := by decide +kernel

theorem emb10 (t : Fin cfg0.N) (g : Fin 2) (r : Fin 512) (e : Fin 128) (b : Fin 4) (s : Fin 8192) (hb : b.val = t.val / 16) (hs : s.val = t.val % 16 * 512 + r.val) :
    ((cfg0.win 10).blk t).view.emb (ix4 0 g r e) = (ix4 b g s e : S4x2x8192x128.Idx) := by
  refine funext fun a => Fin.ext ?_
  refine ((cfg0.win 10).rect_emb_val t (ix4 0 g r e) a).trans ?_
  refine (congrArg (fun v : Fin 4 → Nat => v a * S1x2x512x128.size a + (ix4 0 g r e : S1x2x512x128.Idx) a) (index10 t)).trans ?_
  match a with
  | ⟨0, _⟩ => show t.val / 16 * 1 + 0 = b.val; omega
  | ⟨1, _⟩ => show 0 * 2 + g.val = g.val; omega
  | ⟨2, _⟩ => exact hs.symm
  | ⟨3, _⟩ => show 0 * 128 + e.val = e.val; omega

end Cert.Kernel4Ideal.Gates

end
-- ==== Proof.Gates.Stores.lean ====
/- A row of a grid point's block times a column, as the reference's value. -/
module

public import proofs.«01_k».proof.Proof.Gates.Payloads
public import proofs.«01_k».proof.Proof.Gates.Places
public import Idealize.ShloMosaic.Lib.Pipeline.ReadBack
public import Idealize.ShloMosaic.Lib.Pipeline.Covers

@[expose] public section

set_option maxRecDepth 16384

noncomputable section

namespace Cert.Kernel4Ideal.Gates

open Cert.Kernel4Ideal Cert.Kernel4Ideal.Gen
open Idealize.ShloMosaic Idealize.ShloMosaic.TcCoe Idealize.ShloMosaic.Tactic Idealize.SL.Sem

/-- `prod` at any two numbers. -/
def prodAt (h : FVec Ideal S512x1024 .bf16) (w : Vec Ideal S1024x3456 .bf16) (r s : Nat) : EReal :=
  if hh : r < 512 ∧ s < 3456 then prod h w ⟨r, hh.1⟩ ⟨s, hh.2⟩ else 0

theorem prodAt_eq (h : FVec Ideal S512x1024 .bf16) (w : Vec Ideal S1024x3456 .bf16) (r : Fin 512) (s : Fin 3456) : prodAt h w r.val s.val = prod h w r s :=
  dif_pos ⟨r.isLt, s.isLt⟩

/-- A row times a column of the part loaded from column `n`. -/
theorem loaded (h : FVec Ideal S512x1024 .bf16) (w : Vec Ideal S1024x3456 .bf16) (n L : Nat)
    (inb : ∀ a, (![0, n] : Fin 2 → Nat) a + (![1024, L] : Fin 2 → Nat) a ≤ S1024x3456.size a) (hn : n + L ≤ 3456) (r : Fin 512) (j : Fin L) :
    ∑ k : Fin 1024, h (ix2 r k) * (View.ld w (Rect.unit ![0, n] ![1024, L] inb) : (⟨2, ![1024, L]⟩ : Shape).Idx → EReal) (ix2 k j) = prodAt h w r.val (n + j.val) :=
  (prod_ld h w n L inb r j ⟨n + j.val, by omega⟩ rfl).trans (prodAt_eq h w r ⟨n + j.val, by omega⟩).symm

variable (m : (ℓ : Loc nD τ sig) → Buf (Elt Ideal) ℓ)

/-- The normalised rows of grid point `t`. -/
abbrev rowsOf (c : Dev nD) (t : Fin cfg0.N) : FVec Ideal S512x1024 .bf16 := k0_pay1 (F := Ideal) (iblk m c 0 t) (iblk m c 1 t) (iblk m c 2 t)

theorem value_eq (c : Dev nD) (t : Fin cfg0.N) (r s : Nat) (n : Fin 3864) (hr : r < 512) (hs : s < 3456) (h : lit0 ⟨s, hs⟩ = BitVec.ofNat 32 n.val ∧ lit1 ⟨s, hs⟩ = 0#1)
    (b : Fin 4) (q : Fin 8192) (hb : b.val = t.val / 16) (hq : q.val = t.val % 16 * 512 + r) :
    prodAt (rowsOf m c t) (iblk m c 3 t) r s = projectedOf m c (ix3 b q n) := by
  refine (prodAt_eq _ _ ⟨r, hr⟩ ⟨s, hs⟩).trans ?_
  have ht := lt t
  refine (projected m c t ⟨r, hr⟩ ⟨s, hs⟩ n h.1 h.2 ⟨t.val * 512 + r, by omega⟩ rfl).trans ?_
  exact congrArg₂ (fun b q => projectedOf m c (ix3 b q n)) (Fin.ext (by show (t.val * 512 + r) / 8192 = b.val; omega)) (Fin.ext (by show (t.val * 512 + r) % 8192 = q.val; omega))

theorem value_zero (c : Dev nD) (t : Fin cfg0.N) (r s : Nat) (hr : r < 512) (hs : s < 3456) (h : lit0 ⟨s, hs⟩ = 0xFFFFFFFF#32 ∧ lit1 ⟨s, hs⟩ = 1#1) :
    prodAt (rowsOf m c t) (iblk m c 3 t) r s = 0 := by
  refine (prodAt_eq _ _ ⟨r, hr⟩ ⟨s, hs⟩).trans (Finset.sum_eq_zero fun k _ => ?_)
  have hz : @Eq EReal ((iblk m c 3 t : S1024x3456.Idx → EReal) (ix2 k ⟨s, hs⟩)) 0 := by
    refine (congrFun (V_v20 m c : V m c (Pipeline.arrRef spec0 3) = _) _).trans ?_
    refine (congrArg _ (emb3 t k ⟨s, hs⟩)).trans ?_
    exact taken_zero _ k ⟨s, hs⟩ h.1 h.2
  exact (congrArg (_ * ·) hz).trans (mul_zero _)

end Cert.Kernel4Ideal.Gates

end
-- ==== Proof.Gates.Heads.lean ====
/- The keys, and the keys and values to compress, by rows. -/
module

public import proofs.«01_k».proof.Proof.Gates.Stores
public import Idealize.ShloMosaic.Lib.Pipeline.ValueKit.Partial
public import Idealize.ShloMosaic.Lib.Pipeline.ReadBack
public import Idealize.ShloMosaic.Lib.Pipeline.Covers

@[expose] public section

set_option maxRecDepth 16384

noncomputable section

namespace Cert.Kernel4Ideal.Gates

open Cert.Kernel4Ideal Cert.Kernel4Ideal.Gen
open Idealize.ShloMosaic Idealize.ShloMosaic.TcCoe Idealize.ShloMosaic.Tactic Idealize.SL.Sem

variable (m : (ℓ : Loc nD τ sig) → Buf (Elt Ideal) ℓ)

/-- The part of the weights loaded from column `n`. -/
abbrev part (w : Vec Ideal S1024x3456 .bf16) (n : Nat) (inb : ∀ k, (![0, n] : Fin 2 → Nat) k + (![1024, 128] : Fin 2 → Nat) k ≤ S1024x3456.size k) : Vec Ideal S1024x128 .bf16 :=
  View.ld w (Rect.unit ![0, n] ![1024, 128] inb)

/-! What is to be compressed. -/

theorem piece36 (h : FVec Ideal S512x1024 .bf16) (w : Vec Ideal S1024x3456 .bf16) (n g : Nat)
    (inb : ∀ k, (![0, n] : Fin 2 → Nat) k + (![1024, 128] : Fin 2 → Nat) k ≤ S1024x3456.size k)
    (hr : ∀ k, (![0, 0, g, 0, 0] : Fin 5 → Nat) k + (![1, 1, 1, 512, 64] : Fin 5 → Nat) k ≤ S2x1x2x512x64.size k) (hn : n + 128 ≤ 3456) (hg : n = 512 + g * 128) :
    ∀ x : (Rect.unit (s := S2x1x2x512x64) ![0, 0, g, 0, 0] ![1, 1, 1, 512, 64] hr).shape.Idx,
      k0_pay36 (F := Ideal) h (part w n inb) x
        = (fun y : S2x1x2x512x64.Idx => prodAt h w (y 3).val (512 + (y 0).val * 64 + (y 2).val * 128 + (y 4).val)) ((Rect.unit (s := S2x1x2x512x64) ![0, 0, g, 0, 0] ![1, 1, 1, 512, 64] hr).emb x) := by
  intro (x : S1x1x1x512x64.Idx)
  obtain ⟨x0, x1, x2, r, e, rfl⟩ : ∃ (x0 x1 x2 : Fin 1) (r : Fin 512) (e : Fin 64), x = ix5 x0 x1 x2 r e := ⟨x 0, x 1, x 2, x 3, x 4, eq_ix5 x⟩
  obtain rfl : x0 = 0 := Subsingleton.elim _ _
  obtain rfl : x1 = 0 := Subsingleton.elim _ _
  obtain rfl : x2 = 0 := Subsingleton.elim _ _
  refine (pay36_apply h _ r e).trans ((loaded h w n 128 inb hn r ⟨e.val, by omega⟩).trans ?_)
  show prodAt h w r.val (n + e.val) = prodAt h w (0 + 1 * r.val) (512 + (0 + 1 * 0) * 64 + (g + 1 * 0) * 128 + (0 + 1 * e.val))
  exact congrArg₂ (prodAt h w) (by omega) (by omega)

theorem piece37 (h : FVec Ideal S512x1024 .bf16) (w : Vec Ideal S1024x3456 .bf16) (n g : Nat)
    (inb : ∀ k, (![0, n] : Fin 2 → Nat) k + (![1024, 128] : Fin 2 → Nat) k ≤ S1024x3456.size k)
    (hr : ∀ k, (![1, 0, g, 0, 0] : Fin 5 → Nat) k + (![1, 1, 1, 512, 64] : Fin 5 → Nat) k ≤ S2x1x2x512x64.size k) (hn : n + 128 ≤ 3456) (hg : n = 512 + g * 128) :
    ∀ x : (Rect.unit (s := S2x1x2x512x64) ![1, 0, g, 0, 0] ![1, 1, 1, 512, 64] hr).shape.Idx,
      k0_pay37 (F := Ideal) h (part w n inb) x
        = (fun y : S2x1x2x512x64.Idx => prodAt h w (y 3).val (512 + (y 0).val * 64 + (y 2).val * 128 + (y 4).val)) ((Rect.unit (s := S2x1x2x512x64) ![1, 0, g, 0, 0] ![1, 1, 1, 512, 64] hr).emb x) := by
  intro (x : S1x1x1x512x64.Idx)
  obtain ⟨x0, x1, x2, r, e, rfl⟩ : ∃ (x0 x1 x2 : Fin 1) (r : Fin 512) (e : Fin 64), x = ix5 x0 x1 x2 r e := ⟨x 0, x 1, x 2, x 3, x 4, eq_ix5 x⟩
  obtain rfl : x0 = 0 := Subsingleton.elim _ _
  obtain rfl : x1 = 0 := Subsingleton.elim _ _
  obtain rfl : x2 = 0 := Subsingleton.elim _ _
  refine (pay37_apply h _ r e).trans ((loaded h w n 128 inb hn r ⟨64 + e.val, by omega⟩).trans ?_)
  show prodAt h w r.val (n + (64 + e.val)) = prodAt h w (0 + 1 * r.val) (512 + (1 + 1 * 0) * 64 + (g + 1 * 0) * 128 + (0 + 1 * e.val))
  exact congrArg₂ (prodAt h w) (by omega) (by omega)

theorem out7_eq (c : Dev nD) (t : Fin cfg0.N) (y : S2x1x2x512x64.Idx) :
    (outsAt0 m c t).2.2.1 y = prodAt (rowsOf m c t) (iblk m c 3 t) (y 3).val (512 + (y 0).val * 64 + (y 2).val * 128 + (y 4).val) := by
  have hz3 : (![0, 0, 0] : Fin 3 → Nat) = fun _ => 0 := funext fun a => by fin_cases a <;> rfl
  have hz2 : (![0, 0] : Fin 2 → Nat) = fun _ => 0 := funext fun a => by fin_cases a <;> rfl
  dsimp only [outsAt0]
  unfold out0_A_7
  rw [View.read_writes_eq_canon _ _ _ (fun y => cover0_A_7 (y := y) ..)]
  refine View.canon_apply_of_pieces (Val := Elt Ideal) (S := S2x1x2x512x64) (fun y => prodAt (k0_pay1 (F := Ideal) (iblk m c 0 t) (iblk m c 1 t) (iblk m c 2 t)) (iblk m c 3 t) (y 3).val (512 + (y 0).val * 64 + (y 2).val * 128 + (y 4).val)) _ ?_ y (cover0_A_7 ..)
  unfold kernelRun0_A
  dsimp only
  sl_unfold_words
  simp only [readAt_unread]
  rw [View.ld_unit_zero hz2, View.ld_unit_zero hz3, View.ld_unit_zero hz3]
  generalize k0_pay1 (F := Ideal) (iblk m c 0 t) (iblk m c 1 t) (iblk m c 2 t) = h
  generalize iblk m c 3 t = w
  simp only [List.forall_mem_cons]
  refine ⟨?_, ?_, ?_, ?_, fun _ h => absurd h List.not_mem_nil⟩
  · exact piece37 h w 640 1 inb_S1024x3456_S1024x128_0_640 _ (by decide) (by decide)
  · exact piece36 h w 640 1 inb_S1024x3456_S1024x128_0_640 _ (by decide) (by decide)
  · exact piece37 h w 512 0 inb_S1024x3456_S1024x128_0_512 _ (by decide) (by decide)
  · exact piece36 h w 512 0 inb_S1024x3456_S1024x128_0_512 _ (by decide) (by decide)

/-- What is to be compressed, after the last grid point. -/
theorem final7 (c : Dev nD) : (dats m 0 c).arrAt 7 cfg0.N = Cert.Reference4Ideal.Gates.compressed (projectedOf m c) := by
  refine (dats m 0 c).arrAt_eq_of_covers 7 _ (by decide +kernel) fun t _ y => ?_
  rw [after0_7]
  revert y
  intro (y : S2x1x2x512x64.Idx)
  obtain ⟨p, y1, g, r, e, rfl⟩ : ∃ (p : Fin 2) (y1 : Fin 1) (g : Fin 2) (r : Fin 512) (e : Fin 64), y = ix5 p y1 g r e := ⟨y 0, y 1, y 2, y 3, y 4, eq_ix5 y⟩
  obtain rfl : y1 = 0 := Subsingleton.elim _ _
  have ht := lt t
  refine Eq.trans ?_ (congrArg (Cert.Reference4Ideal.Gates.compressed (projectedOf m c)) (emb7 t p g r e ⟨t.val / 16, by omega⟩ ⟨t.val % 16 * 512 + r.val, by omega⟩ rfl rfl)).symm
  refine (out7_eq m c t (ix5 p 0 g r e)).trans ?_
  refine Eq.trans ?_ (Cert.Reference4Ideal.Gates.compressed_apply _ _ _ _ _ _).symm
  refine value_eq m c t r.val (512 + p.val * 64 + g.val * 128 + e.val) ⟨1024 + (p.val * 128 + g.val * 64 + e.val), by omega⟩ r.isLt (by omega) ?_ _ _ rfl rfl
  have hc := table_c g e
  match p with
  | ⟨0, _⟩ => exact ⟨(congrArg lit0 (Fin.ext (by show 512 + 0 * 64 + g.val * 128 + e.val = 512 + g.val * 128 + e.val; omega))).trans
      (hc.1.1.trans (congrArg (BitVec.ofNat 32) (by show 1024 + g.val * 64 + e.val = 1024 + (0 * 128 + g.val * 64 + e.val); omega))),
      (congrArg lit1 (Fin.ext (by show 512 + 0 * 64 + g.val * 128 + e.val = 512 + g.val * 128 + e.val; omega))).trans hc.1.2⟩
  | ⟨1, _⟩ => exact ⟨(congrArg lit0 (Fin.ext (by show 512 + 1 * 64 + g.val * 128 + e.val = 576 + g.val * 128 + e.val; omega))).trans
      (hc.2.1.trans (congrArg (BitVec.ofNat 32) (by show 1152 + g.val * 64 + e.val = 1024 + (1 * 128 + g.val * 64 + e.val); omega))),
      (congrArg lit1 (Fin.ext (by show 512 + 1 * 64 + g.val * 128 + e.val = 576 + g.val * 128 + e.val; omega))).trans hc.2.2⟩

/-! The window's keys. -/

/-- What a block of them holds. -/
def windowAt (h : FVec Ideal S512x1024 .bf16) (w : Vec Ideal S1024x3456 .bf16) (g r e : Nat) : EReal :=
  if e < 64 then prodAt h w r (832 + g * 128 + e) else 0

theorem piece41 (h : FVec Ideal S512x1024 .bf16) (w : Vec Ideal S1024x3456 .bf16) (n g : Nat)
    (inb : ∀ k, (![0, n] : Fin 2 → Nat) k + (![1024, 128] : Fin 2 → Nat) k ≤ S1024x3456.size k)
    (hr : ∀ k, (![0, g, 0, 0] : Fin 4 → Nat) k + (![1, 1, 512, 128] : Fin 4 → Nat) k ≤ S1x2x512x128.size k) (hn : n + 128 ≤ 3456) (hg : n = 768 + g * 128) :
    ∀ x : (Rect.unit (s := S1x2x512x128) ![0, g, 0, 0] ![1, 1, 512, 128] hr).shape.Idx,
      k0_pay41 (F := Ideal) (iota .tc S512x128 32 [1] iota_S512x128_d1_w32) (k0_pay38 h (part w n inb)) x
        = (fun y : S1x2x512x128.Idx => windowAt h w (y 1).val (y 2).val (y 3).val) ((Rect.unit (s := S1x2x512x128) ![0, g, 0, 0] ![1, 1, 512, 128] hr).emb x) := by
  intro (x : S1x1x512x128.Idx)
  obtain ⟨x0, x1, r, e, rfl⟩ : ∃ (x0 x1 : Fin 1) (r : Fin 512) (e : Fin 128), x = ix4 x0 x1 r e := ⟨x 0, x 1, x 2, x 3, eq_ix4 x⟩
  obtain rfl : x0 = 0 := Subsingleton.elim _ _
  obtain rfl : x1 = 0 := Subsingleton.elim _ _
  refine (pay41_apply h _ r e).trans ?_
  show _ = windowAt h w (g + 1 * 0) (0 + 1 * r.val) (0 + 1 * e.val)
  unfold windowAt
  by_cases he : e.val < 64
  · rw [dif_pos he, if_pos (show 0 + 1 * e.val < 64 by omega)]
    exact (loaded h w n 128 inb hn r ⟨64 + e.val, by omega⟩).trans (congrArg₂ (prodAt h w) (by omega) (by show n + (64 + e.val) = 832 + (g + 1 * 0) * 128 + (0 + 1 * e.val); omega))
  · rw [dif_neg he, if_neg (show ¬ 0 + 1 * e.val < 64 by omega)]

theorem out10_eq (c : Dev nD) (t : Fin cfg0.N) (y : S1x2x512x128.Idx) :
    (outsAt0 m c t).2.2.2.2.2.1 y = windowAt (rowsOf m c t) (iblk m c 3 t) (y 1).val (y 2).val (y 3).val := by
  have hz3 : (![0, 0, 0] : Fin 3 → Nat) = fun _ => 0 := funext fun a => by fin_cases a <;> rfl
  have hz2 : (![0, 0] : Fin 2 → Nat) = fun _ => 0 := funext fun a => by fin_cases a <;> rfl
  dsimp only [outsAt0]
  unfold out0_A_10
  rw [View.read_writes_eq_canon _ _ _ (fun y => cover0_A_10 (y := y) ..)]
  refine View.canon_apply_of_pieces (Val := Elt Ideal) (S := S1x2x512x128) (fun y => windowAt (k0_pay1 (F := Ideal) (iblk m c 0 t) (iblk m c 1 t) (iblk m c 2 t)) (iblk m c 3 t) (y 1).val (y 2).val (y 3).val) _ ?_ y (cover0_A_10 ..)
  unfold kernelRun0_A
  dsimp only
  sl_unfold_words
  simp only [readAt_unread]
  rw [View.ld_unit_zero hz2, View.ld_unit_zero hz3, View.ld_unit_zero hz3]
  generalize k0_pay1 (F := Ideal) (iblk m c 0 t) (iblk m c 1 t) (iblk m c 2 t) = h
  generalize iblk m c 3 t = w
  simp only [List.forall_mem_cons]
  refine ⟨?_, ?_, fun _ h => absurd h List.not_mem_nil⟩
  · exact piece41 h w 896 1 inb_S1024x3456_S1024x128_0_896 _ (by decide) (by decide)
  · exact piece41 h w 768 0 inb_S1024x3456_S1024x128_0_768 _ (by decide) (by decide)

/-- The window's keys after the last grid point. -/
theorem final10 (c : Dev nD) : (dats m 0 c).arrAt 10 cfg0.N = Cert.Reference4Ideal.Gates.window (projectedOf m c) := by
  refine (dats m 0 c).arrAt_eq_of_covers 10 _ (by decide +kernel) fun t _ y => ?_
  rw [after0_10]
  revert y
  intro (y : S1x2x512x128.Idx)
  obtain ⟨y0, g, r, e, rfl⟩ : ∃ (y0 : Fin 1) (g : Fin 2) (r : Fin 512) (e : Fin 128), y = ix4 y0 g r e := ⟨y 0, y 1, y 2, y 3, eq_ix4 y⟩
  obtain rfl : y0 = 0 := Subsingleton.elim _ _
  have ht := lt t
  refine Eq.trans ?_ (congrArg (Cert.Reference4Ideal.Gates.window (projectedOf m c)) (emb10 t g r e ⟨t.val / 16, by omega⟩ ⟨t.val % 16 * 512 + r.val, by omega⟩ rfl rfl)).symm
  refine (out10_eq m c t (ix4 0 g r e)).trans ?_
  refine Eq.trans ?_ (Cert.Reference4Ideal.Gates.window_apply _ _ _ _ _).symm
  show windowAt _ _ g.val r.val e.val = _
  unfold windowAt
  by_cases he : e.val < 64
  · rw [if_pos he, dif_pos he]
    refine value_eq m c t r.val (832 + g.val * 128 + e.val) ⟨1536 + (g.val * 64 + e.val), by omega⟩ r.isLt (by omega) ?_ _ _ rfl rfl
    have hk := (table_k g ⟨e.val, he⟩).2
    exact ⟨hk.1.trans (congrArg (BitVec.ofNat 32) (by show 1536 + g.val * 64 + e.val = 1536 + (g.val * 64 + e.val); omega)), hk.2⟩
  · rw [if_neg he, dif_neg he]

/-! The selected branch's keys. -/

/-- What a block of them holds, its first row being row `p` of the sequence. -/
def selectedAt (h : FVec Ideal S512x1024 .bf16) (w : Vec Ideal S1024x3456 .bf16) (p g r e : Nat) : EReal :=
  if e < 128 then (if (p + r) / 64 = e then 1 else 0) else if e < 192 then prodAt h w r (768 + g * 128 + (e - 128)) else if e < 194 then 1 else 0

theorem piece40 (h : FVec Ideal S512x1024 .bf16) (w : Vec Ideal S1024x3456 .bf16) (p n g : Nat)
    (inb : ∀ k, (![0, n] : Fin 2 → Nat) k + (![1024, 128] : Fin 2 → Nat) k ≤ S1024x3456.size k)
    (hr : ∀ k, (![0, g, 0, 128] : Fin 4 → Nat) k + (![1, 1, 512, 128] : Fin 4 → Nat) k ≤ S1x2x512x256.size k) (hn : n + 128 ≤ 3456) (hg : n = 768 + g * 128) :
    ∀ x : (Rect.unit (s := S1x2x512x256) ![0, g, 0, 128] ![1, 1, 512, 128] hr).shape.Idx,
      k0_pay40 (F := Ideal) (iota .tc S512x128 32 [1] iota_S512x128_d1_w32) (k0_pay5 (iota .tc S512x128 32 [1] iota_S512x128_d1_w32)) (k0_pay38 h (part w n inb)) x
        = (fun y : S1x2x512x256.Idx => selectedAt h w p (y 1).val (y 2).val (y 3).val) ((Rect.unit (s := S1x2x512x256) ![0, g, 0, 128] ![1, 1, 512, 128] hr).emb x) := by
  intro (x : S1x1x512x128.Idx)
  obtain ⟨x0, x1, r, e, rfl⟩ : ∃ (x0 x1 : Fin 1) (r : Fin 512) (e : Fin 128), x = ix4 x0 x1 r e := ⟨x 0, x 1, x 2, x 3, eq_ix4 x⟩
  obtain rfl : x0 = 0 := Subsingleton.elim _ _
  obtain rfl : x1 = 0 := Subsingleton.elim _ _
  refine (pay40_apply h _ r e).trans ?_
  show _ = selectedAt h w p (g + 1 * 0) (0 + 1 * r.val) (128 + 1 * e.val)
  unfold selectedAt
  rw [if_neg (show ¬ 128 + 1 * e.val < 128 by omega)]
  by_cases he : e.val < 64
  · rw [if_pos he, if_pos (show 128 + 1 * e.val < 192 by omega)]
    exact (loaded h w n 128 inb hn r e).trans (congrArg₂ (prodAt h w) (by omega) (by omega))
  · rw [if_neg he, if_neg (show ¬ 128 + 1 * e.val < 192 by omega)]
    by_cases h1 : e.val < 66
    · rw [if_pos h1, if_pos (show 128 + 1 * e.val < 194 by omega)]
    · rw [if_neg h1, if_neg (show ¬ 128 + 1 * e.val < 194 by omega)]

theorem piece39 (h : FVec Ideal S512x1024 .bf16) (w : Vec Ideal S1024x3456 .bf16) (p g : Nat) (v : FVec Ideal S512x128 .bf16)
    (hv : ∀ (r : Fin 512) (e : Fin 128), v (ix2 r e) = if (p + r.val) / 64 = e.val then 1 else 0)
    (hr : ∀ k, (![0, g, 0, 0] : Fin 4 → Nat) k + (![1, 1, 512, 128] : Fin 4 → Nat) k ≤ S1x2x512x256.size k) :
    ∀ x : (Rect.unit (s := S1x2x512x256) ![0, g, 0, 0] ![1, 1, 512, 128] hr).shape.Idx,
      k0_pay39 (F := Ideal) v x
        = (fun y : S1x2x512x256.Idx => selectedAt h w p (y 1).val (y 2).val (y 3).val) ((Rect.unit (s := S1x2x512x256) ![0, g, 0, 0] ![1, 1, 512, 128] hr).emb x) := by
  intro (x : S1x1x512x128.Idx)
  obtain ⟨x0, x1, r, e, rfl⟩ : ∃ (x0 x1 : Fin 1) (r : Fin 512) (e : Fin 128), x = ix4 x0 x1 r e := ⟨x 0, x 1, x 2, x 3, eq_ix4 x⟩
  obtain rfl : x0 = 0 := Subsingleton.elim _ _
  obtain rfl : x1 = 0 := Subsingleton.elim _ _
  refine Eq.trans (?_ : _ = v (ix2 r e)) ((hv r e).trans ?_)
  · pointwise [k0_pay39]
  · show _ = selectedAt h w p (g + 1 * 0) (0 + 1 * r.val) (0 + 1 * e.val)
    unfold selectedAt
    rw [if_pos (show 0 + 1 * e.val < 128 by omega), Nat.zero_add, Nat.zero_add, Nat.one_mul, Nat.one_mul]

theorem coords0 (t : Fin cfg0.N) : (grid0.coords t 0).val = t.val := by
  revert t
  decide +kernel

theorem out8_eq (c : Dev nD) (t : Fin cfg0.N) (y : S1x2x512x256.Idx) :
    (outsAt0 m c t).2.2.2.1 y = selectedAt (rowsOf m c t) (iblk m c 3 t) (t.val % 16 * 512) (y 1).val (y 2).val (y 3).val := by
  have hz3 : (![0, 0, 0] : Fin 3 → Nat) = fun _ => 0 := funext fun a => by fin_cases a <;> rfl
  have hz2 : (![0, 0] : Fin 2 → Nat) = fun _ => 0 := funext fun a => by fin_cases a <;> rfl
  dsimp only [outsAt0]
  unfold out0_A_8
  rw [View.read_writes_eq_canon _ _ _ (fun y => cover0_A_8 (y := y) ..)]
  refine View.canon_apply_of_pieces (Val := Elt Ideal) (S := S1x2x512x256) (fun y => selectedAt (k0_pay1 (F := Ideal) (iblk m c 0 t) (iblk m c 1 t) (iblk m c 2 t)) (iblk m c 3 t) (t.val % 16 * 512) (y 1).val (y 2).val (y 3).val) _ ?_ y (cover0_A_8 ..)
  unfold kernelRun0_A
  dsimp only
  sl_unfold_words
  simp only [readAt_unread]
  rw [View.ld_unit_zero hz2, View.ld_unit_zero hz3, View.ld_unit_zero hz3]
  generalize k0_pay1 (F := Ideal) (iblk m c 0 t) (iblk m c 1 t) (iblk m c 2 t) = h
  generalize iblk m c 3 t = w
  rw [coords0 t]
  simp only [List.forall_mem_cons]
  refine ⟨?_, ?_, ?_, ?_, fun _ h => absurd h List.not_mem_nil⟩
  · exact piece40 h w _ 896 1 inb_S1024x3456_S1024x128_0_896 _ (by decide) (by decide)
  · exact piece39 h w _ 1 _ (fun r e => pay4_apply t r e) _
  · exact piece40 h w _ 768 0 inb_S1024x3456_S1024x128_0_768 _ (by decide) (by decide)
  · exact piece39 h w _ 0 _ (fun r e => pay4_apply t r e) _

theorem V_selected (c : Dev nD) : V m c main_v23_3 = broadcastInDim S4x2x9216x256 ![] bcast_S_S4x2x9216x256 (constant (F := Ideal) S_ .bf16 0x0000#16) := by
  unfold_abbrev_sides
  after_results
  rfl

/-- The selected branch's keys after the last grid point: the blocks cover the sequence, and zeros were behind it before. -/
theorem final8 (c : Dev nD) : (dats m 0 c).arrAt 8 cfg0.N = Cert.Reference4Ideal.Gates.selected (projectedOf m c) := by
  refine (dats m 0 c).arrAt_eq_of_coversWhere_of_agree 8 _ (fun β => β (2 : Fin 4) < 16) (by decide +kernel) (fun t _ y => ?_) (fun y hy => ?_)
  · rw [after0_8]
    revert y
    intro (y : S1x2x512x256.Idx)
    obtain ⟨y0, g, r, e, rfl⟩ : ∃ (y0 : Fin 1) (g : Fin 2) (r : Fin 512) (e : Fin 256), y = ix4 y0 g r e := ⟨y 0, y 1, y 2, y 3, eq_ix4 y⟩
    obtain rfl : y0 = 0 := Subsingleton.elim _ _
    have ht := lt t
    refine Eq.trans ?_ (congrArg (Cert.Reference4Ideal.Gates.selected (projectedOf m c)) (emb8 t g r e ⟨t.val / 16, by omega⟩ ⟨t.val % 16 * 512 + r.val, by omega⟩ rfl rfl)).symm
    refine (out8_eq m c t (ix4 0 g r e)).trans ?_
    refine Eq.trans ?_ (Cert.Reference4Ideal.Gates.selected_apply _ _ _ _ _).symm
    rw [dif_pos (show t.val % 16 * 512 + r.val < 8192 by omega), Cert.Reference4Ideal.Gates.selectedRows_apply]
    show selectedAt _ _ _ g.val r.val e.val = _
    unfold selectedAt
    by_cases he : e.val < 128
    · rw [if_pos he, dif_pos he]
    · rw [if_neg he, dif_neg he]
      by_cases h1 : e.val < 192
      · rw [if_pos h1, dif_pos h1]
        refine value_eq m c t r.val (768 + g.val * 128 + (e.val - 128)) ⟨1280 + (g.val * 64 + (e.val - 128)), by omega⟩ r.isLt (by omega) ?_ _ _ rfl rfl
        have hk := (table_k g ⟨e.val - 128, by omega⟩).1
        exact ⟨hk.1.trans (congrArg (BitVec.ofNat 32) (by show 1280 + g.val * 64 + (e.val - 128) = 1280 + (g.val * 64 + (e.val - 128)); omega)), hk.2⟩
      · rw [if_neg h1, dif_neg h1]
  · revert y
    intro (y : S4x2x9216x256.Idx) hy
    obtain ⟨b, g, s, e, rfl⟩ : ∃ (b : Fin 4) (g : Fin 2) (s : Fin 9216) (e : Fin 256), y = ix4 b g s e := ⟨y 0, y 1, y 2, y 3, eq_ix4 y⟩
    have hs : ¬ s.val / 512 < 16 := hy
    refine Eq.trans ?_ (Cert.Reference4Ideal.Gates.selected_apply (projectedOf m c) b g s e).symm
    rw [dif_neg (show ¬ s.val < 8192 by omega)]
    refine (congrFun (V_selected m c) (ix4 b g s e)).trans ?_
    pointwise

end Cert.Kernel4Ideal.Gates

end
-- ==== Proof.Gates.Queries.lean ====
/- The queries and the branches' gates, by tiles. -/
module

public import proofs.«01_k».proof.Proof.Gates.Stores
public import Idealize.ShloMosaic.Lib.Pipeline.ReadBack
public import Idealize.ShloMosaic.Lib.Pipeline.Covers

@[expose] public section

set_option maxRecDepth 16384

noncomputable section

namespace Cert.Kernel4Ideal.Gates

open Cert.Kernel4Ideal Cert.Kernel4Ideal.Gen
open Idealize.ShloMosaic Idealize.ShloMosaic.TcCoe Idealize.ShloMosaic.Tactic Idealize.SL.Sem

variable (m : (ℓ : Loc nD τ sig) → Buf (Elt Ideal) ℓ)

/-! The queries. -/

/-- The constant rows at any three numbers. -/
def constAt (q : Vec Ideal S2x64x512 .bf16) (g e f : Nat) : EReal :=
  if hh : g < 2 ∧ e < 64 ∧ f < 512 then q (ix3 ⟨g, hh.1⟩ ⟨e, hh.2.1⟩ ⟨f, hh.2.2⟩) else 0

theorem constAt_eq (q : Vec Ideal S2x64x512 .bf16) (g : Fin 2) (e : Fin 64) (f : Fin 512) : constAt q g.val e.val f.val = q (ix3 g e f) :=
  dif_pos ⟨g.isLt, e.isLt, f.isLt⟩

/-- What a block of the queries holds: scaled products, a column per token and head, and the constant rows below. -/
def queriesAt (h : FVec Ideal S512x1024 .bf16) (w : Vec Ideal S1024x3456 .bf16) (q : Vec Ideal S2x64x512 .bf16) (g j e f : Nat) : EReal :=
  if e < 64 then prodAt h w (j * 128 + f % 128) (g * 256 + f / 128 * 64 + e) * Ideal.ofBits .f32 0x3E38AA3B#32 else constAt q g (e - 64) f

theorem piece_queries (x : Vec Ideal S512x1024 .f32) (sc sh : Vec Ideal S1x1x1024 .f32) (w : Vec Ideal S1024x3456 .bf16) (q : Vec Ideal S2x64x512 .bf16) (g j d a b o : Nat)
    (hs : S512x512.Slices ![a, b] S64x128)
    (hr : ∀ k, (![0, g, j, 0, o] : Fin 5 → Nat) k + (![1, 1, 1, 64, 128] : Fin 5 → Nat) k ≤ S1x2x4x128x512.size k)
    (hb : b + 128 ≤ 512) (hd : d < 4) (hg : g < 2) (hj : b = j * 128) (ha : a = (g * 4 + d) * 64) (ho : o = d * 128) :
    ∀ y : (Rect.unit (s := S1x2x4x128x512) ![0, g, j, 0, o] ![1, 1, 1, 64, 128] hr).shape.Idx,
      shapeCast S1x1x1x64x128 (extractStridedSlice S64x128 ![a, b] (k0_pay2 (F := Ideal) x sc sh (View.ld w (Rect.unit ![0, 0] ![1024, 512] inb_S1024x3456_S1024x512_0_0))) hs)
          shapeCasts_S64x128_S1x1x1x64x128 y
        = (fun y : S1x2x4x128x512.Idx => queriesAt (k0_pay1 (F := Ideal) x sc sh) w q (y 1).val (y 2).val (y 3).val (y 4).val)
            ((Rect.unit (s := S1x2x4x128x512) ![0, g, j, 0, o] ![1, 1, 1, 64, 128] hr).emb y) := by
  intro (y : S1x1x1x64x128.Idx)
  obtain ⟨y0, y1, y2, e, f, rfl⟩ : ∃ (y0 y1 y2 : Fin 1) (e : Fin 64) (f : Fin 128), y = ix5 y0 y1 y2 e f := ⟨y 0, y 1, y 2, y 3, y 4, eq_ix5 y⟩
  obtain rfl : y0 = 0 := Subsingleton.elim _ _
  obtain rfl : y1 = 0 := Subsingleton.elim _ _
  obtain rfl : y2 = 0 := Subsingleton.elim _ _
  refine (tileQ_apply _ a b hs (by omega) hb e f).trans ((pay2_apply x sc sh _ _ _).trans ?_)
  refine (congrArg (· * Ideal.ofBits .f32 0x3E38AA3B#32) (loaded (k0_pay1 (F := Ideal) x sc sh) w 0 512 inb_S1024x3456_S1024x512_0_0 (by decide) ⟨b + f.val, by omega⟩ ⟨a + e.val, by omega⟩)).trans ?_
  show prodAt _ w (b + f.val) (0 + (a + e.val)) * _ = queriesAt _ w q (g + 1 * 0) (j + 1 * 0) (0 + 1 * e.val) (o + 1 * f.val)
  unfold queriesAt
  rw [if_pos (show 0 + 1 * e.val < 64 by omega)]
  exact congrArg (· * Ideal.ofBits .f32 0x3E38AA3B#32) (congrArg₂ (prodAt _ w) (by omega) (by omega))

theorem const_apply (v : Vec Ideal S1x64x512 .bf16) (e : Fin 64) (f : Fin 512) :
    shapeCast S1x1x1x64x512 (shapeCast S64x512 v shapeCasts_S1x64x512_S64x512) shapeCasts_S64x512_S1x1x1x64x512 (ix5 0 0 0 e f) = v (ix3 0 e f) := by
  pointwise

theorem piece_const (h : FVec Ideal S512x1024 .bf16) (w : Vec Ideal S1024x3456 .bf16) (q : Vec Ideal S2x64x512 .bf16) (g j : Nat)
    (inb : ∀ k, (![g, 0, 0] : Fin 3 → Nat) k + (![1, 64, 512] : Fin 3 → Nat) k ≤ S2x64x512.size k)
    (hr : ∀ k, (![0, g, j, 64, 0] : Fin 5 → Nat) k + (![1, 1, 1, 64, 512] : Fin 5 → Nat) k ≤ S1x2x4x128x512.size k) (hg : g < 2) :
    ∀ y : (Rect.unit (s := S1x2x4x128x512) ![0, g, j, 64, 0] ![1, 1, 1, 64, 512] hr).shape.Idx,
      shapeCast S1x1x1x64x512 (shapeCast S64x512 (View.ld q (Rect.unit ![g, 0, 0] ![1, 64, 512] inb) : Vec Ideal S1x64x512 .bf16) shapeCasts_S1x64x512_S64x512) shapeCasts_S64x512_S1x1x1x64x512 y
        = (fun y : S1x2x4x128x512.Idx => queriesAt h w q (y 1).val (y 2).val (y 3).val (y 4).val) ((Rect.unit (s := S1x2x4x128x512) ![0, g, j, 64, 0] ![1, 1, 1, 64, 512] hr).emb y) := by
  intro (y : S1x1x1x64x512.Idx)
  obtain ⟨y0, y1, y2, e, f, rfl⟩ : ∃ (y0 y1 y2 : Fin 1) (e : Fin 64) (f : Fin 512), y = ix5 y0 y1 y2 e f := ⟨y 0, y 1, y 2, y 3, y 4, eq_ix5 y⟩
  obtain rfl : y0 = 0 := Subsingleton.elim _ _
  obtain rfl : y1 = 0 := Subsingleton.elim _ _
  obtain rfl : y2 = 0 := Subsingleton.elim _ _
  have hl : (View.ld q (Rect.unit ![g, 0, 0] ![1, 64, 512] inb) : Vec Ideal S1x64x512 .bf16) (ix3 0 e f) = q (ix3 ⟨g, hg⟩ e f) :=
    View.ld_unit_apply_of q _ _ _ _ _ fun a => by match a with
      | ⟨0, _⟩ => rfl
      | ⟨1, _⟩ => show e.val = 0 + e.val; omega
      | ⟨2, _⟩ => show f.val = 0 + f.val; omega
  refine (const_apply _ e f).trans (hl.trans ?_)
  · show _ = queriesAt h w q (g + 1 * 0) (j + 1 * 0) (64 + 1 * e.val) (0 + 1 * f.val)
    unfold queriesAt
    rw [if_neg (show ¬ 64 + 1 * e.val < 64 by omega), show 64 + 1 * e.val - 64 = e.val by omega, show g + 1 * 0 = g by omega, show 0 + 1 * f.val = f.val by omega]
    exact (constAt_eq q ⟨g, hg⟩ e f).symm

theorem out5_eq (c : Dev nD) (t : Fin cfg0.N) (y : S1x2x4x128x512.Idx) :
    (outsAt0 m c t).1 y = queriesAt (rowsOf m c t) (iblk m c 3 t) (iblk m c 4 t) (y 1).val (y 2).val (y 3).val (y 4).val := by
  have hz3 : (![0, 0, 0] : Fin 3 → Nat) = fun _ => 0 := funext fun a => by fin_cases a <;> rfl
  have hz2 : (![0, 0] : Fin 2 → Nat) = fun _ => 0 := funext fun a => by fin_cases a <;> rfl
  dsimp only [outsAt0]
  unfold out0_A_5
  rw [View.read_writes_eq_canon _ _ _ (fun y => cover0_A_5 (y := y) ..)]
  refine View.canon_apply_of_pieces (Val := Elt Ideal) (S := S1x2x4x128x512) (fun y => queriesAt (k0_pay1 (F := Ideal) (iblk m c 0 t) (iblk m c 1 t) (iblk m c 2 t)) (iblk m c 3 t) (iblk m c 4 t) (y 1).val (y 2).val (y 3).val (y 4).val) _ ?_ y (cover0_A_5 ..)
  unfold kernelRun0_A
  dsimp only
  sl_unfold_words
  simp only [readAt_unread]
  rw [View.ld_unit_zero hz2, View.ld_unit_zero hz3, View.ld_unit_zero hz3]
  generalize iblk m c 0 t = x
  generalize iblk m c 1 t = sc
  generalize iblk m c 2 t = sh
  generalize iblk m c 3 t = w
  generalize iblk m c 4 t = q
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun _ h => absurd h List.not_mem_nil⟩
  · exact piece_const _ w q 1 3 inb_S2x64x512_S1x64x512_1_0_0 _ (by decide)
  · exact piece_queries x sc sh w q 1 3 3 448 384 384 (by decide) _ (by decide) (by decide) (by decide) (by decide) (by decide) (by decide)
  · exact piece_queries x sc sh w q 1 3 2 384 384 256 (by decide) _ (by decide) (by decide) (by decide) (by decide) (by decide) (by decide)
  · exact piece_queries x sc sh w q 1 3 1 320 384 128 (by decide) _ (by decide) (by decide) (by decide) (by decide) (by decide) (by decide)
  · exact piece_queries x sc sh w q 1 3 0 256 384 0 (by decide) _ (by decide) (by decide) (by decide) (by decide) (by decide) (by decide)
  · exact piece_const _ w q 1 2 inb_S2x64x512_S1x64x512_1_0_0 _ (by decide)
  · exact piece_queries x sc sh w q 1 2 3 448 256 384 (by decide) _ (by decide) (by decide) (by decide) (by decide) (by decide) (by decide)
  · exact piece_queries x sc sh w q 1 2 2 384 256 256 (by decide) _ (by decide) (by decide) (by decide) (by decide) (by decide) (by decide)
  · exact piece_queries x sc sh w q 1 2 1 320 256 128 (by decide) _ (by decide) (by decide) (by decide) (by decide) (by decide) (by decide)
  · exact piece_queries x sc sh w q 1 2 0 256 256 0 (by decide) _ (by decide) (by decide) (by decide) (by decide) (by decide) (by decide)
  · exact piece_const _ w q 1 1 inb_S2x64x512_S1x64x512_1_0_0 _ (by decide)
  · exact piece_queries x sc sh w q 1 1 3 448 128 384 (by decide) _ (by decide) (by decide) (by decide) (by decide) (by decide) (by decide)
  · exact piece_queries x sc sh w q 1 1 2 384 128 256 (by decide) _ (by decide) (by decide) (by decide) (by decide) (by decide) (by decide)
  · exact piece_queries x sc sh w q 1 1 1 320 128 128 (by decide) _ (by decide) (by decide) (by decide) (by decide) (by decide) (by decide)
  · exact piece_queries x sc sh w q 1 1 0 256 128 0 (by decide) _ (by decide) (by decide) (by decide) (by decide) (by decide) (by decide)
  · exact piece_const _ w q 1 0 inb_S2x64x512_S1x64x512_1_0_0 _ (by decide)
  · exact piece_queries x sc sh w q 1 0 3 448 0 384 (by decide) _ (by decide) (by decide) (by decide) (by decide) (by decide) (by decide)
  · exact piece_queries x sc sh w q 1 0 2 384 0 256 (by decide) _ (by decide) (by decide) (by decide) (by decide) (by decide) (by decide)
  · exact piece_queries x sc sh w q 1 0 1 320 0 128 (by decide) _ (by decide) (by decide) (by decide) (by decide) (by decide) (by decide)
  · exact piece_queries x sc sh w q 1 0 0 256 0 0 (by decide) _ (by decide) (by decide) (by decide) (by decide) (by decide) (by decide)
  · exact piece_const _ w q 0 3 inb_S2x64x512_S1x64x512_0_0_0 _ (by decide)
  · exact piece_queries x sc sh w q 0 3 3 192 384 384 (by decide) _ (by decide) (by decide) (by decide) (by decide) (by decide) (by decide)
  · exact piece_queries x sc sh w q 0 3 2 128 384 256 (by decide) _ (by decide) (by decide) (by decide) (by decide) (by decide) (by decide)
  · exact piece_queries x sc sh w q 0 3 1 64 384 128 (by decide) _ (by decide) (by decide) (by decide) (by decide) (by decide) (by decide)
  · exact piece_queries x sc sh w q 0 3 0 0 384 0 (by decide) _ (by decide) (by decide) (by decide) (by decide) (by decide) (by decide)
  · exact piece_const _ w q 0 2 inb_S2x64x512_S1x64x512_0_0_0 _ (by decide)
  · exact piece_queries x sc sh w q 0 2 3 192 256 384 (by decide) _ (by decide) (by decide) (by decide) (by decide) (by decide) (by decide)
  · exact piece_queries x sc sh w q 0 2 2 128 256 256 (by decide) _ (by decide) (by decide) (by decide) (by decide) (by decide) (by decide)
  · exact piece_queries x sc sh w q 0 2 1 64 256 128 (by decide) _ (by decide) (by decide) (by decide) (by decide) (by decide) (by decide)
  · exact piece_queries x sc sh w q 0 2 0 0 256 0 (by decide) _ (by decide) (by decide) (by decide) (by decide) (by decide) (by decide)
  · exact piece_const _ w q 0 1 inb_S2x64x512_S1x64x512_0_0_0 _ (by decide)
  · exact piece_queries x sc sh w q 0 1 3 192 128 384 (by decide) _ (by decide) (by decide) (by decide) (by decide) (by decide) (by decide)
  · exact piece_queries x sc sh w q 0 1 2 128 128 256 (by decide) _ (by decide) (by decide) (by decide) (by decide) (by decide) (by decide)
  · exact piece_queries x sc sh w q 0 1 1 64 128 128 (by decide) _ (by decide) (by decide) (by decide) (by decide) (by decide) (by decide)
  · exact piece_queries x sc sh w q 0 1 0 0 128 0 (by decide) _ (by decide) (by decide) (by decide) (by decide) (by decide) (by decide)
  · exact piece_const _ w q 0 0 inb_S2x64x512_S1x64x512_0_0_0 _ (by decide)
  · exact piece_queries x sc sh w q 0 0 3 192 0 384 (by decide) _ (by decide) (by decide) (by decide) (by decide) (by decide) (by decide)
  · exact piece_queries x sc sh w q 0 0 2 128 0 256 (by decide) _ (by decide) (by decide) (by decide) (by decide) (by decide) (by decide)
  · exact piece_queries x sc sh w q 0 0 1 64 0 128 (by decide) _ (by decide) (by decide) (by decide) (by decide) (by decide) (by decide)
  · exact piece_queries x sc sh w q 0 0 0 0 0 0 (by decide) _ (by decide) (by decide) (by decide) (by decide) (by decide) (by decide)

/-- The queries after the last grid point. -/
theorem final5 (c : Dev nD) : (dats m 0 c).arrAt 5 cfg0.N = Cert.Reference4Ideal.Gates.queries (projectedOf m c) (m ((c : Thread nD τ).loc main_arg3)) := by
  refine (dats m 0 c).arrAt_eq_of_covers 5 _ (by decide +kernel) fun t _ y => ?_
  rw [after0_5]
  revert y
  intro (y : S1x2x4x128x512.Idx)
  obtain ⟨y0, g, j, e, f, rfl⟩ : ∃ (y0 : Fin 1) (g : Fin 2) (j : Fin 4) (e : Fin 128) (f : Fin 512), y = ix5 y0 g j e f := ⟨y 0, y 1, y 2, y 3, y 4, eq_ix5 y⟩
  obtain rfl : y0 = 0 := Subsingleton.elim _ _
  have ht := lt t
  refine Eq.trans ?_ (congrArg (Cert.Reference4Ideal.Gates.queries (projectedOf m c) (m ((c : Thread nD τ).loc main_arg3)))
    (emb5 t g j e f ⟨t.val / 16, by omega⟩ ⟨t.val % 16 * 4 + j.val, by omega⟩ rfl rfl)).symm
  refine (out5_eq m c t (ix5 0 g j e f)).trans ?_
  refine Eq.trans ?_ (Cert.Reference4Ideal.Gates.queries_apply _ _ _ _ _ _ _).symm
  show queriesAt _ _ _ g.val j.val e.val f.val = _
  unfold queriesAt
  by_cases he : e.val < 64
  · rw [if_pos he, dif_pos he]
    refine congrArg (· * Ideal.ofBits .f32 0x3E38AA3B#32) ?_
    refine value_eq m c t (j.val * 128 + f.val % 128) (g.val * 256 + f.val / 128 * 64 + e.val) ⟨512 + (g.val * 256 + f.val / 128 * 64 + e.val), by omega⟩ (by omega) (by omega) ?_ _ _ rfl ?_
    · exact table_q ⟨g.val * 256 + f.val / 128 * 64 + e.val, by omega⟩
    · show (t.val % 16 * 4 + j.val) * 128 + f.val % 128 = t.val % 16 * 512 + (j.val * 128 + f.val % 128); omega
  · rw [if_neg he, dif_neg he]
    exact (constAt_eq _ g ⟨e.val - 64, by omega⟩ f).trans (iblk4_apply m c t g ⟨e.val - 64, by omega⟩ f)

/-! The branches' gates. -/

theorem piece_branches (x : Vec Ideal S512x1024 .f32) (sc sh : Vec Ideal S1x1x1024 .f32) (w : Vec Ideal S1024x3456 .bf16) (g j a b : Nat)
    (hs : S128x512.Slices ![a, b] S16x128)
    (hr : ∀ k, (![0, g, j, 0, 0] : Fin 5 → Nat) k + (![1, 1, 1, 16, 128] : Fin 5 → Nat) k ≤ S1x2x4x16x128.size k)
    (hb : b + 128 ≤ 512) (hg : g < 2) (hj : b = j * 128) (ha : a = g * 16) :
    ∀ y : (Rect.unit (s := S1x2x4x16x128) ![0, g, j, 0, 0] ![1, 1, 1, 16, 128] hr).shape.Idx,
      shapeCast S1x1x1x16x128 (extractStridedSlice S16x128 ![a, b] (k0_pay3 (F := Ideal) x sc sh (View.ld w (Rect.unit ![0, 1280] ![1024, 128] inb_S1024x3456_S1024x128_0_1280))) hs)
          shapeCasts_S16x128_S1x1x1x16x128 y
        = (fun y : S1x2x4x16x128.Idx => Ideal.logistic (prodAt (k0_pay1 (F := Ideal) x sc sh) w ((y 2).val * 128 + (y 4).val) (1280 + (y 1).val * 16 + (y 3).val)))
            ((Rect.unit (s := S1x2x4x16x128) ![0, g, j, 0, 0] ![1, 1, 1, 16, 128] hr).emb y) := by
  intro (y : S1x1x1x16x128.Idx)
  obtain ⟨y0, y1, y2, e, f, rfl⟩ : ∃ (y0 y1 y2 : Fin 1) (e : Fin 16) (f : Fin 128), y = ix5 y0 y1 y2 e f := ⟨y 0, y 1, y 2, y 3, y 4, eq_ix5 y⟩
  obtain rfl : y0 = 0 := Subsingleton.elim _ _
  obtain rfl : y1 = 0 := Subsingleton.elim _ _
  obtain rfl : y2 = 0 := Subsingleton.elim _ _
  refine (tile16_apply _ a b hs (by omega) hb e f).trans ((pay3_apply x sc sh _ _ _).trans (congrArg Ideal.logistic ?_))
  refine (loaded (k0_pay1 (F := Ideal) x sc sh) w 1280 128 inb_S1024x3456_S1024x128_0_1280 (by decide) ⟨b + f.val, by omega⟩ ⟨a + e.val, by omega⟩).trans ?_
  show prodAt _ w (b + f.val) (1280 + (a + e.val)) = prodAt _ w ((j + 1 * 0) * 128 + (0 + 1 * f.val)) (1280 + (g + 1 * 0) * 16 + (0 + 1 * e.val))
  exact congrArg₂ (prodAt _ w) (by omega) (by omega)

theorem out6_eq (c : Dev nD) (t : Fin cfg0.N) (y : S1x2x4x16x128.Idx) :
    (outsAt0 m c t).2.1 y = Ideal.logistic (prodAt (rowsOf m c t) (iblk m c 3 t) ((y 2).val * 128 + (y 4).val) (1280 + (y 1).val * 16 + (y 3).val)) := by
  have hz3 : (![0, 0, 0] : Fin 3 → Nat) = fun _ => 0 := funext fun a => by fin_cases a <;> rfl
  have hz2 : (![0, 0] : Fin 2 → Nat) = fun _ => 0 := funext fun a => by fin_cases a <;> rfl
  dsimp only [outsAt0]
  unfold out0_A_6
  rw [View.read_writes_eq_canon _ _ _ (fun y => cover0_A_6 (y := y) ..)]
  refine View.canon_apply_of_pieces (Val := Elt Ideal) (S := S1x2x4x16x128) (fun y => Ideal.logistic (prodAt (k0_pay1 (F := Ideal) (iblk m c 0 t) (iblk m c 1 t) (iblk m c 2 t)) (iblk m c 3 t) ((y 2).val * 128 + (y 4).val) (1280 + (y 1).val * 16 + (y 3).val))) _ ?_ y (cover0_A_6 ..)
  unfold kernelRun0_A
  dsimp only
  sl_unfold_words
  simp only [readAt_unread]
  rw [View.ld_unit_zero hz2, View.ld_unit_zero hz3, View.ld_unit_zero hz3]
  generalize iblk m c 0 t = x
  generalize iblk m c 1 t = sc
  generalize iblk m c 2 t = sh
  generalize iblk m c 3 t = w
  simp only [List.forall_mem_cons]
  refine ⟨?_, ?_, ?_, ?_, ?_, ?_, ?_, ?_, fun _ h => absurd h List.not_mem_nil⟩
  · exact piece_branches x sc sh w 1 3 16 384 (by decide) _ (by decide) (by decide) (by decide) (by decide)
  · exact piece_branches x sc sh w 1 2 16 256 (by decide) _ (by decide) (by decide) (by decide) (by decide)
  · exact piece_branches x sc sh w 1 1 16 128 (by decide) _ (by decide) (by decide) (by decide) (by decide)
  · exact piece_branches x sc sh w 1 0 16 0 (by decide) _ (by decide) (by decide) (by decide) (by decide)
  · exact piece_branches x sc sh w 0 3 0 384 (by decide) _ (by decide) (by decide) (by decide) (by decide)
  · exact piece_branches x sc sh w 0 2 0 256 (by decide) _ (by decide) (by decide) (by decide) (by decide)
  · exact piece_branches x sc sh w 0 1 0 128 (by decide) _ (by decide) (by decide) (by decide) (by decide)
  · exact piece_branches x sc sh w 0 0 0 0 (by decide) _ (by decide) (by decide) (by decide) (by decide)

/-- The branches' gates after the last grid point. -/
theorem final6 (c : Dev nD) : (dats m 0 c).arrAt 6 cfg0.N = Cert.Reference4Ideal.Gates.branches (projectedOf m c) := by
  refine (dats m 0 c).arrAt_eq_of_covers 6 _ (by decide +kernel) fun t _ y => ?_
  rw [after0_6]
  revert y
  intro (y : S1x2x4x16x128.Idx)
  obtain ⟨y0, g, j, e, f, rfl⟩ : ∃ (y0 : Fin 1) (g : Fin 2) (j : Fin 4) (e : Fin 16) (f : Fin 128), y = ix5 y0 g j e f := ⟨y 0, y 1, y 2, y 3, y 4, eq_ix5 y⟩
  obtain rfl : y0 = 0 := Subsingleton.elim _ _
  have ht := lt t
  refine Eq.trans ?_ (congrArg (Cert.Reference4Ideal.Gates.branches (projectedOf m c)) (emb6 t g j e f ⟨t.val / 16, by omega⟩ ⟨t.val % 16 * 4 + j.val, by omega⟩ rfl rfl)).symm
  refine (out6_eq m c t (ix5 0 g j e f)).trans ?_
  refine Eq.trans ?_ (Cert.Reference4Ideal.Gates.branches_apply _ _ _ _ _ _).symm
  refine congrArg Ideal.logistic ?_
  rw [Cert.Reference4Ideal.Gates.branchRows_apply]
  show prodAt _ _ (j.val * 128 + f.val) (1280 + g.val * 16 + e.val) = _
  by_cases he : e.val < 12
  · rw [dif_pos he]
    refine value_eq m c t (j.val * 128 + f.val) (1280 + g.val * 16 + e.val) ⟨1792 + ((g.val * 4 + e.val % 4) * 3 + e.val / 4), by omega⟩ (by omega) (by omega) ?_ _ _ rfl ?_
    · exact table_b g ⟨e.val, he⟩
    · show (t.val % 16 * 4 + j.val) * 128 + f.val = t.val % 16 * 512 + (j.val * 128 + f.val); omega
  · rw [dif_neg he]
    refine value_zero m c t (j.val * 128 + f.val) (1280 + g.val * 16 + e.val) (by omega) (by omega) ?_
    have hz := table_z g ⟨e.val - 12, by omega⟩
    have hi : (⟨1280 + g.val * 16 + (12 + (e.val - 12)), by omega⟩ : Fin 3456) = ⟨1280 + g.val * 16 + e.val, by omega⟩ := Fin.ext (by show 1280 + g.val * 16 + (12 + (e.val - 12)) = 1280 + g.val * 16 + e.val; omega)
    exact ⟨(congrArg lit0 hi.symm).trans hz.1, (congrArg lit1 hi.symm).trans hz.2⟩

end Cert.Kernel4Ideal.Gates

end
-- ==== Proof.Gates.Tiles.lean ====
/- The values of the selected branch and of the window, by tiles with a row of ones below. -/
module

public import proofs.«01_k».proof.Proof.Gates.Stores
public import Idealize.ShloMosaic.Lib.Pipeline.ValueKit.Partial
public import Idealize.ShloMosaic.Lib.Pipeline.ReadBack
public import Idealize.ShloMosaic.Lib.Pipeline.Covers

@[expose] public section

set_option maxRecDepth 16384

noncomputable section

namespace Cert.Kernel4Ideal.Gates

open Cert.Kernel4Ideal Cert.Kernel4Ideal.Gen
open Idealize.ShloMosaic Idealize.ShloMosaic.TcCoe Idealize.ShloMosaic.Tactic Idealize.SL.Sem

/-- What a block of values holds: a column of products from column `base`, then a one, then zeros. -/
def values (h : FVec Ideal S512x1024 .bf16) (w : Vec Ideal S1024x3456 .bf16) (base g j e f : Nat) : EReal :=
  if e < 64 then prodAt h w (j * 128 + f) (base + g * 128 + e) else if e = 64 then 1 else 0

theorem pay42_loaded (h : FVec Ideal S512x1024 .bf16) (w : Vec Ideal S1024x3456 .bf16) (n : Nat)
    (inb : ∀ a, (![0, n] : Fin 2 → Nat) a + (![1024, 128] : Fin 2 → Nat) a ≤ S1024x3456.size a) (hn : n + 128 ≤ 3456) (e : Fin 128) (r : Fin 512) :
    k0_pay42 (F := Ideal) h (View.ld w (Rect.unit ![0, n] ![1024, 128] inb)) (ix2 e r) = prodAt h w r.val (n + e.val) :=
  (pay42_apply h _ e r).trans (loaded h w n 128 inb hn r e)

/-- A tile of the products' columns. -/
theorem piece_values (h : FVec Ideal S512x1024 .bf16) (w : Vec Ideal S1024x3456 .bf16) (base n a g j b : Nat)
    (inb : ∀ k, (![0, n] : Fin 2 → Nat) k + (![1024, 128] : Fin 2 → Nat) k ≤ S1024x3456.size k) (hs : S128x512.Slices ![a, b] S64x128)
    (hr : ∀ k, (![0, g, j, 0, 0] : Fin 5 → Nat) k + (![1, 1, 1, 64, 128] : Fin 5 → Nat) k ≤ S1x2x4x80x128.size k)
    (hn : n + 128 ≤ 3456) (ha : a + 64 ≤ 128) (hb : b + 128 ≤ 512) (hj : b = j * 128) (hg : base + g * 128 = n + a) :
    ∀ x : (Rect.unit (s := S1x2x4x80x128) ![0, g, j, 0, 0] ![1, 1, 1, 64, 128] hr).shape.Idx,
      shapeCast S1x1x1x64x128 (extractStridedSlice S64x128 ![a, b] (k0_pay42 (F := Ideal) h (View.ld w (Rect.unit ![0, n] ![1024, 128] inb))) hs) shapeCasts_S64x128_S1x1x1x64x128 x
        = (fun y : S1x2x4x80x128.Idx => values h w base (y 1).val (y 2).val (y 3).val (y 4).val) ((Rect.unit (s := S1x2x4x80x128) ![0, g, j, 0, 0] ![1, 1, 1, 64, 128] hr).emb x) := by
  intro (x : S1x1x1x64x128.Idx)
  obtain ⟨x0, x1, x2, e, f, rfl⟩ : ∃ (x0 x1 x2 : Fin 1) (e : Fin 64) (f : Fin 128), x = ix5 x0 x1 x2 e f := ⟨x 0, x 1, x 2, x 3, x 4, eq_ix5 x⟩
  obtain rfl : x0 = 0 := Subsingleton.elim _ _
  obtain rfl : x1 = 0 := Subsingleton.elim _ _
  obtain rfl : x2 = 0 := Subsingleton.elim _ _
  refine (tile_apply _ a b hs ha hb e f).trans ((pay42_loaded h w n inb hn _ _).trans ?_)
  show prodAt h w (b + f.val) (n + (a + e.val)) = values h w base (g + 1 * 0) (j + 1 * 0) (0 + 1 * e.val) (0 + 1 * f.val)
  unfold values
  rw [if_pos (by omega)]
  exact congrArg₂ (prodAt h w) (by omega) (by omega)

/-- The row of ones and the zeros. -/
theorem piece_ones (h : FVec Ideal S512x1024 .bf16) (w : Vec Ideal S1024x3456 .bf16) (base g j : Nat)
    (hr : ∀ k, (![0, g, j, 64, 0] : Fin 5 → Nat) k + (![1, 1, 1, 16, 128] : Fin 5 → Nat) k ≤ S1x2x4x80x128.size k) :
    ∀ x : (Rect.unit (s := S1x2x4x80x128) ![0, g, j, 64, 0] ![1, 1, 1, 16, 128] hr).shape.Idx,
      shapeCast S1x1x1x16x128 (k0_pay7 (F := Ideal) k0_pay6 (FloatOps.ofBits .f32 1065353216#32) (FloatOps.ofBits .f32 0#32)) shapeCasts_S16x128_S1x1x1x16x128 x
        = (fun y : S1x2x4x80x128.Idx => values h w base (y 1).val (y 2).val (y 3).val (y 4).val) ((Rect.unit (s := S1x2x4x80x128) ![0, g, j, 64, 0] ![1, 1, 1, 16, 128] hr).emb x) := by
  intro (x : S1x1x1x16x128.Idx)
  obtain ⟨x0, x1, x2, e, f, rfl⟩ : ∃ (x0 x1 x2 : Fin 1) (e : Fin 16) (f : Fin 128), x = ix5 x0 x1 x2 e f := ⟨x 0, x 1, x 2, x 3, x 4, eq_ix5 x⟩
  obtain rfl : x0 = 0 := Subsingleton.elim _ _
  obtain rfl : x1 = 0 := Subsingleton.elim _ _
  obtain rfl : x2 = 0 := Subsingleton.elim _ _
  refine Eq.trans (?_ : _ = k0_pay7 (F := Ideal) k0_pay6 (FloatOps.ofBits .f32 1065353216#32) (FloatOps.ofBits .f32 0#32) (ix2 e f)) ((pay7_apply e f).trans ?_)
  · pointwise
  · show (if e.val = 0 then 1 else 0) = values h w base (g + 1 * 0) (j + 1 * 0) (64 + 1 * e.val) (0 + 1 * f.val)
    unfold values
    rw [if_neg (show ¬ 64 + 1 * e.val < 64 by omega)]
    by_cases he : e.val = 0
    · rw [if_pos he, if_pos (show 64 + 1 * e.val = 64 by omega)]
    · rw [if_neg he, if_neg (show ¬ 64 + 1 * e.val = 64 by omega)]

variable (m : (ℓ : Loc nD τ sig) → Buf (Elt Ideal) ℓ)

theorem out11_eq (c : Dev nD) (t : Fin cfg0.N) (y : S1x2x4x80x128.Idx) :
    (outsAt0 m c t).2.2.2.2.2.2.1 y = values (rowsOf m c t) (iblk m c 3 t) 1088 (y 1).val (y 2).val (y 3).val (y 4).val := by
  have hz3 : (![0, 0, 0] : Fin 3 → Nat) = fun _ => 0 := funext fun a => by fin_cases a <;> rfl
  have hz2 : (![0, 0] : Fin 2 → Nat) = fun _ => 0 := funext fun a => by fin_cases a <;> rfl
  dsimp only [outsAt0]
  unfold out0_A_11
  rw [View.read_writes_eq_canon _ _ _ (fun y => cover0_A_11 (y := y) ..)]
  refine View.canon_apply_of_pieces (Val := Elt Ideal) (S := S1x2x4x80x128) (fun y => values (k0_pay1 (F := Ideal) (iblk m c 0 t) (iblk m c 1 t) (iblk m c 2 t)) (iblk m c 3 t) 1088 (y 1).val (y 2).val (y 3).val (y 4).val) _ ?_ y (cover0_A_11 ..)
  unfold kernelRun0_A
  dsimp only
  sl_unfold_words
  simp only [readAt_unread]
  rw [View.ld_unit_zero hz2, View.ld_unit_zero hz3, View.ld_unit_zero hz3]
  generalize k0_pay1 (F := Ideal) (iblk m c 0 t) (iblk m c 1 t) (iblk m c 2 t) = h
  generalize iblk m c 3 t = w
  simp only [List.forall_mem_cons]
  refine ⟨?_, ?_, ?_, ?_, ?_, ?_, ?_, ?_, ?_, ?_, ?_, ?_, ?_, ?_, ?_, ?_, fun _ h => absurd h List.not_mem_nil⟩
  · exact piece_ones h w 1088 1 3 _
  · exact piece_values h w 1088 1152 64 1 3 384 inb_S1024x3456_S1024x128_0_1152 (by decide) (by decide) (by decide) (by decide) (by decide) (by decide) (by decide)
  · exact piece_ones h w 1088 1 2 _
  · exact piece_values h w 1088 1152 64 1 2 256 inb_S1024x3456_S1024x128_0_1152 (by decide) (by decide) (by decide) (by decide) (by decide) (by decide) (by decide)
  · exact piece_ones h w 1088 1 1 _
  · exact piece_values h w 1088 1152 64 1 1 128 inb_S1024x3456_S1024x128_0_1152 (by decide) (by decide) (by decide) (by decide) (by decide) (by decide) (by decide)
  · exact piece_ones h w 1088 1 0 _
  · exact piece_values h w 1088 1152 64 1 0 0 inb_S1024x3456_S1024x128_0_1152 (by decide) (by decide) (by decide) (by decide) (by decide) (by decide) (by decide)
  · exact piece_ones h w 1088 0 3 _
  · exact piece_values h w 1088 1024 64 0 3 384 inb_S1024x3456_S1024x128_0_1024 (by decide) (by decide) (by decide) (by decide) (by decide) (by decide) (by decide)
  · exact piece_ones h w 1088 0 2 _
  · exact piece_values h w 1088 1024 64 0 2 256 inb_S1024x3456_S1024x128_0_1024 (by decide) (by decide) (by decide) (by decide) (by decide) (by decide) (by decide)
  · exact piece_ones h w 1088 0 1 _
  · exact piece_values h w 1088 1024 64 0 1 128 inb_S1024x3456_S1024x128_0_1024 (by decide) (by decide) (by decide) (by decide) (by decide) (by decide) (by decide)
  · exact piece_ones h w 1088 0 0 _
  · exact piece_values h w 1088 1024 64 0 0 0 inb_S1024x3456_S1024x128_0_1024 (by decide) (by decide) (by decide) (by decide) (by decide) (by decide) (by decide)

theorem out9_eq (c : Dev nD) (t : Fin cfg0.N) (y : S1x2x4x80x128.Idx) :
    (outsAt0 m c t).2.2.2.2.1 y = values (rowsOf m c t) (iblk m c 3 t) 1024 (y 1).val (y 2).val (y 3).val (y 4).val := by
  have hz3 : (![0, 0, 0] : Fin 3 → Nat) = fun _ => 0 := funext fun a => by fin_cases a <;> rfl
  have hz2 : (![0, 0] : Fin 2 → Nat) = fun _ => 0 := funext fun a => by fin_cases a <;> rfl
  dsimp only [outsAt0]
  unfold out0_A_9
  rw [View.read_writes_eq_canon _ _ _ (fun y => cover0_A_9 (y := y) ..)]
  refine View.canon_apply_of_pieces (Val := Elt Ideal) (S := S1x2x4x80x128) (fun y => values (k0_pay1 (F := Ideal) (iblk m c 0 t) (iblk m c 1 t) (iblk m c 2 t)) (iblk m c 3 t) 1024 (y 1).val (y 2).val (y 3).val (y 4).val) _ ?_ y (cover0_A_9 ..)
  unfold kernelRun0_A
  dsimp only
  sl_unfold_words
  simp only [readAt_unread]
  rw [View.ld_unit_zero hz2, View.ld_unit_zero hz3, View.ld_unit_zero hz3]
  generalize k0_pay1 (F := Ideal) (iblk m c 0 t) (iblk m c 1 t) (iblk m c 2 t) = h
  generalize iblk m c 3 t = w
  simp only [List.forall_mem_cons]
  refine ⟨?_, ?_, ?_, ?_, ?_, ?_, ?_, ?_, ?_, ?_, ?_, ?_, ?_, ?_, ?_, ?_, fun _ h => absurd h List.not_mem_nil⟩
  · exact piece_ones h w 1024 1 3 _
  · exact piece_values h w 1024 1152 0 1 3 384 inb_S1024x3456_S1024x128_0_1152 (by decide) (by decide) (by decide) (by decide) (by decide) (by decide) (by decide)
  · exact piece_ones h w 1024 1 2 _
  · exact piece_values h w 1024 1152 0 1 2 256 inb_S1024x3456_S1024x128_0_1152 (by decide) (by decide) (by decide) (by decide) (by decide) (by decide) (by decide)
  · exact piece_ones h w 1024 1 1 _
  · exact piece_values h w 1024 1152 0 1 1 128 inb_S1024x3456_S1024x128_0_1152 (by decide) (by decide) (by decide) (by decide) (by decide) (by decide) (by decide)
  · exact piece_ones h w 1024 1 0 _
  · exact piece_values h w 1024 1152 0 1 0 0 inb_S1024x3456_S1024x128_0_1152 (by decide) (by decide) (by decide) (by decide) (by decide) (by decide) (by decide)
  · exact piece_ones h w 1024 0 3 _
  · exact piece_values h w 1024 1024 0 0 3 384 inb_S1024x3456_S1024x128_0_1024 (by decide) (by decide) (by decide) (by decide) (by decide) (by decide) (by decide)
  · exact piece_ones h w 1024 0 2 _
  · exact piece_values h w 1024 1024 0 0 2 256 inb_S1024x3456_S1024x128_0_1024 (by decide) (by decide) (by decide) (by decide) (by decide) (by decide) (by decide)
  · exact piece_ones h w 1024 0 1 _
  · exact piece_values h w 1024 1024 0 0 1 128 inb_S1024x3456_S1024x128_0_1024 (by decide) (by decide) (by decide) (by decide) (by decide) (by decide) (by decide)
  · exact piece_ones h w 1024 0 0 _
  · exact piece_values h w 1024 1024 0 0 0 0 inb_S1024x3456_S1024x128_0_1024 (by decide) (by decide) (by decide) (by decide) (by decide) (by decide) (by decide)

/-- A value there is the reference's. -/
theorem values_eq (c : Dev nD) (t : Fin cfg0.N) (base n : Nat) (g : Fin 2) (j : Fin 4) (e : Fin 80) (f : Fin 128) (hn : n + 128 ≤ 3864) (hbase : base + 192 ≤ 3456)
    (htab : ∀ (g : Fin 2) (e : Fin 64), lit0 ⟨base + g.val * 128 + e.val, by omega⟩ = BitVec.ofNat 32 (n + g.val * 64 + e.val) ∧ lit1 ⟨base + g.val * 128 + e.val, by omega⟩ = 0#1)
    (hs : Cert.Reference4Ideal.S4x8192x3864.Slices ![0, 0, n] Cert.Reference4Ideal.S4x8192x128)
    (b : Fin 4) (i : Fin 64) (hb : b.val = t.val / 16) (hi : i.val = t.val % 16 * 4 + j.val) :
    values (rowsOf m c t) (iblk m c 3 t) base g.val j.val e.val f.val
      = Cert.Reference4Ideal.Gates.columns (Cert.Reference4Ideal.Gates.heads n hs (projectedOf m c)) (ix5 b g i e f) := by
  rw [Cert.Reference4Ideal.Gates.columns_apply]
  unfold values
  by_cases he : e.val < 64
  · rw [if_pos he, dif_pos he, Cert.Reference4Ideal.Gates.heads_apply n hs hn]
    refine value_eq m c t _ _ ⟨n + (g.val * 64 + e.val), by omega⟩ (by omega) (by omega) ?_ b _ hb ?_
    · have h := htab g ⟨e.val, he⟩
      exact ⟨h.1.trans (congrArg (BitVec.ofNat 32) (by show n + g.val * 64 + e.val = n + (g.val * 64 + e.val); omega)), h.2⟩
    · show i.val * 128 + f.val = t.val % 16 * 512 + (j.val * 128 + f.val); omega
  · rw [if_neg he, dif_neg he]
    by_cases h1 : e.val = 64
    · rw [if_pos h1, if_pos (by omega)]
    · rw [if_neg h1, if_neg (by omega)]

/-- The window's values after the last grid point. -/
theorem final11 (c : Dev nD) : (dats m 0 c).arrAt 11 cfg0.N = Cert.Reference4Ideal.Gates.windowValues (projectedOf m c) := by
  refine (dats m 0 c).arrAt_eq_of_covers 11 _ (by decide +kernel) fun t _ y => ?_
  rw [after0_11]
  revert y
  intro (y : S1x2x4x80x128.Idx)
  obtain ⟨y0, g, j, e, f, rfl⟩ : ∃ (y0 : Fin 1) (g : Fin 2) (j : Fin 4) (e : Fin 80) (f : Fin 128), y = ix5 y0 g j e f := ⟨y 0, y 1, y 2, y 3, y 4, eq_ix5 y⟩
  obtain rfl : y0 = 0 := Subsingleton.elim _ _
  have ht := lt t
  refine Eq.trans ?_ (congrArg (Cert.Reference4Ideal.Gates.windowValues (projectedOf m c)) (emb11 t g j e f ⟨t.val / 16, by omega⟩ ⟨t.val % 16 * 4 + j.val, by omega⟩ rfl rfl)).symm
  refine (out11_eq m c t (ix5 0 g j e f)).trans ?_
  exact values_eq m c t 1088 1664 g j e f (by decide) (by decide) (fun g e => (table_v g e).2) _ ⟨t.val / 16, by omega⟩ ⟨t.val % 16 * 4 + j.val, by omega⟩ rfl rfl

theorem V_selectedValues (c : Dev nD) : V m c main_v23_4 = broadcastInDim S4x2x72x80x128 ![] bcast_S_S4x2x72x80x128 (constant (F := Ideal) S_ .bf16 0x0000#16) := by
  unfold_abbrev_sides
  after_results
  rfl

/-- The selected branch's values after the last grid point: the blocks cover the first 64 tiles, and zeros were there before. -/
theorem final9 (c : Dev nD) : (dats m 0 c).arrAt 9 cfg0.N = Cert.Reference4Ideal.Gates.selectedValues (projectedOf m c) := by
  refine (dats m 0 c).arrAt_eq_of_coversWhere_of_agree 9 _ (fun β => β (2 : Fin 5) < 16) (by decide +kernel) (fun t _ y => ?_) (fun y hy => ?_)
  · rw [after0_9]
    revert y
    intro (y : S1x2x4x80x128.Idx)
    obtain ⟨y0, g, j, e, f, rfl⟩ : ∃ (y0 : Fin 1) (g : Fin 2) (j : Fin 4) (e : Fin 80) (f : Fin 128), y = ix5 y0 g j e f := ⟨y 0, y 1, y 2, y 3, y 4, eq_ix5 y⟩
    obtain rfl : y0 = 0 := Subsingleton.elim _ _
    have ht := lt t
    refine Eq.trans ?_ (congrArg (Cert.Reference4Ideal.Gates.selectedValues (projectedOf m c)) (emb9 t g j e f ⟨t.val / 16, by omega⟩ ⟨t.val % 16 * 4 + j.val, by omega⟩ rfl rfl)).symm
    refine (out9_eq m c t (ix5 0 g j e f)).trans ?_
    refine Eq.trans ?_ (Cert.Reference4Ideal.Gates.selectedValues_apply _ _ _ _ _ _).symm
    rw [dif_pos (show t.val % 16 * 4 + j.val < 64 by omega)]
    exact values_eq m c t 1024 1408 g j e f (by decide) (by decide) (fun g e => (table_v g e).1) _ ⟨t.val / 16, by omega⟩ ⟨t.val % 16 * 4 + j.val, by omega⟩ rfl rfl
  · revert y
    intro (y : S4x2x72x80x128.Idx) hy
    obtain ⟨b, g, i, e, f, rfl⟩ : ∃ (b : Fin 4) (g : Fin 2) (i : Fin 72) (e : Fin 80) (f : Fin 128), y = ix5 b g i e f := ⟨y 0, y 1, y 2, y 3, y 4, eq_ix5 y⟩
    have hi : ¬ i.val / 4 < 16 := hy
    refine Eq.trans ?_ (Cert.Reference4Ideal.Gates.selectedValues_apply (projectedOf m c) b g i e f).symm
    rw [dif_neg (show ¬ i.val < 64 by omega)]
    refine (congrFun (V_selectedValues m c) (ix5 b g i e f)).trans ?_
    pointwise

end Cert.Kernel4Ideal.Gates

end
-- ==== Proof.lean ====
/- The claims, five for each of seven calls of the layer (the experts, the merge, the scan's input projection, the
   projections of attention and of the merge's gates, the compression of keys and values, the positions of the tokens
   among their experts' rows, the conditioning): the kernel,
   its reading at the reals and the reference each end with their counters at zero and their arguments as they were; the
   reading differs from the kernel in nothing, or only in how rows are packed; and the kernel's results are the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Moe.Tables
public import proofs.«01_k».proof.Proof.Moe.Value
public import proofs.«01_k».proof.Proof.Mix.Value
public import proofs.«01_k».proof.Proof.Proj.Value
public import proofs.«01_k».proof.Proof.Compress.Value
public import proofs.«01_k».proof.Proof.Rank.Value
public import proofs.«01_k».proof.Proof.Ada.Value
public import proofs.«01_k».proof.Proof.Gates.Heads
public import proofs.«01_k».proof.Proof.Gates.Queries
public import proofs.«01_k».proof.Proof.Gates.Tiles
public import Idealize.ShloMosaic.Adequacy
public import Idealize.ShloMosaic.Init
public import Idealize.ShloMosaic.Lib.Bf16Pair
public import Idealize.ShloMosaic.Lib.Claim
public import Idealize.ShloMosaic.Lib.Quiescent

@[expose] public section

noncomputable section

namespace Cert.Proof

open Idealize.ShloMosaic Idealize.ShloMosaic.TcCoe Idealize.SL.Sem

/-- The kernel ends, its counters at zero and its arguments as they were. -/
theorem kernel_frame : Cert.quiescent_Kernel (hKernel := Cert.Kernel.Gen.facts) :=
  fun m ρ _ => Cert.Kernel.Moe.frame m ρ (Cert.Kernel.Moe.ok m) (Cert.Kernel.Moe.bits01 m)

/-- So does the kernel at the reals. -/
theorem kernelIdeal_frame : Cert.quiescent_KernelIdeal (hKernelIdeal := Cert.KernelIdeal.Gen.facts) :=
  fun m ρ _ => Cert.KernelIdeal.Moe.frame m ρ (Cert.KernelIdeal.Moe.ok m) (Cert.KernelIdeal.Moe.bits01 m)

/-- So does the reference: it has no semaphores. -/
theorem referenceIdeal_frame : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩) (Cert.ReferenceIdeal.Value.run (F := Ideal) m ρ)

/-- The two replaced steps: one word packing two rows, and a vector of words packing rows. -/
theorem rows_preserved : Cert.preserves_Kernel_KernelIdeal :=
  ⟨IdealRules.bf16_pair.statement Cert.KernelIdeal.S2048x512 Cert.KernelIdeal.S1024x512,
    IdealRules.bf16_pack.statement Cert.KernelIdeal.S1024x512⟩

/-- From the same arguments the two programs end with the same result. -/
theorem same_result : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Moe.resultOf m c, ?_, ?_⟩
  · refine (θ_run Cert.KernelIdeal.defs _ _).mono (fun r h c => ⟨h.1 c, h.2 c⟩)
      (θ_run_and (Cert.KernelIdeal.Moe.run m g) (Cert.KernelIdeal.Moe.unchanged m g (Cert.KernelIdeal.Moe.ok m) (Cert.KernelIdeal.Moe.bits01 m)))
  · refine (θ_run Cert.ReferenceIdeal.defs _ _).mono (fun r h c => ⟨(h c).1.trans ?_, (h c).2⟩) (Cert.ReferenceIdeal.Value.run (F := Ideal) m' g')
    obtain ⟨h0, h1, h2, h3, h4, h5, h6, h7⟩ := hargs c
    refine (Cert.ReferenceIdeal.Moe.res_eq m' c).trans ?_
    rw [h0, h1, h2, h3, h4, h5, h6, h7]

/-! The merge. -/

theorem kernel2_frame : Cert.quiescent_Kernel2 (hKernel2 := Cert.Kernel2.Gen.facts) := fun m ρ _ => Cert.Kernel2.Gen.frame m ρ

theorem kernel2Ideal_frame : Cert.quiescent_Kernel2Ideal (hKernel2Ideal := Cert.Kernel2Ideal.Gen.facts) := fun m ρ _ => Cert.Kernel2Ideal.Gen.frame m ρ

theorem reference2Ideal_frame : Cert.quiescent_Reference2Ideal (hReference2Ideal := Cert.Reference2Ideal.Gen.facts) :=
  fun m ρ _ => (θ_run Cert.Reference2Ideal.defs _ _).mono
    (fun r h => ⟨fun c => (h c).2.2, sem_eq_zero_of_no_sems (by decide) r.2⟩) (Cert.Reference2Ideal.Value.run (F := Ideal) m ρ)

/-- The two programs end with the same normalized rows and the same modulated rows. -/
theorem same_rows : Cert.algebraic_Kernel2Ideal_Reference2Ideal (hKernel2Ideal := Cert.Kernel2Ideal.Gen.facts)
    (hReference2Ideal := Cert.Reference2Ideal.Gen.facts) := by
  intro m g m' g' _ hargs
  refine ⟨fun c => Cert.Kernel2Ideal.Mix.firstOf m c, fun c => Cert.Kernel2Ideal.Mix.secondOf m c, ?_, ?_⟩
  · exact (θ_run Cert.Kernel2Ideal.defs _ _).mono (fun r h c => ⟨(h c).1.trans (Cert.Kernel2Ideal.Mix.final_first m c),
      (h c).2.1.trans (Cert.Kernel2Ideal.Mix.final_second m c), (h c).2.2.2⟩) (Cert.Kernel2Ideal.Value.run_blocks (F := Ideal) m g)
  · refine (θ_run Cert.Reference2Ideal.defs _ _).mono (fun r h c => ⟨(h c).1.trans ?_, (h c).2.1.trans ?_, (h c).2.2⟩) (Cert.Reference2Ideal.Value.run (F := Ideal) m' g')
    · obtain ⟨h0, h1, h2, h3, h4, h5, h6, h7, h8, h9, h10, h11, h12⟩ := hargs c
      refine (Cert.Reference2Ideal.Mix.first_eq m' c).trans ?_
      rw [h0, h1, h2, h3, h4, h5, h6, h7, h8, h9, h10]
    · obtain ⟨h0, h1, h2, h3, h4, h5, h6, h7, h8, h9, h10, h11, h12⟩ := hargs c
      refine (Cert.Reference2Ideal.Mix.second_eq m' c).trans ?_
      rw [h0, h1, h2, h3, h4, h5, h6, h7, h8, h9, h10]

/-! The scan's input projection. -/

theorem kernel3_frame : Cert.quiescent_Kernel3 (hKernel3 := Cert.Kernel3.Gen.facts) := fun m ρ _ => Cert.Kernel3.Gen.frame m ρ

theorem kernel3Ideal_frame : Cert.quiescent_Kernel3Ideal (hKernel3Ideal := Cert.Kernel3Ideal.Gen.facts) := fun m ρ _ => Cert.Kernel3Ideal.Gen.frame m ρ

theorem reference3Ideal_frame : Cert.quiescent_Reference3Ideal (hReference3Ideal := Cert.Reference3Ideal.Gen.facts) :=
  fun m ρ _ => (θ_run Cert.Reference3Ideal.defs _ _).mono
    (fun r h => ⟨fun c => (h c).2, sem_eq_zero_of_no_sems (by decide) r.2⟩) (Cert.Reference3Ideal.Value.run (F := Ideal) m ρ)

/-- The two programs end with the same projection. -/
theorem same_projection : Cert.algebraic_Kernel3Ideal_Reference3Ideal (hKernel3Ideal := Cert.Kernel3Ideal.Gen.facts)
    (hReference3Ideal := Cert.Reference3Ideal.Gen.facts) := by
  intro m g m' g' _ hargs
  refine ⟨fun c => Cert.Kernel3Ideal.Proj.resultOf m c, ?_, ?_⟩
  · exact (θ_run Cert.Kernel3Ideal.defs _ _).mono (fun r h c => ⟨(h c).1.trans (Cert.Kernel3Ideal.Proj.final m c), (h c).2⟩)
      (Cert.Kernel3Ideal.Value.run_blocks (F := Ideal) m g)
  · refine (θ_run Cert.Reference3Ideal.defs _ _).mono (fun r h c => ⟨(h c).1.trans ?_, (h c).2⟩) (Cert.Reference3Ideal.Value.run (F := Ideal) m' g')
    obtain ⟨h0, h1, h2⟩ := hargs c
    rw [h0, h1, h2]
    rfl

/-! The projections of attention and of the merge's gates. -/

theorem kernel4_frame : Cert.quiescent_Kernel4 (hKernel4 := Cert.Kernel4.Gen.facts) := fun m ρ _ => Cert.Kernel4.Gen.frame m ρ

theorem kernel4Ideal_frame : Cert.quiescent_Kernel4Ideal (hKernel4Ideal := Cert.Kernel4Ideal.Gen.facts) := fun m ρ _ => Cert.Kernel4Ideal.Gen.frame m ρ

theorem reference4Ideal_frame : Cert.quiescent_Reference4Ideal (hReference4Ideal := Cert.Reference4Ideal.Gen.facts) :=
  fun m ρ _ => (θ_run Cert.Reference4Ideal.defs _ _).mono
    (fun r h => ⟨fun c => (h c).2.2.2.2.2.2.2.2, sem_eq_zero_of_no_sems (by decide) r.2⟩) (Cert.Reference4Ideal.Value.run (F := Ideal) m ρ)

/-- The two programs end with the same eight arrays. -/
theorem same_gates : Cert.algebraic_Kernel4Ideal_Reference4Ideal (hKernel4Ideal := Cert.Kernel4Ideal.Gen.facts)
    (hReference4Ideal := Cert.Reference4Ideal.Gen.facts) := by
  intro m g m' g' _ hargs
  refine ⟨fun c => Cert.Reference4Ideal.Gates.queries (Cert.Kernel4Ideal.Gates.projectedOf m c) (m ((c.tc : Thread Cert.Kernel4Ideal.nD Cert.Kernel4Ideal.τ).loc Cert.Kernel4Ideal.main_arg3)),
    fun c => Cert.Reference4Ideal.Gates.branches (Cert.Kernel4Ideal.Gates.projectedOf m c),
    fun c => Cert.Reference4Ideal.Gates.compressed (Cert.Kernel4Ideal.Gates.projectedOf m c),
    fun c => Cert.Reference4Ideal.Gates.selected (Cert.Kernel4Ideal.Gates.projectedOf m c),
    fun c => Cert.Reference4Ideal.Gates.selectedValues (Cert.Kernel4Ideal.Gates.projectedOf m c),
    fun c => Cert.Reference4Ideal.Gates.window (Cert.Kernel4Ideal.Gates.projectedOf m c),
    fun c => Cert.Reference4Ideal.Gates.windowValues (Cert.Kernel4Ideal.Gates.projectedOf m c),
    fun c => Cert.Reference4Ideal.Gates.gates (Cert.Kernel4Ideal.Gates.projectedOf m c), ?_, ?_⟩
  · exact (θ_run Cert.Kernel4Ideal.defs _ _).mono (fun r h c =>
      ⟨(h c).1.trans (Cert.Kernel4Ideal.Gates.final5 m c),
        (h c).2.1.trans (Cert.Kernel4Ideal.Gates.final6 m c),
        (h c).2.2.1.trans (Cert.Kernel4Ideal.Gates.final7 m c),
        (h c).2.2.2.1.trans (Cert.Kernel4Ideal.Gates.final8 m c),
        (h c).2.2.2.2.1.trans (Cert.Kernel4Ideal.Gates.final9 m c),
        (h c).2.2.2.2.2.1.trans (Cert.Kernel4Ideal.Gates.final10 m c),
        (h c).2.2.2.2.2.2.1.trans (Cert.Kernel4Ideal.Gates.final11 m c),
        (h c).2.2.2.2.2.2.2.1.trans (Cert.Kernel4Ideal.Gates.final m c), (h c).2.2.2.2.2.2.2.2⟩)
      (Cert.Kernel4Ideal.Value.run_blocks (F := Ideal) m g)
  · refine (θ_run Cert.Reference4Ideal.defs _ _).mono (fun r h c =>
      ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2⟩)
      (Cert.Reference4Ideal.Value.run (F := Ideal) m' g')
    all_goals
      obtain ⟨h0, h1, h2, h3⟩ := hargs c
      first | rw [h0, h1, h2, h3] | rw [h0, h1, h2]
      rfl

/-! The compression. -/

theorem kernel5_frame : Cert.quiescent_Kernel5 (hKernel5 := Cert.Kernel5.Gen.facts) := fun m ρ _ => Cert.Kernel5.Gen.frame m ρ

theorem kernel5Ideal_frame : Cert.quiescent_Kernel5Ideal (hKernel5Ideal := Cert.Kernel5Ideal.Gen.facts) := fun m ρ _ => Cert.Kernel5Ideal.Gen.frame m ρ

theorem reference5Ideal_frame : Cert.quiescent_Reference5Ideal (hReference5Ideal := Cert.Reference5Ideal.Gen.facts) :=
  fun m ρ _ => (θ_run Cert.Reference5Ideal.defs _ _).mono
    (fun r h => ⟨fun c => (h c).2, sem_eq_zero_of_no_sems (by decide) r.2⟩) (Cert.Reference5Ideal.Value.run (F := Ideal) m ρ)

/-- The two programs end with the same compressed keys and values. -/
theorem same_compressed : Cert.algebraic_Kernel5Ideal_Reference5Ideal (hKernel5Ideal := Cert.Kernel5Ideal.Gen.facts)
    (hReference5Ideal := Cert.Reference5Ideal.Gen.facts) := by
  intro m g m' g' _ hargs
  refine ⟨fun c => Cert.Kernel5Ideal.Compress.resultOf m c, ?_, ?_⟩
  · exact (θ_run Cert.Kernel5Ideal.defs _ _).mono (fun r h c => ⟨(h c).1.trans (Cert.Kernel5Ideal.Compress.final m c), (h c).2⟩)
      (Cert.Kernel5Ideal.Value.run_blocks (F := Ideal) m g)
  · refine (θ_run Cert.Reference5Ideal.defs _ _).mono (fun r h c => ⟨(h c).1.trans ?_, (h c).2⟩) (Cert.Reference5Ideal.Value.run (F := Ideal) m' g')
    obtain ⟨h0, h1, h2, h3, h4, h5, h6⟩ := hargs c
    refine (Cert.Reference5Ideal.Compress.res_eq m' c).trans ?_
    rw [h0, h1, h2, h3, h4, h5, h6]

/-! The positions. -/

theorem kernel6_frame : Cert.quiescent_Kernel6 (hKernel6 := Cert.Kernel6.Gen.facts) := fun m ρ _ => Cert.Kernel6.Gen.frame m ρ

theorem kernel6Ideal_frame : Cert.quiescent_Kernel6Ideal (hKernel6Ideal := Cert.Kernel6Ideal.Gen.facts) := fun m ρ _ => Cert.Kernel6Ideal.Gen.frame m ρ

theorem reference6Ideal_frame : Cert.quiescent_Reference6Ideal (hReference6Ideal := Cert.Reference6Ideal.Gen.facts) :=
  fun m ρ _ => (θ_run Cert.Reference6Ideal.defs _ _).mono
    (fun r h => ⟨fun c => (h c).2.2, sem_eq_zero_of_no_sems (by decide) r.2⟩) (Cert.Reference6Ideal.Value.run (F := Ideal) m ρ)

/-- The two programs end with the same positions and the same counts. -/
theorem same_positions : Cert.algebraic_Kernel6Ideal_Reference6Ideal (hKernel6Ideal := Cert.Kernel6Ideal.Gen.facts)
    (hReference6Ideal := Cert.Reference6Ideal.Gen.facts) := by
  intro m g m' g' _ hargs
  refine ⟨fun c => Cert.Reference6Ideal.Rank.before (F := Ideal) (m ((c.tc : Thread Cert.Kernel6Ideal.nD Cert.Kernel6Ideal.τ).loc Cert.Kernel6Ideal.main_arg0)),
    fun c => Cert.Reference6Ideal.Rank.total (F := Ideal) (m ((c.tc : Thread Cert.Kernel6Ideal.nD Cert.Kernel6Ideal.τ).loc Cert.Kernel6Ideal.main_arg0)), ?_, ?_⟩
  · exact (θ_run Cert.Kernel6Ideal.defs _ _).mono (fun r h c => ⟨(h c).1.trans (Cert.Kernel6Ideal.Rank.positions_eq m c),
      (h c).2.1.trans (Cert.Kernel6Ideal.Rank.totals_eq m c), (h c).2.2⟩) (Cert.Kernel6Ideal.Value.run (F := Ideal) m g)
  · refine (θ_run Cert.Reference6Ideal.defs _ _).mono (fun r h c => ⟨(h c).1.trans ?_, (h c).2.1.trans ?_, (h c).2.2⟩) (Cert.Reference6Ideal.Value.run (F := Ideal) m' g')
    all_goals
      rw [hargs c]
      rfl

/-! The conditioning. -/

theorem kernel7_frame : Cert.quiescent_Kernel7 (hKernel7 := Cert.Kernel7.Gen.facts) := fun m ρ _ => Cert.Kernel7.Gen.frame m ρ

theorem kernel7Ideal_frame : Cert.quiescent_Kernel7Ideal (hKernel7Ideal := Cert.Kernel7Ideal.Gen.facts) := fun m ρ _ => Cert.Kernel7Ideal.Gen.frame m ρ

theorem reference7Ideal_frame : Cert.quiescent_Reference7Ideal (hReference7Ideal := Cert.Reference7Ideal.Gen.facts) :=
  fun m ρ _ => (θ_run Cert.Reference7Ideal.defs _ _).mono
    (fun r h => ⟨fun c => (h c).2, sem_eq_zero_of_no_sems (by decide) r.2⟩) (Cert.Reference7Ideal.Value.run (F := Ideal) m ρ)

/-- From finite conditioning and weights the two programs end with the same result. -/
theorem same_conditioning : Cert.algebraic_Kernel7Ideal_Reference7Ideal_pre_finite (hKernel7Ideal := Cert.Kernel7Ideal.Gen.facts)
    (hReference7Ideal := Cert.Reference7Ideal.Gen.facts) (hPre_finite := Cert.Ada.pre_facts) := by
  intro m g m' g' hm hargs
  refine ⟨fun c => Cert.Kernel7Ideal.Ada.resultOf m c, ?_, ?_⟩
  · exact (θ_run Cert.Kernel7Ideal.defs _ _).mono (fun r h c => ⟨(h c).1.trans (Cert.Kernel7Ideal.Ada.final m hm c), (h c).2⟩)
      (Cert.Kernel7Ideal.Value.run_blocks (F := Ideal) m g)
  · refine (θ_run Cert.Reference7Ideal.defs _ _).mono (fun r h c => ⟨(h c).1.trans ?_, (h c).2⟩) (Cert.Reference7Ideal.Value.run (F := Ideal) m' g')
    obtain ⟨h0, h1, h2⟩ := hargs c
    rw [h0, h1, h2]
    rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.Ada.pre_facts,
  kernel_frame, kernelIdeal_frame, referenceIdeal_frame, kernel2_frame, kernel2Ideal_frame, reference2Ideal_frame,
  kernel3_frame, kernel3Ideal_frame, reference3Ideal_frame,
  kernel4_frame, kernel4Ideal_frame, reference4Ideal_frame,
  kernel5_frame, kernel5Ideal_frame, reference5Ideal_frame, kernel6_frame, kernel6Ideal_frame, reference6Ideal_frame,
  kernel7_frame, kernel7Ideal_frame, fun m ρ _ => kernel7Ideal_frame m ρ trivial,
  reference7Ideal_frame, fun m ρ _ => reference7Ideal_frame m ρ trivial, rows_preserved, same_result, trivial, same_rows, trivial, same_projection, trivial, same_gates, trivial, same_compressed,
  trivial, same_positions, trivial, same_conditioning⟩

end Cert.Proof

end
